-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Mlp0 (m : (ℓ : Loc Cert.Mlp0.nD Cert.Mlp0.τ Cert.Mlp0.sig) → Buf (Elt Bits) ℓ) : Prop :=
  True

def Pre_Mlp0Ideal (m : (ℓ : Loc Cert.Mlp0Ideal.nD Cert.Mlp0Ideal.τ Cert.Mlp0Ideal.sig) → Buf (Elt Ideal) ℓ) : Prop :=
  True

def Pre_MlpRef0Ideal (m : (ℓ : Loc Cert.MlpRef0Ideal.nD Cert.MlpRef0Ideal.τ Cert.MlpRef0Ideal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_MlpRef1Ideal (m : (ℓ : Loc Cert.MlpRef1Ideal.nD Cert.MlpRef1Ideal.τ Cert.MlpRef1Ideal.sig) → Buf (Elt Ideal) ℓ) : Prop :=
  True

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_MlpRef2Ideal (m : (ℓ : Loc Cert.MlpRef2Ideal.nD Cert.MlpRef2Ideal.τ Cert.MlpRef2Ideal.sig) → Buf (Elt Ideal) ℓ) : Prop :=
  True

def Pre_InProj0 (m : (ℓ : Loc Cert.InProj0.nD Cert.InProj0.τ Cert.InProj0.sig) → Buf (Elt Bits) ℓ) : Prop :=
  True

def Pre_InProj0Ideal (m : (ℓ : Loc Cert.InProj0Ideal.nD Cert.InProj0Ideal.τ Cert.InProj0Ideal.sig) → Buf (Elt Ideal) ℓ) : Prop :=
  True

def Pre_InProjRef0Ideal (m : (ℓ : Loc Cert.InProjRef0Ideal.nD Cert.InProjRef0Ideal.τ Cert.InProjRef0Ideal.sig) → Buf (Elt Ideal) ℓ) : Prop :=
  True

def Pre_InProj1 (m : (ℓ : Loc Cert.InProj1.nD Cert.InProj1.τ Cert.InProj1.sig) → Buf (Elt Bits) ℓ) : Prop :=
  True

def Pre_InProj1Ideal (m : (ℓ : Loc Cert.InProj1Ideal.nD Cert.InProj1Ideal.τ Cert.InProj1Ideal.sig) → Buf (Elt Ideal) ℓ) : Prop :=
  True

def Pre_InProjRef1Ideal (m : (ℓ : Loc Cert.InProjRef1Ideal.nD Cert.InProjRef1Ideal.τ Cert.InProjRef1Ideal.sig) → Buf (Elt Ideal) ℓ) : Prop :=
  True

def Pre_InProj2 (m : (ℓ : Loc Cert.InProj2.nD Cert.InProj2.τ Cert.InProj2.sig) → Buf (Elt Bits) ℓ) : Prop :=
  True

def Pre_InProj2Ideal (m : (ℓ : Loc Cert.InProj2Ideal.nD Cert.InProj2Ideal.τ Cert.InProj2Ideal.sig) → Buf (Elt Ideal) ℓ) : Prop :=
  True

def Pre_InProjRef2Ideal (m : (ℓ : Loc Cert.InProjRef2Ideal.nD Cert.InProjRef2Ideal.τ Cert.InProjRef2Ideal.sig) → Buf (Elt Ideal) ℓ) : Prop :=
  True

def Pre_MlpCtx0 (m : (ℓ : Loc Cert.MlpCtx0.nD Cert.MlpCtx0.τ Cert.MlpCtx0.sig) → Buf (Elt Bits) ℓ) : Prop :=
  True

def Pre_MlpCtx0Ideal (m : (ℓ : Loc Cert.MlpCtx0Ideal.nD Cert.MlpCtx0Ideal.τ Cert.MlpCtx0Ideal.sig) → Buf (Elt Ideal) ℓ) : Prop :=
  True

def Pre_MlpCtxRef0Ideal (m : (ℓ : Loc Cert.MlpCtxRef0Ideal.nD Cert.MlpCtxRef0Ideal.τ Cert.MlpCtxRef0Ideal.sig) → Buf (Elt Ideal) ℓ) : Prop :=
  True

def Pre_MlpCtx1 (m : (ℓ : Loc Cert.MlpCtx1.nD Cert.MlpCtx1.τ Cert.MlpCtx1.sig) → Buf (Elt Bits) ℓ) : Prop :=
  True

def Pre_MlpCtx1Ideal (m : (ℓ : Loc Cert.MlpCtx1Ideal.nD Cert.MlpCtx1Ideal.τ Cert.MlpCtx1Ideal.sig) → Buf (Elt Ideal) ℓ) : Prop :=
  True

def Pre_MlpCtxRef1Ideal (m : (ℓ : Loc Cert.MlpCtxRef1Ideal.nD Cert.MlpCtxRef1Ideal.τ Cert.MlpCtxRef1Ideal.sig) → Buf (Elt Ideal) ℓ) : Prop :=
  True

def Pre_MlpCtx2 (m : (ℓ : Loc Cert.MlpCtx2.nD Cert.MlpCtx2.τ Cert.MlpCtx2.sig) → Buf (Elt Bits) ℓ) : Prop :=
  True

def Pre_MlpCtx2Ideal (m : (ℓ : Loc Cert.MlpCtx2Ideal.nD Cert.MlpCtx2Ideal.τ Cert.MlpCtx2Ideal.sig) → Buf (Elt Ideal) ℓ) : Prop :=
  True

def Pre_MlpCtxRef2Ideal (m : (ℓ : Loc Cert.MlpCtxRef2Ideal.nD Cert.MlpCtxRef2Ideal.τ Cert.MlpCtxRef2Ideal.sig) → Buf (Elt Ideal) ℓ) : Prop :=
  True

def Pre_InProjCtx0 (m : (ℓ : Loc Cert.InProjCtx0.nD Cert.InProjCtx0.τ Cert.InProjCtx0.sig) → Buf (Elt Bits) ℓ) : Prop :=
  True

def Pre_InProjCtx0Ideal (m : (ℓ : Loc Cert.InProjCtx0Ideal.nD Cert.InProjCtx0Ideal.τ Cert.InProjCtx0Ideal.sig) → Buf (Elt Ideal) ℓ) : Prop :=
  True

def Pre_InProjCtxRef0Ideal (m : (ℓ : Loc Cert.InProjCtxRef0Ideal.nD Cert.InProjCtxRef0Ideal.τ Cert.InProjCtxRef0Ideal.sig) → Buf (Elt Ideal) ℓ) : Prop :=
  True

def Pre_InProjCtx1 (m : (ℓ : Loc Cert.InProjCtx1.nD Cert.InProjCtx1.τ Cert.InProjCtx1.sig) → Buf (Elt Bits) ℓ) : Prop :=
  True

def Pre_InProjCtx1Ideal (m : (ℓ : Loc Cert.InProjCtx1Ideal.nD Cert.InProjCtx1Ideal.τ Cert.InProjCtx1Ideal.sig) → Buf (Elt Ideal) ℓ) : Prop :=
  True

def Pre_InProjCtxRef1Ideal (m : (ℓ : Loc Cert.InProjCtxRef1Ideal.nD Cert.InProjCtxRef1Ideal.τ Cert.InProjCtxRef1Ideal.sig) → Buf (Elt Ideal) ℓ) : Prop :=
  True

def Pre_InProjCtx2 (m : (ℓ : Loc Cert.InProjCtx2.nD Cert.InProjCtx2.τ Cert.InProjCtx2.sig) → Buf (Elt Bits) ℓ) : Prop :=
  True

def Pre_InProjCtx2Ideal (m : (ℓ : Loc Cert.InProjCtx2Ideal.nD Cert.InProjCtx2Ideal.τ Cert.InProjCtx2Ideal.sig) → Buf (Elt Ideal) ℓ) : Prop :=
  True

def Pre_InProjCtxRef2Ideal (m : (ℓ : Loc Cert.InProjCtxRef2Ideal.nD Cert.InProjCtxRef2Ideal.τ Cert.InProjCtxRef2Ideal.sig) → Buf (Elt Ideal) ℓ) : Prop :=
  True

def Pre_InProjCtx3 (m : (ℓ : Loc Cert.InProjCtx3.nD Cert.InProjCtx3.τ Cert.InProjCtx3.sig) → Buf (Elt Bits) ℓ) : Prop :=
  True

def Pre_InProjCtx3Ideal (m : (ℓ : Loc Cert.InProjCtx3Ideal.nD Cert.InProjCtx3Ideal.τ Cert.InProjCtx3Ideal.sig) → Buf (Elt Ideal) ℓ) : Prop :=
  True

def Pre_InProjCtxRef3Ideal (m : (ℓ : Loc Cert.InProjCtxRef3Ideal.nD Cert.InProjCtxRef3Ideal.τ Cert.InProjCtxRef3Ideal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Pos (m : (ℓ : Loc Cert.Pos.nD Cert.Pos.τ Cert.Pos.sig) → Buf (Elt Bits) ℓ) : Prop :=
  True

def Pre_PosIdeal (m : (ℓ : Loc Cert.PosIdeal.nD Cert.PosIdeal.τ Cert.PosIdeal.sig) → Buf (Elt Ideal) ℓ) : Prop :=
  True

def Pre_PosRefIdeal (m : (ℓ : Loc Cert.PosRefIdeal.nD Cert.PosRefIdeal.τ Cert.PosRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8))
      ∧ r.2.sem = fun _ => 0)

def quiescent_Mlp0 [hMlp0 : Cert.Mlp0.Facts] : Prop :=
  ∀ (m : (ℓ : Loc Cert.Mlp0.nD Cert.Mlp0.τ Cert.Mlp0.sig) → Buf (Elt Bits) ℓ) (g : Dev Cert.Mlp0.nD → PrngReg), Pre_Mlp0 m →
    θ_run (Cert.Mlp0.defs (F := Bits)) (onTc (τ := Cert.Mlp0.τ) (Cert.Mlp0.main (F := Bits))) ⟨m, fun _ => 0, g⟩ (fun r => (∀ c : Dev Cert.Mlp0.nD,
      r.2.mem ((c.tc : Thread Cert.Mlp0.nD Cert.Mlp0.τ).loc Cert.Mlp0.main_arg0) = m ((c.tc : Thread Cert.Mlp0.nD Cert.Mlp0.τ).loc Cert.Mlp0.main_arg0)
      ∧ r.2.mem ((c.tc : Thread Cert.Mlp0.nD Cert.Mlp0.τ).loc Cert.Mlp0.main_arg1) = m ((c.tc : Thread Cert.Mlp0.nD Cert.Mlp0.τ).loc Cert.Mlp0.main_arg1)
      ∧ r.2.mem ((c.tc : Thread Cert.Mlp0.nD Cert.Mlp0.τ).loc Cert.Mlp0.main_arg2) = m ((c.tc : Thread Cert.Mlp0.nD Cert.Mlp0.τ).loc Cert.Mlp0.main_arg2)
      ∧ r.2.mem ((c.tc : Thread Cert.Mlp0.nD Cert.Mlp0.τ).loc Cert.Mlp0.main_arg3) = m ((c.tc : Thread Cert.Mlp0.nD Cert.Mlp0.τ).loc Cert.Mlp0.main_arg3)
      ∧ r.2.mem ((c.tc : Thread Cert.Mlp0.nD Cert.Mlp0.τ).loc Cert.Mlp0.main_arg4) = m ((c.tc : Thread Cert.Mlp0.nD Cert.Mlp0.τ).loc Cert.Mlp0.main_arg4)
      ∧ r.2.mem ((c.tc : Thread Cert.Mlp0.nD Cert.Mlp0.τ).loc Cert.Mlp0.main_arg5) = m ((c.tc : Thread Cert.Mlp0.nD Cert.Mlp0.τ).loc Cert.Mlp0.main_arg5))
      ∧ r.2.sem = fun _ => 0)

def quiescent_Mlp0Ideal [hMlp0Ideal : Cert.Mlp0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg), Pre_Mlp0Ideal m →
    θ_run (Cert.Mlp0Ideal.defs (F := Ideal)) (onTc (τ := Cert.Mlp0Ideal.τ) (Cert.Mlp0Ideal.main (F := Ideal))) ⟨m, fun _ => 0, g⟩ (fun r => (∀ c : Dev Cert.Mlp0Ideal.nD,
      r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
      ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
      ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
      ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
      ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
      ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5))
      ∧ r.2.sem = fun _ => 0)

def quiescent_MlpRef0Ideal [hMlpRef0Ideal : Cert.MlpRef0Ideal.Facts] : Prop :=
  ∀ (m : (ℓ : Loc Cert.MlpRef0Ideal.nD Cert.MlpRef0Ideal.τ Cert.MlpRef0Ideal.sig) → Buf (Elt Ideal) ℓ) (g : Dev Cert.MlpRef0Ideal.nD → PrngReg), Pre_MlpRef0Ideal m →
    θ_run (Cert.MlpRef0Ideal.defs (F := Ideal)) (onTc (τ := Cert.MlpRef0Ideal.τ) (Cert.MlpRef0Ideal.main (F := Ideal))) ⟨m, fun _ => 0, g⟩ (fun r => (∀ c : Dev Cert.MlpRef0Ideal.nD,
      r.2.mem ((c.tc : Thread Cert.MlpRef0Ideal.nD Cert.MlpRef0Ideal.τ).loc Cert.MlpRef0Ideal.main_arg0) = m ((c.tc : Thread Cert.MlpRef0Ideal.nD Cert.MlpRef0Ideal.τ).loc Cert.MlpRef0Ideal.main_arg0)
      ∧ r.2.mem ((c.tc : Thread Cert.MlpRef0Ideal.nD Cert.MlpRef0Ideal.τ).loc Cert.MlpRef0Ideal.main_arg1) = m ((c.tc : Thread Cert.MlpRef0Ideal.nD Cert.MlpRef0Ideal.τ).loc Cert.MlpRef0Ideal.main_arg1)
      ∧ r.2.mem ((c.tc : Thread Cert.MlpRef0Ideal.nD Cert.MlpRef0Ideal.τ).loc Cert.MlpRef0Ideal.main_arg2) = m ((c.tc : Thread Cert.MlpRef0Ideal.nD Cert.MlpRef0Ideal.τ).loc Cert.MlpRef0Ideal.main_arg2)
      ∧ r.2.mem ((c.tc : Thread Cert.MlpRef0Ideal.nD Cert.MlpRef0Ideal.τ).loc Cert.MlpRef0Ideal.main_arg3) = m ((c.tc : Thread Cert.MlpRef0Ideal.nD Cert.MlpRef0Ideal.τ).loc Cert.MlpRef0Ideal.main_arg3)
      ∧ r.2.mem ((c.tc : Thread Cert.MlpRef0Ideal.nD Cert.MlpRef0Ideal.τ).loc Cert.MlpRef0Ideal.main_arg4) = m ((c.tc : Thread Cert.MlpRef0Ideal.nD Cert.MlpRef0Ideal.τ).loc Cert.MlpRef0Ideal.main_arg4)
      ∧ r.2.mem ((c.tc : Thread Cert.MlpRef0Ideal.nD Cert.MlpRef0Ideal.τ).loc Cert.MlpRef0Ideal.main_arg5) = m ((c.tc : Thread Cert.MlpRef0Ideal.nD Cert.MlpRef0Ideal.τ).loc Cert.MlpRef0Ideal.main_arg5))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2)
      ∧ r.2.mem ((c.tc : Thread Cert.Mlp1.nD Cert.Mlp1.τ).loc Cert.Mlp1.main_arg3) = m ((c.tc : Thread Cert.Mlp1.nD Cert.Mlp1.τ).loc Cert.Mlp1.main_arg3)
      ∧ r.2.mem ((c.tc : Thread Cert.Mlp1.nD Cert.Mlp1.τ).loc Cert.Mlp1.main_arg4) = m ((c.tc : Thread Cert.Mlp1.nD Cert.Mlp1.τ).loc Cert.Mlp1.main_arg4)
      ∧ r.2.mem ((c.tc : Thread Cert.Mlp1.nD Cert.Mlp1.τ).loc Cert.Mlp1.main_arg5) = m ((c.tc : Thread Cert.Mlp1.nD Cert.Mlp1.τ).loc Cert.Mlp1.main_arg5))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
      ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
      ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
      ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5))
      ∧ r.2.sem = fun _ => 0)

def quiescent_MlpRef1Ideal [hMlpRef1Ideal : Cert.MlpRef1Ideal.Facts] : Prop :=
  ∀ (m : (ℓ : Loc Cert.MlpRef1Ideal.nD Cert.MlpRef1Ideal.τ Cert.MlpRef1Ideal.sig) → Buf (Elt Ideal) ℓ) (g : Dev Cert.MlpRef1Ideal.nD → PrngReg), Pre_MlpRef1Ideal m →
    θ_run (Cert.MlpRef1Ideal.defs (F := Ideal)) (onTc (τ := Cert.MlpRef1Ideal.τ) (Cert.MlpRef1Ideal.main (F := Ideal))) ⟨m, fun _ => 0, g⟩ (fun r => (∀ c : Dev Cert.MlpRef1Ideal.nD,
      r.2.mem ((c.tc : Thread Cert.MlpRef1Ideal.nD Cert.MlpRef1Ideal.τ).loc Cert.MlpRef1Ideal.main_arg0) = m ((c.tc : Thread Cert.MlpRef1Ideal.nD Cert.MlpRef1Ideal.τ).loc Cert.MlpRef1Ideal.main_arg0)
      ∧ r.2.mem ((c.tc : Thread Cert.MlpRef1Ideal.nD Cert.MlpRef1Ideal.τ).loc Cert.MlpRef1Ideal.main_arg1) = m ((c.tc : Thread Cert.MlpRef1Ideal.nD Cert.MlpRef1Ideal.τ).loc Cert.MlpRef1Ideal.main_arg1)
      ∧ r.2.mem ((c.tc : Thread Cert.MlpRef1Ideal.nD Cert.MlpRef1Ideal.τ).loc Cert.MlpRef1Ideal.main_arg2) = m ((c.tc : Thread Cert.MlpRef1Ideal.nD Cert.MlpRef1Ideal.τ).loc Cert.MlpRef1Ideal.main_arg2)
      ∧ r.2.mem ((c.tc : Thread Cert.MlpRef1Ideal.nD Cert.MlpRef1Ideal.τ).loc Cert.MlpRef1Ideal.main_arg3) = m ((c.tc : Thread Cert.MlpRef1Ideal.nD Cert.MlpRef1Ideal.τ).loc Cert.MlpRef1Ideal.main_arg3)
      ∧ r.2.mem ((c.tc : Thread Cert.MlpRef1Ideal.nD Cert.MlpRef1Ideal.τ).loc Cert.MlpRef1Ideal.main_arg4) = m ((c.tc : Thread Cert.MlpRef1Ideal.nD Cert.MlpRef1Ideal.τ).loc Cert.MlpRef1Ideal.main_arg4)
      ∧ r.2.mem ((c.tc : Thread Cert.MlpRef1Ideal.nD Cert.MlpRef1Ideal.τ).loc Cert.MlpRef1Ideal.main_arg5) = m ((c.tc : Thread Cert.MlpRef1Ideal.nD Cert.MlpRef1Ideal.τ).loc Cert.MlpRef1Ideal.main_arg5))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1)
      ∧ r.2.mem ((c.tc : Thread Cert.Mlp2.nD Cert.Mlp2.τ).loc Cert.Mlp2.main_arg2) = m ((c.tc : Thread Cert.Mlp2.nD Cert.Mlp2.τ).loc Cert.Mlp2.main_arg2)
      ∧ r.2.mem ((c.tc : Thread Cert.Mlp2.nD Cert.Mlp2.τ).loc Cert.Mlp2.main_arg3) = m ((c.tc : Thread Cert.Mlp2.nD Cert.Mlp2.τ).loc Cert.Mlp2.main_arg3)
      ∧ r.2.mem ((c.tc : Thread Cert.Mlp2.nD Cert.Mlp2.τ).loc Cert.Mlp2.main_arg4) = m ((c.tc : Thread Cert.Mlp2.nD Cert.Mlp2.τ).loc Cert.Mlp2.main_arg4)
      ∧ r.2.mem ((c.tc : Thread Cert.Mlp2.nD Cert.Mlp2.τ).loc Cert.Mlp2.main_arg5) = m ((c.tc : Thread Cert.Mlp2.nD Cert.Mlp2.τ).loc Cert.Mlp2.main_arg5))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
      ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
      ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
      ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4)
      ∧ r.2.mem ((c.tc : Thread Cert.Mlp2Ideal.nD Cert.Mlp2Ideal.τ).loc Cert.Mlp2Ideal.main_arg5) = m ((c.tc : Thread Cert.Mlp2Ideal.nD Cert.Mlp2Ideal.τ).loc Cert.Mlp2Ideal.main_arg5))
      ∧ r.2.sem = fun _ => 0)

def quiescent_MlpRef2Ideal [hMlpRef2Ideal : Cert.MlpRef2Ideal.Facts] : Prop :=
  ∀ (m : (ℓ : Loc Cert.MlpRef2Ideal.nD Cert.MlpRef2Ideal.τ Cert.MlpRef2Ideal.sig) → Buf (Elt Ideal) ℓ) (g : Dev Cert.MlpRef2Ideal.nD → PrngReg), Pre_MlpRef2Ideal m →
    θ_run (Cert.MlpRef2Ideal.defs (F := Ideal)) (onTc (τ := Cert.MlpRef2Ideal.τ) (Cert.MlpRef2Ideal.main (F := Ideal))) ⟨m, fun _ => 0, g⟩ (fun r => (∀ c : Dev Cert.MlpRef2Ideal.nD,
      r.2.mem ((c.tc : Thread Cert.MlpRef2Ideal.nD Cert.MlpRef2Ideal.τ).loc Cert.MlpRef2Ideal.main_arg0) = m ((c.tc : Thread Cert.MlpRef2Ideal.nD Cert.MlpRef2Ideal.τ).loc Cert.MlpRef2Ideal.main_arg0)
      ∧ r.2.mem ((c.tc : Thread Cert.MlpRef2Ideal.nD Cert.MlpRef2Ideal.τ).loc Cert.MlpRef2Ideal.main_arg1) = m ((c.tc : Thread Cert.MlpRef2Ideal.nD Cert.MlpRef2Ideal.τ).loc Cert.MlpRef2Ideal.main_arg1)
      ∧ r.2.mem ((c.tc : Thread Cert.MlpRef2Ideal.nD Cert.MlpRef2Ideal.τ).loc Cert.MlpRef2Ideal.main_arg2) = m ((c.tc : Thread Cert.MlpRef2Ideal.nD Cert.MlpRef2Ideal.τ).loc Cert.MlpRef2Ideal.main_arg2)
      ∧ r.2.mem ((c.tc : Thread Cert.MlpRef2Ideal.nD Cert.MlpRef2Ideal.τ).loc Cert.MlpRef2Ideal.main_arg3) = m ((c.tc : Thread Cert.MlpRef2Ideal.nD Cert.MlpRef2Ideal.τ).loc Cert.MlpRef2Ideal.main_arg3)
      ∧ r.2.mem ((c.tc : Thread Cert.MlpRef2Ideal.nD Cert.MlpRef2Ideal.τ).loc Cert.MlpRef2Ideal.main_arg4) = m ((c.tc : Thread Cert.MlpRef2Ideal.nD Cert.MlpRef2Ideal.τ).loc Cert.MlpRef2Ideal.main_arg4)
      ∧ r.2.mem ((c.tc : Thread Cert.MlpRef2Ideal.nD Cert.MlpRef2Ideal.τ).loc Cert.MlpRef2Ideal.main_arg5) = m ((c.tc : Thread Cert.MlpRef2Ideal.nD Cert.MlpRef2Ideal.τ).loc Cert.MlpRef2Ideal.main_arg5))
      ∧ r.2.sem = fun _ => 0)

def quiescent_InProj0 [hInProj0 : Cert.InProj0.Facts] : Prop :=
  ∀ (m : (ℓ : Loc Cert.InProj0.nD Cert.InProj0.τ Cert.InProj0.sig) → Buf (Elt Bits) ℓ) (g : Dev Cert.InProj0.nD → PrngReg), Pre_InProj0 m →
    θ_run (Cert.InProj0.defs (F := Bits)) (onTc (τ := Cert.InProj0.τ) (Cert.InProj0.main (F := Bits))) ⟨m, fun _ => 0, g⟩ (fun r => (∀ c : Dev Cert.InProj0.nD,
      r.2.mem ((c.tc : Thread Cert.InProj0.nD Cert.InProj0.τ).loc Cert.InProj0.main_arg0) = m ((c.tc : Thread Cert.InProj0.nD Cert.InProj0.τ).loc Cert.InProj0.main_arg0)
      ∧ r.2.mem ((c.tc : Thread Cert.InProj0.nD Cert.InProj0.τ).loc Cert.InProj0.main_arg1) = m ((c.tc : Thread Cert.InProj0.nD Cert.InProj0.τ).loc Cert.InProj0.main_arg1)
      ∧ r.2.mem ((c.tc : Thread Cert.InProj0.nD Cert.InProj0.τ).loc Cert.InProj0.main_arg2) = m ((c.tc : Thread Cert.InProj0.nD Cert.InProj0.τ).loc Cert.InProj0.main_arg2)
      ∧ r.2.mem ((c.tc : Thread Cert.InProj0.nD Cert.InProj0.τ).loc Cert.InProj0.main_arg3) = m ((c.tc : Thread Cert.InProj0.nD Cert.InProj0.τ).loc Cert.InProj0.main_arg3))
      ∧ r.2.sem = fun _ => 0)

def quiescent_InProj0Ideal [hInProj0Ideal : Cert.InProj0Ideal.Facts] : Prop :=
  ∀ (m : (ℓ : Loc Cert.InProj0Ideal.nD Cert.InProj0Ideal.τ Cert.InProj0Ideal.sig) → Buf (Elt Ideal) ℓ) (g : Dev Cert.InProj0Ideal.nD → PrngReg), Pre_InProj0Ideal m →
    θ_run (Cert.InProj0Ideal.defs (F := Ideal)) (onTc (τ := Cert.InProj0Ideal.τ) (Cert.InProj0Ideal.main (F := Ideal))) ⟨m, fun _ => 0, g⟩ (fun r => (∀ c : Dev Cert.InProj0Ideal.nD,
      r.2.mem ((c.tc : Thread Cert.InProj0Ideal.nD Cert.InProj0Ideal.τ).loc Cert.InProj0Ideal.main_arg0) = m ((c.tc : Thread Cert.InProj0Ideal.nD Cert.InProj0Ideal.τ).loc Cert.InProj0Ideal.main_arg0)
      ∧ r.2.mem ((c.tc : Thread Cert.InProj0Ideal.nD Cert.InProj0Ideal.τ).loc Cert.InProj0Ideal.main_arg1) = m ((c.tc : Thread Cert.InProj0Ideal.nD Cert.InProj0Ideal.τ).loc Cert.InProj0Ideal.main_arg1)
      ∧ r.2.mem ((c.tc : Thread Cert.InProj0Ideal.nD Cert.InProj0Ideal.τ).loc Cert.InProj0Ideal.main_arg2) = m ((c.tc : Thread Cert.InProj0Ideal.nD Cert.InProj0Ideal.τ).loc Cert.InProj0Ideal.main_arg2)
      ∧ r.2.mem ((c.tc : Thread Cert.InProj0Ideal.nD Cert.InProj0Ideal.τ).loc Cert.InProj0Ideal.main_arg3) = m ((c.tc : Thread Cert.InProj0Ideal.nD Cert.InProj0Ideal.τ).loc Cert.InProj0Ideal.main_arg3))
      ∧ r.2.sem = fun _ => 0)

def quiescent_InProjRef0Ideal [hInProjRef0Ideal : Cert.InProjRef0Ideal.Facts] : Prop :=
  ∀ (m : (ℓ : Loc Cert.InProjRef0Ideal.nD Cert.InProjRef0Ideal.τ Cert.InProjRef0Ideal.sig) → Buf (Elt Ideal) ℓ) (g : Dev Cert.InProjRef0Ideal.nD → PrngReg), Pre_InProjRef0Ideal m →
    θ_run (Cert.InProjRef0Ideal.defs (F := Ideal)) (onTc (τ := Cert.InProjRef0Ideal.τ) (Cert.InProjRef0Ideal.main (F := Ideal))) ⟨m, fun _ => 0, g⟩ (fun r => (∀ c : Dev Cert.InProjRef0Ideal.nD,
      r.2.mem ((c.tc : Thread Cert.InProjRef0Ideal.nD Cert.InProjRef0Ideal.τ).loc Cert.InProjRef0Ideal.main_arg0) = m ((c.tc : Thread Cert.InProjRef0Ideal.nD Cert.InProjRef0Ideal.τ).loc Cert.InProjRef0Ideal.main_arg0)
      ∧ r.2.mem ((c.tc : Thread Cert.InProjRef0Ideal.nD Cert.InProjRef0Ideal.τ).loc Cert.InProjRef0Ideal.main_arg1) = m ((c.tc : Thread Cert.InProjRef0Ideal.nD Cert.InProjRef0Ideal.τ).loc Cert.InProjRef0Ideal.main_arg1)
      ∧ r.2.mem ((c.tc : Thread Cert.InProjRef0Ideal.nD Cert.InProjRef0Ideal.τ).loc Cert.InProjRef0Ideal.main_arg2) = m ((c.tc : Thread Cert.InProjRef0Ideal.nD Cert.InProjRef0Ideal.τ).loc Cert.InProjRef0Ideal.main_arg2)
      ∧ r.2.mem ((c.tc : Thread Cert.InProjRef0Ideal.nD Cert.InProjRef0Ideal.τ).loc Cert.InProjRef0Ideal.main_arg3) = m ((c.tc : Thread Cert.InProjRef0Ideal.nD Cert.InProjRef0Ideal.τ).loc Cert.InProjRef0Ideal.main_arg3))
      ∧ r.2.sem = fun _ => 0)

def quiescent_InProj1 [hInProj1 : Cert.InProj1.Facts] : Prop :=
  ∀ (m : (ℓ : Loc Cert.InProj1.nD Cert.InProj1.τ Cert.InProj1.sig) → Buf (Elt Bits) ℓ) (g : Dev Cert.InProj1.nD → PrngReg), Pre_InProj1 m →
    θ_run (Cert.InProj1.defs (F := Bits)) (onTc (τ := Cert.InProj1.τ) (Cert.InProj1.main (F := Bits))) ⟨m, fun _ => 0, g⟩ (fun r => (∀ c : Dev Cert.InProj1.nD,
      r.2.mem ((c.tc : Thread Cert.InProj1.nD Cert.InProj1.τ).loc Cert.InProj1.main_arg0) = m ((c.tc : Thread Cert.InProj1.nD Cert.InProj1.τ).loc Cert.InProj1.main_arg0)
      ∧ r.2.mem ((c.tc : Thread Cert.InProj1.nD Cert.InProj1.τ).loc Cert.InProj1.main_arg1) = m ((c.tc : Thread Cert.InProj1.nD Cert.InProj1.τ).loc Cert.InProj1.main_arg1)
      ∧ r.2.mem ((c.tc : Thread Cert.InProj1.nD Cert.InProj1.τ).loc Cert.InProj1.main_arg2) = m ((c.tc : Thread Cert.InProj1.nD Cert.InProj1.τ).loc Cert.InProj1.main_arg2)
      ∧ r.2.mem ((c.tc : Thread Cert.InProj1.nD Cert.InProj1.τ).loc Cert.InProj1.main_arg3) = m ((c.tc : Thread Cert.InProj1.nD Cert.InProj1.τ).loc Cert.InProj1.main_arg3))
      ∧ r.2.sem = fun _ => 0)

def quiescent_InProj1Ideal [hInProj1Ideal : Cert.InProj1Ideal.Facts] : Prop :=
  ∀ (m : (ℓ : Loc Cert.InProj1Ideal.nD Cert.InProj1Ideal.τ Cert.InProj1Ideal.sig) → Buf (Elt Ideal) ℓ) (g : Dev Cert.InProj1Ideal.nD → PrngReg), Pre_InProj1Ideal m →
    θ_run (Cert.InProj1Ideal.defs (F := Ideal)) (onTc (τ := Cert.InProj1Ideal.τ) (Cert.InProj1Ideal.main (F := Ideal))) ⟨m, fun _ => 0, g⟩ (fun r => (∀ c : Dev Cert.InProj1Ideal.nD,
      r.2.mem ((c.tc : Thread Cert.InProj1Ideal.nD Cert.InProj1Ideal.τ).loc Cert.InProj1Ideal.main_arg0) = m ((c.tc : Thread Cert.InProj1Ideal.nD Cert.InProj1Ideal.τ).loc Cert.InProj1Ideal.main_arg0)
      ∧ r.2.mem ((c.tc : Thread Cert.InProj1Ideal.nD Cert.InProj1Ideal.τ).loc Cert.InProj1Ideal.main_arg1) = m ((c.tc : Thread Cert.InProj1Ideal.nD Cert.InProj1Ideal.τ).loc Cert.InProj1Ideal.main_arg1)
      ∧ r.2.mem ((c.tc : Thread Cert.InProj1Ideal.nD Cert.InProj1Ideal.τ).loc Cert.InProj1Ideal.main_arg2) = m ((c.tc : Thread Cert.InProj1Ideal.nD Cert.InProj1Ideal.τ).loc Cert.InProj1Ideal.main_arg2)
      ∧ r.2.mem ((c.tc : Thread Cert.InProj1Ideal.nD Cert.InProj1Ideal.τ).loc Cert.InProj1Ideal.main_arg3) = m ((c.tc : Thread Cert.InProj1Ideal.nD Cert.InProj1Ideal.τ).loc Cert.InProj1Ideal.main_arg3))
      ∧ r.2.sem = fun _ => 0)

def quiescent_InProjRef1Ideal [hInProjRef1Ideal : Cert.InProjRef1Ideal.Facts] : Prop :=
  ∀ (m : (ℓ : Loc Cert.InProjRef1Ideal.nD Cert.InProjRef1Ideal.τ Cert.InProjRef1Ideal.sig) → Buf (Elt Ideal) ℓ) (g : Dev Cert.InProjRef1Ideal.nD → PrngReg), Pre_InProjRef1Ideal m →
    θ_run (Cert.InProjRef1Ideal.defs (F := Ideal)) (onTc (τ := Cert.InProjRef1Ideal.τ) (Cert.InProjRef1Ideal.main (F := Ideal))) ⟨m, fun _ => 0, g⟩ (fun r => (∀ c : Dev Cert.InProjRef1Ideal.nD,
      r.2.mem ((c.tc : Thread Cert.InProjRef1Ideal.nD Cert.InProjRef1Ideal.τ).loc Cert.InProjRef1Ideal.main_arg0) = m ((c.tc : Thread Cert.InProjRef1Ideal.nD Cert.InProjRef1Ideal.τ).loc Cert.InProjRef1Ideal.main_arg0)
      ∧ r.2.mem ((c.tc : Thread Cert.InProjRef1Ideal.nD Cert.InProjRef1Ideal.τ).loc Cert.InProjRef1Ideal.main_arg1) = m ((c.tc : Thread Cert.InProjRef1Ideal.nD Cert.InProjRef1Ideal.τ).loc Cert.InProjRef1Ideal.main_arg1)
      ∧ r.2.mem ((c.tc : Thread Cert.InProjRef1Ideal.nD Cert.InProjRef1Ideal.τ).loc Cert.InProjRef1Ideal.main_arg2) = m ((c.tc : Thread Cert.InProjRef1Ideal.nD Cert.InProjRef1Ideal.τ).loc Cert.InProjRef1Ideal.main_arg2)
      ∧ r.2.mem ((c.tc : Thread Cert.InProjRef1Ideal.nD Cert.InProjRef1Ideal.τ).loc Cert.InProjRef1Ideal.main_arg3) = m ((c.tc : Thread Cert.InProjRef1Ideal.nD Cert.InProjRef1Ideal.τ).loc Cert.InProjRef1Ideal.main_arg3))
      ∧ r.2.sem = fun _ => 0)

def quiescent_InProj2 [hInProj2 : Cert.InProj2.Facts] : Prop :=
  ∀ (m : (ℓ : Loc Cert.InProj2.nD Cert.InProj2.τ Cert.InProj2.sig) → Buf (Elt Bits) ℓ) (g : Dev Cert.InProj2.nD → PrngReg), Pre_InProj2 m →
    θ_run (Cert.InProj2.defs (F := Bits)) (onTc (τ := Cert.InProj2.τ) (Cert.InProj2.main (F := Bits))) ⟨m, fun _ => 0, g⟩ (fun r => (∀ c : Dev Cert.InProj2.nD,
      r.2.mem ((c.tc : Thread Cert.InProj2.nD Cert.InProj2.τ).loc Cert.InProj2.main_arg0) = m ((c.tc : Thread Cert.InProj2.nD Cert.InProj2.τ).loc Cert.InProj2.main_arg0)
      ∧ r.2.mem ((c.tc : Thread Cert.InProj2.nD Cert.InProj2.τ).loc Cert.InProj2.main_arg1) = m ((c.tc : Thread Cert.InProj2.nD Cert.InProj2.τ).loc Cert.InProj2.main_arg1)
      ∧ r.2.mem ((c.tc : Thread Cert.InProj2.nD Cert.InProj2.τ).loc Cert.InProj2.main_arg2) = m ((c.tc : Thread Cert.InProj2.nD Cert.InProj2.τ).loc Cert.InProj2.main_arg2)
      ∧ r.2.mem ((c.tc : Thread Cert.InProj2.nD Cert.InProj2.τ).loc Cert.InProj2.main_arg3) = m ((c.tc : Thread Cert.InProj2.nD Cert.InProj2.τ).loc Cert.InProj2.main_arg3))
      ∧ r.2.sem = fun _ => 0)

def quiescent_InProj2Ideal [hInProj2Ideal : Cert.InProj2Ideal.Facts] : Prop :=
  ∀ (m : (ℓ : Loc Cert.InProj2Ideal.nD Cert.InProj2Ideal.τ Cert.InProj2Ideal.sig) → Buf (Elt Ideal) ℓ) (g : Dev Cert.InProj2Ideal.nD → PrngReg), Pre_InProj2Ideal m →
    θ_run (Cert.InProj2Ideal.defs (F := Ideal)) (onTc (τ := Cert.InProj2Ideal.τ) (Cert.InProj2Ideal.main (F := Ideal))) ⟨m, fun _ => 0, g⟩ (fun r => (∀ c : Dev Cert.InProj2Ideal.nD,
      r.2.mem ((c.tc : Thread Cert.InProj2Ideal.nD Cert.InProj2Ideal.τ).loc Cert.InProj2Ideal.main_arg0) = m ((c.tc : Thread Cert.InProj2Ideal.nD Cert.InProj2Ideal.τ).loc Cert.InProj2Ideal.main_arg0)
      ∧ r.2.mem ((c.tc : Thread Cert.InProj2Ideal.nD Cert.InProj2Ideal.τ).loc Cert.InProj2Ideal.main_arg1) = m ((c.tc : Thread Cert.InProj2Ideal.nD Cert.InProj2Ideal.τ).loc Cert.InProj2Ideal.main_arg1)
      ∧ r.2.mem ((c.tc : Thread Cert.InProj2Ideal.nD Cert.InProj2Ideal.τ).loc Cert.InProj2Ideal.main_arg2) = m ((c.tc : Thread Cert.InProj2Ideal.nD Cert.InProj2Ideal.τ).loc Cert.InProj2Ideal.main_arg2)
      ∧ r.2.mem ((c.tc : Thread Cert.InProj2Ideal.nD Cert.InProj2Ideal.τ).loc Cert.InProj2Ideal.main_arg3) = m ((c.tc : Thread Cert.InProj2Ideal.nD Cert.InProj2Ideal.τ).loc Cert.InProj2Ideal.main_arg3))
      ∧ r.2.sem = fun _ => 0)

def quiescent_InProjRef2Ideal [hInProjRef2Ideal : Cert.InProjRef2Ideal.Facts] : Prop :=
  ∀ (m : (ℓ : Loc Cert.InProjRef2Ideal.nD Cert.InProjRef2Ideal.τ Cert.InProjRef2Ideal.sig) → Buf (Elt Ideal) ℓ) (g : Dev Cert.InProjRef2Ideal.nD → PrngReg), Pre_InProjRef2Ideal m →
    θ_run (Cert.InProjRef2Ideal.defs (F := Ideal)) (onTc (τ := Cert.InProjRef2Ideal.τ) (Cert.InProjRef2Ideal.main (F := Ideal))) ⟨m, fun _ => 0, g⟩ (fun r => (∀ c : Dev Cert.InProjRef2Ideal.nD,
      r.2.mem ((c.tc : Thread Cert.InProjRef2Ideal.nD Cert.InProjRef2Ideal.τ).loc Cert.InProjRef2Ideal.main_arg0) = m ((c.tc : Thread Cert.InProjRef2Ideal.nD Cert.InProjRef2Ideal.τ).loc Cert.InProjRef2Ideal.main_arg0)
      ∧ r.2.mem ((c.tc : Thread Cert.InProjRef2Ideal.nD Cert.InProjRef2Ideal.τ).loc Cert.InProjRef2Ideal.main_arg1) = m ((c.tc : Thread Cert.InProjRef2Ideal.nD Cert.InProjRef2Ideal.τ).loc Cert.InProjRef2Ideal.main_arg1)
      ∧ r.2.mem ((c.tc : Thread Cert.InProjRef2Ideal.nD Cert.InProjRef2Ideal.τ).loc Cert.InProjRef2Ideal.main_arg2) = m ((c.tc : Thread Cert.InProjRef2Ideal.nD Cert.InProjRef2Ideal.τ).loc Cert.InProjRef2Ideal.main_arg2)
      ∧ r.2.mem ((c.tc : Thread Cert.InProjRef2Ideal.nD Cert.InProjRef2Ideal.τ).loc Cert.InProjRef2Ideal.main_arg3) = m ((c.tc : Thread Cert.InProjRef2Ideal.nD Cert.InProjRef2Ideal.τ).loc Cert.InProjRef2Ideal.main_arg3))
      ∧ r.2.sem = fun _ => 0)

def quiescent_MlpCtx0 [hMlpCtx0 : Cert.MlpCtx0.Facts] : Prop :=
  ∀ (m : (ℓ : Loc Cert.MlpCtx0.nD Cert.MlpCtx0.τ Cert.MlpCtx0.sig) → Buf (Elt Bits) ℓ) (g : Dev Cert.MlpCtx0.nD → PrngReg), Pre_MlpCtx0 m →
    θ_run (Cert.MlpCtx0.defs (F := Bits)) (onTc (τ := Cert.MlpCtx0.τ) (Cert.MlpCtx0.main (F := Bits))) ⟨m, fun _ => 0, g⟩ (fun r => (∀ c : Dev Cert.MlpCtx0.nD,
      r.2.mem ((c.tc : Thread Cert.MlpCtx0.nD Cert.MlpCtx0.τ).loc Cert.MlpCtx0.main_arg0) = m ((c.tc : Thread Cert.MlpCtx0.nD Cert.MlpCtx0.τ).loc Cert.MlpCtx0.main_arg0)
      ∧ r.2.mem ((c.tc : Thread Cert.MlpCtx0.nD Cert.MlpCtx0.τ).loc Cert.MlpCtx0.main_arg1) = m ((c.tc : Thread Cert.MlpCtx0.nD Cert.MlpCtx0.τ).loc Cert.MlpCtx0.main_arg1)
      ∧ r.2.mem ((c.tc : Thread Cert.MlpCtx0.nD Cert.MlpCtx0.τ).loc Cert.MlpCtx0.main_arg2) = m ((c.tc : Thread Cert.MlpCtx0.nD Cert.MlpCtx0.τ).loc Cert.MlpCtx0.main_arg2)
      ∧ r.2.mem ((c.tc : Thread Cert.MlpCtx0.nD Cert.MlpCtx0.τ).loc Cert.MlpCtx0.main_arg3) = m ((c.tc : Thread Cert.MlpCtx0.nD Cert.MlpCtx0.τ).loc Cert.MlpCtx0.main_arg3)
      ∧ r.2.mem ((c.tc : Thread Cert.MlpCtx0.nD Cert.MlpCtx0.τ).loc Cert.MlpCtx0.main_arg4) = m ((c.tc : Thread Cert.MlpCtx0.nD Cert.MlpCtx0.τ).loc Cert.MlpCtx0.main_arg4)
      ∧ r.2.mem ((c.tc : Thread Cert.MlpCtx0.nD Cert.MlpCtx0.τ).loc Cert.MlpCtx0.main_arg5) = m ((c.tc : Thread Cert.MlpCtx0.nD Cert.MlpCtx0.τ).loc Cert.MlpCtx0.main_arg5))
      ∧ r.2.sem = fun _ => 0)

def quiescent_MlpCtx0Ideal [hMlpCtx0Ideal : Cert.MlpCtx0Ideal.Facts] : Prop :=
  ∀ (m : (ℓ : Loc Cert.MlpCtx0Ideal.nD Cert.MlpCtx0Ideal.τ Cert.MlpCtx0Ideal.sig) → Buf (Elt Ideal) ℓ) (g : Dev Cert.MlpCtx0Ideal.nD → PrngReg), Pre_MlpCtx0Ideal m →
    θ_run (Cert.MlpCtx0Ideal.defs (F := Ideal)) (onTc (τ := Cert.MlpCtx0Ideal.τ) (Cert.MlpCtx0Ideal.main (F := Ideal))) ⟨m, fun _ => 0, g⟩ (fun r => (∀ c : Dev Cert.MlpCtx0Ideal.nD,
      r.2.mem ((c.tc : Thread Cert.MlpCtx0Ideal.nD Cert.MlpCtx0Ideal.τ).loc Cert.MlpCtx0Ideal.main_arg0) = m ((c.tc : Thread Cert.MlpCtx0Ideal.nD Cert.MlpCtx0Ideal.τ).loc Cert.MlpCtx0Ideal.main_arg0)
      ∧ r.2.mem ((c.tc : Thread Cert.MlpCtx0Ideal.nD Cert.MlpCtx0Ideal.τ).loc Cert.MlpCtx0Ideal.main_arg1) = m ((c.tc : Thread Cert.MlpCtx0Ideal.nD Cert.MlpCtx0Ideal.τ).loc Cert.MlpCtx0Ideal.main_arg1)
      ∧ r.2.mem ((c.tc : Thread Cert.MlpCtx0Ideal.nD Cert.MlpCtx0Ideal.τ).loc Cert.MlpCtx0Ideal.main_arg2) = m ((c.tc : Thread Cert.MlpCtx0Ideal.nD Cert.MlpCtx0Ideal.τ).loc Cert.MlpCtx0Ideal.main_arg2)
      ∧ r.2.mem ((c.tc : Thread Cert.MlpCtx0Ideal.nD Cert.MlpCtx0Ideal.τ).loc Cert.MlpCtx0Ideal.main_arg3) = m ((c.tc : Thread Cert.MlpCtx0Ideal.nD Cert.MlpCtx0Ideal.τ).loc Cert.MlpCtx0Ideal.main_arg3)
      ∧ r.2.mem ((c.tc : Thread Cert.MlpCtx0Ideal.nD Cert.MlpCtx0Ideal.τ).loc Cert.MlpCtx0Ideal.main_arg4) = m ((c.tc : Thread Cert.MlpCtx0Ideal.nD Cert.MlpCtx0Ideal.τ).loc Cert.MlpCtx0Ideal.main_arg4)
      ∧ r.2.mem ((c.tc : Thread Cert.MlpCtx0Ideal.nD Cert.MlpCtx0Ideal.τ).loc Cert.MlpCtx0Ideal.main_arg5) = m ((c.tc : Thread Cert.MlpCtx0Ideal.nD Cert.MlpCtx0Ideal.τ).loc Cert.MlpCtx0Ideal.main_arg5))
      ∧ r.2.sem = fun _ => 0)

def quiescent_MlpCtxRef0Ideal [hMlpCtxRef0Ideal : Cert.MlpCtxRef0Ideal.Facts] : Prop :=
  ∀ (m : (ℓ : Loc Cert.MlpCtxRef0Ideal.nD Cert.MlpCtxRef0Ideal.τ Cert.MlpCtxRef0Ideal.sig) → Buf (Elt Ideal) ℓ) (g : Dev Cert.MlpCtxRef0Ideal.nD → PrngReg), Pre_MlpCtxRef0Ideal m →
    θ_run (Cert.MlpCtxRef0Ideal.defs (F := Ideal)) (onTc (τ := Cert.MlpCtxRef0Ideal.τ) (Cert.MlpCtxRef0Ideal.main (F := Ideal))) ⟨m, fun _ => 0, g⟩ (fun r => (∀ c : Dev Cert.MlpCtxRef0Ideal.nD,
      r.2.mem ((c.tc : Thread Cert.MlpCtxRef0Ideal.nD Cert.MlpCtxRef0Ideal.τ).loc Cert.MlpCtxRef0Ideal.main_arg0) = m ((c.tc : Thread Cert.MlpCtxRef0Ideal.nD Cert.MlpCtxRef0Ideal.τ).loc Cert.MlpCtxRef0Ideal.main_arg0)
      ∧ r.2.mem ((c.tc : Thread Cert.MlpCtxRef0Ideal.nD Cert.MlpCtxRef0Ideal.τ).loc Cert.MlpCtxRef0Ideal.main_arg1) = m ((c.tc : Thread Cert.MlpCtxRef0Ideal.nD Cert.MlpCtxRef0Ideal.τ).loc Cert.MlpCtxRef0Ideal.main_arg1)
      ∧ r.2.mem ((c.tc : Thread Cert.MlpCtxRef0Ideal.nD Cert.MlpCtxRef0Ideal.τ).loc Cert.MlpCtxRef0Ideal.main_arg2) = m ((c.tc : Thread Cert.MlpCtxRef0Ideal.nD Cert.MlpCtxRef0Ideal.τ).loc Cert.MlpCtxRef0Ideal.main_arg2)
      ∧ r.2.mem ((c.tc : Thread Cert.MlpCtxRef0Ideal.nD Cert.MlpCtxRef0Ideal.τ).loc Cert.MlpCtxRef0Ideal.main_arg3) = m ((c.tc : Thread Cert.MlpCtxRef0Ideal.nD Cert.MlpCtxRef0Ideal.τ).loc Cert.MlpCtxRef0Ideal.main_arg3)
      ∧ r.2.mem ((c.tc : Thread Cert.MlpCtxRef0Ideal.nD Cert.MlpCtxRef0Ideal.τ).loc Cert.MlpCtxRef0Ideal.main_arg4) = m ((c.tc : Thread Cert.MlpCtxRef0Ideal.nD Cert.MlpCtxRef0Ideal.τ).loc Cert.MlpCtxRef0Ideal.main_arg4)
      ∧ r.2.mem ((c.tc : Thread Cert.MlpCtxRef0Ideal.nD Cert.MlpCtxRef0Ideal.τ).loc Cert.MlpCtxRef0Ideal.main_arg5) = m ((c.tc : Thread Cert.MlpCtxRef0Ideal.nD Cert.MlpCtxRef0Ideal.τ).loc Cert.MlpCtxRef0Ideal.main_arg5))
      ∧ r.2.sem = fun _ => 0)

def quiescent_MlpCtx1 [hMlpCtx1 : Cert.MlpCtx1.Facts] : Prop :=
  ∀ (m : (ℓ : Loc Cert.MlpCtx1.nD Cert.MlpCtx1.τ Cert.MlpCtx1.sig) → Buf (Elt Bits) ℓ) (g : Dev Cert.MlpCtx1.nD → PrngReg), Pre_MlpCtx1 m →
    θ_run (Cert.MlpCtx1.defs (F := Bits)) (onTc (τ := Cert.MlpCtx1.τ) (Cert.MlpCtx1.main (F := Bits))) ⟨m, fun _ => 0, g⟩ (fun r => (∀ c : Dev Cert.MlpCtx1.nD,
      r.2.mem ((c.tc : Thread Cert.MlpCtx1.nD Cert.MlpCtx1.τ).loc Cert.MlpCtx1.main_arg0) = m ((c.tc : Thread Cert.MlpCtx1.nD Cert.MlpCtx1.τ).loc Cert.MlpCtx1.main_arg0)
      ∧ r.2.mem ((c.tc : Thread Cert.MlpCtx1.nD Cert.MlpCtx1.τ).loc Cert.MlpCtx1.main_arg1) = m ((c.tc : Thread Cert.MlpCtx1.nD Cert.MlpCtx1.τ).loc Cert.MlpCtx1.main_arg1)
      ∧ r.2.mem ((c.tc : Thread Cert.MlpCtx1.nD Cert.MlpCtx1.τ).loc Cert.MlpCtx1.main_arg2) = m ((c.tc : Thread Cert.MlpCtx1.nD Cert.MlpCtx1.τ).loc Cert.MlpCtx1.main_arg2)
      ∧ r.2.mem ((c.tc : Thread Cert.MlpCtx1.nD Cert.MlpCtx1.τ).loc Cert.MlpCtx1.main_arg3) = m ((c.tc : Thread Cert.MlpCtx1.nD Cert.MlpCtx1.τ).loc Cert.MlpCtx1.main_arg3)
      ∧ r.2.mem ((c.tc : Thread Cert.MlpCtx1.nD Cert.MlpCtx1.τ).loc Cert.MlpCtx1.main_arg4) = m ((c.tc : Thread Cert.MlpCtx1.nD Cert.MlpCtx1.τ).loc Cert.MlpCtx1.main_arg4)
      ∧ r.2.mem ((c.tc : Thread Cert.MlpCtx1.nD Cert.MlpCtx1.τ).loc Cert.MlpCtx1.main_arg5) = m ((c.tc : Thread Cert.MlpCtx1.nD Cert.MlpCtx1.τ).loc Cert.MlpCtx1.main_arg5))
      ∧ r.2.sem = fun _ => 0)

def quiescent_MlpCtx1Ideal [hMlpCtx1Ideal : Cert.MlpCtx1Ideal.Facts] : Prop :=
  ∀ (m : (ℓ : Loc Cert.MlpCtx1Ideal.nD Cert.MlpCtx1Ideal.τ Cert.MlpCtx1Ideal.sig) → Buf (Elt Ideal) ℓ) (g : Dev Cert.MlpCtx1Ideal.nD → PrngReg), Pre_MlpCtx1Ideal m →
    θ_run (Cert.MlpCtx1Ideal.defs (F := Ideal)) (onTc (τ := Cert.MlpCtx1Ideal.τ) (Cert.MlpCtx1Ideal.main (F := Ideal))) ⟨m, fun _ => 0, g⟩ (fun r => (∀ c : Dev Cert.MlpCtx1Ideal.nD,
      r.2.mem ((c.tc : Thread Cert.MlpCtx1Ideal.nD Cert.MlpCtx1Ideal.τ).loc Cert.MlpCtx1Ideal.main_arg0) = m ((c.tc : Thread Cert.MlpCtx1Ideal.nD Cert.MlpCtx1Ideal.τ).loc Cert.MlpCtx1Ideal.main_arg0)
      ∧ r.2.mem ((c.tc : Thread Cert.MlpCtx1Ideal.nD Cert.MlpCtx1Ideal.τ).loc Cert.MlpCtx1Ideal.main_arg1) = m ((c.tc : Thread Cert.MlpCtx1Ideal.nD Cert.MlpCtx1Ideal.τ).loc Cert.MlpCtx1Ideal.main_arg1)
      ∧ r.2.mem ((c.tc : Thread Cert.MlpCtx1Ideal.nD Cert.MlpCtx1Ideal.τ).loc Cert.MlpCtx1Ideal.main_arg2) = m ((c.tc : Thread Cert.MlpCtx1Ideal.nD Cert.MlpCtx1Ideal.τ).loc Cert.MlpCtx1Ideal.main_arg2)
      ∧ r.2.mem ((c.tc : Thread Cert.MlpCtx1Ideal.nD Cert.MlpCtx1Ideal.τ).loc Cert.MlpCtx1Ideal.main_arg3) = m ((c.tc : Thread Cert.MlpCtx1Ideal.nD Cert.MlpCtx1Ideal.τ).loc Cert.MlpCtx1Ideal.main_arg3)
      ∧ r.2.mem ((c.tc : Thread Cert.MlpCtx1Ideal.nD Cert.MlpCtx1Ideal.τ).loc Cert.MlpCtx1Ideal.main_arg4) = m ((c.tc : Thread Cert.MlpCtx1Ideal.nD Cert.MlpCtx1Ideal.τ).loc Cert.MlpCtx1Ideal.main_arg4)
      ∧ r.2.mem ((c.tc : Thread Cert.MlpCtx1Ideal.nD Cert.MlpCtx1Ideal.τ).loc Cert.MlpCtx1Ideal.main_arg5) = m ((c.tc : Thread Cert.MlpCtx1Ideal.nD Cert.MlpCtx1Ideal.τ).loc Cert.MlpCtx1Ideal.main_arg5))
      ∧ r.2.sem = fun _ => 0)

def quiescent_MlpCtxRef1Ideal [hMlpCtxRef1Ideal : Cert.MlpCtxRef1Ideal.Facts] : Prop :=
  ∀ (m : (ℓ : Loc Cert.MlpCtxRef1Ideal.nD Cert.MlpCtxRef1Ideal.τ Cert.MlpCtxRef1Ideal.sig) → Buf (Elt Ideal) ℓ) (g : Dev Cert.MlpCtxRef1Ideal.nD → PrngReg), Pre_MlpCtxRef1Ideal m →
    θ_run (Cert.MlpCtxRef1Ideal.defs (F := Ideal)) (onTc (τ := Cert.MlpCtxRef1Ideal.τ) (Cert.MlpCtxRef1Ideal.main (F := Ideal))) ⟨m, fun _ => 0, g⟩ (fun r => (∀ c : Dev Cert.MlpCtxRef1Ideal.nD,
      r.2.mem ((c.tc : Thread Cert.MlpCtxRef1Ideal.nD Cert.MlpCtxRef1Ideal.τ).loc Cert.MlpCtxRef1Ideal.main_arg0) = m ((c.tc : Thread Cert.MlpCtxRef1Ideal.nD Cert.MlpCtxRef1Ideal.τ).loc Cert.MlpCtxRef1Ideal.main_arg0)
      ∧ r.2.mem ((c.tc : Thread Cert.MlpCtxRef1Ideal.nD Cert.MlpCtxRef1Ideal.τ).loc Cert.MlpCtxRef1Ideal.main_arg1) = m ((c.tc : Thread Cert.MlpCtxRef1Ideal.nD Cert.MlpCtxRef1Ideal.τ).loc Cert.MlpCtxRef1Ideal.main_arg1)
      ∧ r.2.mem ((c.tc : Thread Cert.MlpCtxRef1Ideal.nD Cert.MlpCtxRef1Ideal.τ).loc Cert.MlpCtxRef1Ideal.main_arg2) = m ((c.tc : Thread Cert.MlpCtxRef1Ideal.nD Cert.MlpCtxRef1Ideal.τ).loc Cert.MlpCtxRef1Ideal.main_arg2)
      ∧ r.2.mem ((c.tc : Thread Cert.MlpCtxRef1Ideal.nD Cert.MlpCtxRef1Ideal.τ).loc Cert.MlpCtxRef1Ideal.main_arg3) = m ((c.tc : Thread Cert.MlpCtxRef1Ideal.nD Cert.MlpCtxRef1Ideal.τ).loc Cert.MlpCtxRef1Ideal.main_arg3)
      ∧ r.2.mem ((c.tc : Thread Cert.MlpCtxRef1Ideal.nD Cert.MlpCtxRef1Ideal.τ).loc Cert.MlpCtxRef1Ideal.main_arg4) = m ((c.tc : Thread Cert.MlpCtxRef1Ideal.nD Cert.MlpCtxRef1Ideal.τ).loc Cert.MlpCtxRef1Ideal.main_arg4)
      ∧ r.2.mem ((c.tc : Thread Cert.MlpCtxRef1Ideal.nD Cert.MlpCtxRef1Ideal.τ).loc Cert.MlpCtxRef1Ideal.main_arg5) = m ((c.tc : Thread Cert.MlpCtxRef1Ideal.nD Cert.MlpCtxRef1Ideal.τ).loc Cert.MlpCtxRef1Ideal.main_arg5))
      ∧ r.2.sem = fun _ => 0)

def quiescent_MlpCtx2 [hMlpCtx2 : Cert.MlpCtx2.Facts] : Prop :=
  ∀ (m : (ℓ : Loc Cert.MlpCtx2.nD Cert.MlpCtx2.τ Cert.MlpCtx2.sig) → Buf (Elt Bits) ℓ) (g : Dev Cert.MlpCtx2.nD → PrngReg), Pre_MlpCtx2 m →
    θ_run (Cert.MlpCtx2.defs (F := Bits)) (onTc (τ := Cert.MlpCtx2.τ) (Cert.MlpCtx2.main (F := Bits))) ⟨m, fun _ => 0, g⟩ (fun r => (∀ c : Dev Cert.MlpCtx2.nD,
      r.2.mem ((c.tc : Thread Cert.MlpCtx2.nD Cert.MlpCtx2.τ).loc Cert.MlpCtx2.main_arg0) = m ((c.tc : Thread Cert.MlpCtx2.nD Cert.MlpCtx2.τ).loc Cert.MlpCtx2.main_arg0)
      ∧ r.2.mem ((c.tc : Thread Cert.MlpCtx2.nD Cert.MlpCtx2.τ).loc Cert.MlpCtx2.main_arg1) = m ((c.tc : Thread Cert.MlpCtx2.nD Cert.MlpCtx2.τ).loc Cert.MlpCtx2.main_arg1)
      ∧ r.2.mem ((c.tc : Thread Cert.MlpCtx2.nD Cert.MlpCtx2.τ).loc Cert.MlpCtx2.main_arg2) = m ((c.tc : Thread Cert.MlpCtx2.nD Cert.MlpCtx2.τ).loc Cert.MlpCtx2.main_arg2)
      ∧ r.2.mem ((c.tc : Thread Cert.MlpCtx2.nD Cert.MlpCtx2.τ).loc Cert.MlpCtx2.main_arg3) = m ((c.tc : Thread Cert.MlpCtx2.nD Cert.MlpCtx2.τ).loc Cert.MlpCtx2.main_arg3)
      ∧ r.2.mem ((c.tc : Thread Cert.MlpCtx2.nD Cert.MlpCtx2.τ).loc Cert.MlpCtx2.main_arg4) = m ((c.tc : Thread Cert.MlpCtx2.nD Cert.MlpCtx2.τ).loc Cert.MlpCtx2.main_arg4)
      ∧ r.2.mem ((c.tc : Thread Cert.MlpCtx2.nD Cert.MlpCtx2.τ).loc Cert.MlpCtx2.main_arg5) = m ((c.tc : Thread Cert.MlpCtx2.nD Cert.MlpCtx2.τ).loc Cert.MlpCtx2.main_arg5))
      ∧ r.2.sem = fun _ => 0)

def quiescent_MlpCtx2Ideal [hMlpCtx2Ideal : Cert.MlpCtx2Ideal.Facts] : Prop :=
  ∀ (m : (ℓ : Loc Cert.MlpCtx2Ideal.nD Cert.MlpCtx2Ideal.τ Cert.MlpCtx2Ideal.sig) → Buf (Elt Ideal) ℓ) (g : Dev Cert.MlpCtx2Ideal.nD → PrngReg), Pre_MlpCtx2Ideal m →
    θ_run (Cert.MlpCtx2Ideal.defs (F := Ideal)) (onTc (τ := Cert.MlpCtx2Ideal.τ) (Cert.MlpCtx2Ideal.main (F := Ideal))) ⟨m, fun _ => 0, g⟩ (fun r => (∀ c : Dev Cert.MlpCtx2Ideal.nD,
      r.2.mem ((c.tc : Thread Cert.MlpCtx2Ideal.nD Cert.MlpCtx2Ideal.τ).loc Cert.MlpCtx2Ideal.main_arg0) = m ((c.tc : Thread Cert.MlpCtx2Ideal.nD Cert.MlpCtx2Ideal.τ).loc Cert.MlpCtx2Ideal.main_arg0)
      ∧ r.2.mem ((c.tc : Thread Cert.MlpCtx2Ideal.nD Cert.MlpCtx2Ideal.τ).loc Cert.MlpCtx2Ideal.main_arg1) = m ((c.tc : Thread Cert.MlpCtx2Ideal.nD Cert.MlpCtx2Ideal.τ).loc Cert.MlpCtx2Ideal.main_arg1)
      ∧ r.2.mem ((c.tc : Thread Cert.MlpCtx2Ideal.nD Cert.MlpCtx2Ideal.τ).loc Cert.MlpCtx2Ideal.main_arg2) = m ((c.tc : Thread Cert.MlpCtx2Ideal.nD Cert.MlpCtx2Ideal.τ).loc Cert.MlpCtx2Ideal.main_arg2)
      ∧ r.2.mem ((c.tc : Thread Cert.MlpCtx2Ideal.nD Cert.MlpCtx2Ideal.τ).loc Cert.MlpCtx2Ideal.main_arg3) = m ((c.tc : Thread Cert.MlpCtx2Ideal.nD Cert.MlpCtx2Ideal.τ).loc Cert.MlpCtx2Ideal.main_arg3)
      ∧ r.2.mem ((c.tc : Thread Cert.MlpCtx2Ideal.nD Cert.MlpCtx2Ideal.τ).loc Cert.MlpCtx2Ideal.main_arg4) = m ((c.tc : Thread Cert.MlpCtx2Ideal.nD Cert.MlpCtx2Ideal.τ).loc Cert.MlpCtx2Ideal.main_arg4)
      ∧ r.2.mem ((c.tc : Thread Cert.MlpCtx2Ideal.nD Cert.MlpCtx2Ideal.τ).loc Cert.MlpCtx2Ideal.main_arg5) = m ((c.tc : Thread Cert.MlpCtx2Ideal.nD Cert.MlpCtx2Ideal.τ).loc Cert.MlpCtx2Ideal.main_arg5))
      ∧ r.2.sem = fun _ => 0)

def quiescent_MlpCtxRef2Ideal [hMlpCtxRef2Ideal : Cert.MlpCtxRef2Ideal.Facts] : Prop :=
  ∀ (m : (ℓ : Loc Cert.MlpCtxRef2Ideal.nD Cert.MlpCtxRef2Ideal.τ Cert.MlpCtxRef2Ideal.sig) → Buf (Elt Ideal) ℓ) (g : Dev Cert.MlpCtxRef2Ideal.nD → PrngReg), Pre_MlpCtxRef2Ideal m →
    θ_run (Cert.MlpCtxRef2Ideal.defs (F := Ideal)) (onTc (τ := Cert.MlpCtxRef2Ideal.τ) (Cert.MlpCtxRef2Ideal.main (F := Ideal))) ⟨m, fun _ => 0, g⟩ (fun r => (∀ c : Dev Cert.MlpCtxRef2Ideal.nD,
      r.2.mem ((c.tc : Thread Cert.MlpCtxRef2Ideal.nD Cert.MlpCtxRef2Ideal.τ).loc Cert.MlpCtxRef2Ideal.main_arg0) = m ((c.tc : Thread Cert.MlpCtxRef2Ideal.nD Cert.MlpCtxRef2Ideal.τ).loc Cert.MlpCtxRef2Ideal.main_arg0)
      ∧ r.2.mem ((c.tc : Thread Cert.MlpCtxRef2Ideal.nD Cert.MlpCtxRef2Ideal.τ).loc Cert.MlpCtxRef2Ideal.main_arg1) = m ((c.tc : Thread Cert.MlpCtxRef2Ideal.nD Cert.MlpCtxRef2Ideal.τ).loc Cert.MlpCtxRef2Ideal.main_arg1)
      ∧ r.2.mem ((c.tc : Thread Cert.MlpCtxRef2Ideal.nD Cert.MlpCtxRef2Ideal.τ).loc Cert.MlpCtxRef2Ideal.main_arg2) = m ((c.tc : Thread Cert.MlpCtxRef2Ideal.nD Cert.MlpCtxRef2Ideal.τ).loc Cert.MlpCtxRef2Ideal.main_arg2)
      ∧ r.2.mem ((c.tc : Thread Cert.MlpCtxRef2Ideal.nD Cert.MlpCtxRef2Ideal.τ).loc Cert.MlpCtxRef2Ideal.main_arg3) = m ((c.tc : Thread Cert.MlpCtxRef2Ideal.nD Cert.MlpCtxRef2Ideal.τ).loc Cert.MlpCtxRef2Ideal.main_arg3)
      ∧ r.2.mem ((c.tc : Thread Cert.MlpCtxRef2Ideal.nD Cert.MlpCtxRef2Ideal.τ).loc Cert.MlpCtxRef2Ideal.main_arg4) = m ((c.tc : Thread Cert.MlpCtxRef2Ideal.nD Cert.MlpCtxRef2Ideal.τ).loc Cert.MlpCtxRef2Ideal.main_arg4)
      ∧ r.2.mem ((c.tc : Thread Cert.MlpCtxRef2Ideal.nD Cert.MlpCtxRef2Ideal.τ).loc Cert.MlpCtxRef2Ideal.main_arg5) = m ((c.tc : Thread Cert.MlpCtxRef2Ideal.nD Cert.MlpCtxRef2Ideal.τ).loc Cert.MlpCtxRef2Ideal.main_arg5))
      ∧ r.2.sem = fun _ => 0)

def quiescent_InProjCtx0 [hInProjCtx0 : Cert.InProjCtx0.Facts] : Prop :=
  ∀ (m : (ℓ : Loc Cert.InProjCtx0.nD Cert.InProjCtx0.τ Cert.InProjCtx0.sig) → Buf (Elt Bits) ℓ) (g : Dev Cert.InProjCtx0.nD → PrngReg), Pre_InProjCtx0 m →
    θ_run (Cert.InProjCtx0.defs (F := Bits)) (onTc (τ := Cert.InProjCtx0.τ) (Cert.InProjCtx0.main (F := Bits))) ⟨m, fun _ => 0, g⟩ (fun r => (∀ c : Dev Cert.InProjCtx0.nD,
      r.2.mem ((c.tc : Thread Cert.InProjCtx0.nD Cert.InProjCtx0.τ).loc Cert.InProjCtx0.main_arg0) = m ((c.tc : Thread Cert.InProjCtx0.nD Cert.InProjCtx0.τ).loc Cert.InProjCtx0.main_arg0)
      ∧ r.2.mem ((c.tc : Thread Cert.InProjCtx0.nD Cert.InProjCtx0.τ).loc Cert.InProjCtx0.main_arg1) = m ((c.tc : Thread Cert.InProjCtx0.nD Cert.InProjCtx0.τ).loc Cert.InProjCtx0.main_arg1)
      ∧ r.2.mem ((c.tc : Thread Cert.InProjCtx0.nD Cert.InProjCtx0.τ).loc Cert.InProjCtx0.main_arg2) = m ((c.tc : Thread Cert.InProjCtx0.nD Cert.InProjCtx0.τ).loc Cert.InProjCtx0.main_arg2)
      ∧ r.2.mem ((c.tc : Thread Cert.InProjCtx0.nD Cert.InProjCtx0.τ).loc Cert.InProjCtx0.main_arg3) = m ((c.tc : Thread Cert.InProjCtx0.nD Cert.InProjCtx0.τ).loc Cert.InProjCtx0.main_arg3))
      ∧ r.2.sem = fun _ => 0)

def quiescent_InProjCtx0Ideal [hInProjCtx0Ideal : Cert.InProjCtx0Ideal.Facts] : Prop :=
  ∀ (m : (ℓ : Loc Cert.InProjCtx0Ideal.nD Cert.InProjCtx0Ideal.τ Cert.InProjCtx0Ideal.sig) → Buf (Elt Ideal) ℓ) (g : Dev Cert.InProjCtx0Ideal.nD → PrngReg), Pre_InProjCtx0Ideal m →
    θ_run (Cert.InProjCtx0Ideal.defs (F := Ideal)) (onTc (τ := Cert.InProjCtx0Ideal.τ) (Cert.InProjCtx0Ideal.main (F := Ideal))) ⟨m, fun _ => 0, g⟩ (fun r => (∀ c : Dev Cert.InProjCtx0Ideal.nD,
      r.2.mem ((c.tc : Thread Cert.InProjCtx0Ideal.nD Cert.InProjCtx0Ideal.τ).loc Cert.InProjCtx0Ideal.main_arg0) = m ((c.tc : Thread Cert.InProjCtx0Ideal.nD Cert.InProjCtx0Ideal.τ).loc Cert.InProjCtx0Ideal.main_arg0)
      ∧ r.2.mem ((c.tc : Thread Cert.InProjCtx0Ideal.nD Cert.InProjCtx0Ideal.τ).loc Cert.InProjCtx0Ideal.main_arg1) = m ((c.tc : Thread Cert.InProjCtx0Ideal.nD Cert.InProjCtx0Ideal.τ).loc Cert.InProjCtx0Ideal.main_arg1)
      ∧ r.2.mem ((c.tc : Thread Cert.InProjCtx0Ideal.nD Cert.InProjCtx0Ideal.τ).loc Cert.InProjCtx0Ideal.main_arg2) = m ((c.tc : Thread Cert.InProjCtx0Ideal.nD Cert.InProjCtx0Ideal.τ).loc Cert.InProjCtx0Ideal.main_arg2)
      ∧ r.2.mem ((c.tc : Thread Cert.InProjCtx0Ideal.nD Cert.InProjCtx0Ideal.τ).loc Cert.InProjCtx0Ideal.main_arg3) = m ((c.tc : Thread Cert.InProjCtx0Ideal.nD Cert.InProjCtx0Ideal.τ).loc Cert.InProjCtx0Ideal.main_arg3))
      ∧ r.2.sem = fun _ => 0)

def quiescent_InProjCtxRef0Ideal [hInProjCtxRef0Ideal : Cert.InProjCtxRef0Ideal.Facts] : Prop :=
  ∀ (m : (ℓ : Loc Cert.InProjCtxRef0Ideal.nD Cert.InProjCtxRef0Ideal.τ Cert.InProjCtxRef0Ideal.sig) → Buf (Elt Ideal) ℓ) (g : Dev Cert.InProjCtxRef0Ideal.nD → PrngReg), Pre_InProjCtxRef0Ideal m →
    θ_run (Cert.InProjCtxRef0Ideal.defs (F := Ideal)) (onTc (τ := Cert.InProjCtxRef0Ideal.τ) (Cert.InProjCtxRef0Ideal.main (F := Ideal))) ⟨m, fun _ => 0, g⟩ (fun r => (∀ c : Dev Cert.InProjCtxRef0Ideal.nD,
      r.2.mem ((c.tc : Thread Cert.InProjCtxRef0Ideal.nD Cert.InProjCtxRef0Ideal.τ).loc Cert.InProjCtxRef0Ideal.main_arg0) = m ((c.tc : Thread Cert.InProjCtxRef0Ideal.nD Cert.InProjCtxRef0Ideal.τ).loc Cert.InProjCtxRef0Ideal.main_arg0)
      ∧ r.2.mem ((c.tc : Thread Cert.InProjCtxRef0Ideal.nD Cert.InProjCtxRef0Ideal.τ).loc Cert.InProjCtxRef0Ideal.main_arg1) = m ((c.tc : Thread Cert.InProjCtxRef0Ideal.nD Cert.InProjCtxRef0Ideal.τ).loc Cert.InProjCtxRef0Ideal.main_arg1)
      ∧ r.2.mem ((c.tc : Thread Cert.InProjCtxRef0Ideal.nD Cert.InProjCtxRef0Ideal.τ).loc Cert.InProjCtxRef0Ideal.main_arg2) = m ((c.tc : Thread Cert.InProjCtxRef0Ideal.nD Cert.InProjCtxRef0Ideal.τ).loc Cert.InProjCtxRef0Ideal.main_arg2)
      ∧ r.2.mem ((c.tc : Thread Cert.InProjCtxRef0Ideal.nD Cert.InProjCtxRef0Ideal.τ).loc Cert.InProjCtxRef0Ideal.main_arg3) = m ((c.tc : Thread Cert.InProjCtxRef0Ideal.nD Cert.InProjCtxRef0Ideal.τ).loc Cert.InProjCtxRef0Ideal.main_arg3))
      ∧ r.2.sem = fun _ => 0)

def quiescent_InProjCtx1 [hInProjCtx1 : Cert.InProjCtx1.Facts] : Prop :=
  ∀ (m : (ℓ : Loc Cert.InProjCtx1.nD Cert.InProjCtx1.τ Cert.InProjCtx1.sig) → Buf (Elt Bits) ℓ) (g : Dev Cert.InProjCtx1.nD → PrngReg), Pre_InProjCtx1 m →
    θ_run (Cert.InProjCtx1.defs (F := Bits)) (onTc (τ := Cert.InProjCtx1.τ) (Cert.InProjCtx1.main (F := Bits))) ⟨m, fun _ => 0, g⟩ (fun r => (∀ c : Dev Cert.InProjCtx1.nD,
      r.2.mem ((c.tc : Thread Cert.InProjCtx1.nD Cert.InProjCtx1.τ).loc Cert.InProjCtx1.main_arg0) = m ((c.tc : Thread Cert.InProjCtx1.nD Cert.InProjCtx1.τ).loc Cert.InProjCtx1.main_arg0)
      ∧ r.2.mem ((c.tc : Thread Cert.InProjCtx1.nD Cert.InProjCtx1.τ).loc Cert.InProjCtx1.main_arg1) = m ((c.tc : Thread Cert.InProjCtx1.nD Cert.InProjCtx1.τ).loc Cert.InProjCtx1.main_arg1)
      ∧ r.2.mem ((c.tc : Thread Cert.InProjCtx1.nD Cert.InProjCtx1.τ).loc Cert.InProjCtx1.main_arg2) = m ((c.tc : Thread Cert.InProjCtx1.nD Cert.InProjCtx1.τ).loc Cert.InProjCtx1.main_arg2)
      ∧ r.2.mem ((c.tc : Thread Cert.InProjCtx1.nD Cert.InProjCtx1.τ).loc Cert.InProjCtx1.main_arg3) = m ((c.tc : Thread Cert.InProjCtx1.nD Cert.InProjCtx1.τ).loc Cert.InProjCtx1.main_arg3))
      ∧ r.2.sem = fun _ => 0)

def quiescent_InProjCtx1Ideal [hInProjCtx1Ideal : Cert.InProjCtx1Ideal.Facts] : Prop :=
  ∀ (m : (ℓ : Loc Cert.InProjCtx1Ideal.nD Cert.InProjCtx1Ideal.τ Cert.InProjCtx1Ideal.sig) → Buf (Elt Ideal) ℓ) (g : Dev Cert.InProjCtx1Ideal.nD → PrngReg), Pre_InProjCtx1Ideal m →
    θ_run (Cert.InProjCtx1Ideal.defs (F := Ideal)) (onTc (τ := Cert.InProjCtx1Ideal.τ) (Cert.InProjCtx1Ideal.main (F := Ideal))) ⟨m, fun _ => 0, g⟩ (fun r => (∀ c : Dev Cert.InProjCtx1Ideal.nD,
      r.2.mem ((c.tc : Thread Cert.InProjCtx1Ideal.nD Cert.InProjCtx1Ideal.τ).loc Cert.InProjCtx1Ideal.main_arg0) = m ((c.tc : Thread Cert.InProjCtx1Ideal.nD Cert.InProjCtx1Ideal.τ).loc Cert.InProjCtx1Ideal.main_arg0)
      ∧ r.2.mem ((c.tc : Thread Cert.InProjCtx1Ideal.nD Cert.InProjCtx1Ideal.τ).loc Cert.InProjCtx1Ideal.main_arg1) = m ((c.tc : Thread Cert.InProjCtx1Ideal.nD Cert.InProjCtx1Ideal.τ).loc Cert.InProjCtx1Ideal.main_arg1)
      ∧ r.2.mem ((c.tc : Thread Cert.InProjCtx1Ideal.nD Cert.InProjCtx1Ideal.τ).loc Cert.InProjCtx1Ideal.main_arg2) = m ((c.tc : Thread Cert.InProjCtx1Ideal.nD Cert.InProjCtx1Ideal.τ).loc Cert.InProjCtx1Ideal.main_arg2)
      ∧ r.2.mem ((c.tc : Thread Cert.InProjCtx1Ideal.nD Cert.InProjCtx1Ideal.τ).loc Cert.InProjCtx1Ideal.main_arg3) = m ((c.tc : Thread Cert.InProjCtx1Ideal.nD Cert.InProjCtx1Ideal.τ).loc Cert.InProjCtx1Ideal.main_arg3))
      ∧ r.2.sem = fun _ => 0)

def quiescent_InProjCtxRef1Ideal [hInProjCtxRef1Ideal : Cert.InProjCtxRef1Ideal.Facts] : Prop :=
  ∀ (m : (ℓ : Loc Cert.InProjCtxRef1Ideal.nD Cert.InProjCtxRef1Ideal.τ Cert.InProjCtxRef1Ideal.sig) → Buf (Elt Ideal) ℓ) (g : Dev Cert.InProjCtxRef1Ideal.nD → PrngReg), Pre_InProjCtxRef1Ideal m →
    θ_run (Cert.InProjCtxRef1Ideal.defs (F := Ideal)) (onTc (τ := Cert.InProjCtxRef1Ideal.τ) (Cert.InProjCtxRef1Ideal.main (F := Ideal))) ⟨m, fun _ => 0, g⟩ (fun r => (∀ c : Dev Cert.InProjCtxRef1Ideal.nD,
      r.2.mem ((c.tc : Thread Cert.InProjCtxRef1Ideal.nD Cert.InProjCtxRef1Ideal.τ).loc Cert.InProjCtxRef1Ideal.main_arg0) = m ((c.tc : Thread Cert.InProjCtxRef1Ideal.nD Cert.InProjCtxRef1Ideal.τ).loc Cert.InProjCtxRef1Ideal.main_arg0)
      ∧ r.2.mem ((c.tc : Thread Cert.InProjCtxRef1Ideal.nD Cert.InProjCtxRef1Ideal.τ).loc Cert.InProjCtxRef1Ideal.main_arg1) = m ((c.tc : Thread Cert.InProjCtxRef1Ideal.nD Cert.InProjCtxRef1Ideal.τ).loc Cert.InProjCtxRef1Ideal.main_arg1)
      ∧ r.2.mem ((c.tc : Thread Cert.InProjCtxRef1Ideal.nD Cert.InProjCtxRef1Ideal.τ).loc Cert.InProjCtxRef1Ideal.main_arg2) = m ((c.tc : Thread Cert.InProjCtxRef1Ideal.nD Cert.InProjCtxRef1Ideal.τ).loc Cert.InProjCtxRef1Ideal.main_arg2)
      ∧ r.2.mem ((c.tc : Thread Cert.InProjCtxRef1Ideal.nD Cert.InProjCtxRef1Ideal.τ).loc Cert.InProjCtxRef1Ideal.main_arg3) = m ((c.tc : Thread Cert.InProjCtxRef1Ideal.nD Cert.InProjCtxRef1Ideal.τ).loc Cert.InProjCtxRef1Ideal.main_arg3))
      ∧ r.2.sem = fun _ => 0)

def quiescent_InProjCtx2 [hInProjCtx2 : Cert.InProjCtx2.Facts] : Prop :=
  ∀ (m : (ℓ : Loc Cert.InProjCtx2.nD Cert.InProjCtx2.τ Cert.InProjCtx2.sig) → Buf (Elt Bits) ℓ) (g : Dev Cert.InProjCtx2.nD → PrngReg), Pre_InProjCtx2 m →
    θ_run (Cert.InProjCtx2.defs (F := Bits)) (onTc (τ := Cert.InProjCtx2.τ) (Cert.InProjCtx2.main (F := Bits))) ⟨m, fun _ => 0, g⟩ (fun r => (∀ c : Dev Cert.InProjCtx2.nD,
      r.2.mem ((c.tc : Thread Cert.InProjCtx2.nD Cert.InProjCtx2.τ).loc Cert.InProjCtx2.main_arg0) = m ((c.tc : Thread Cert.InProjCtx2.nD Cert.InProjCtx2.τ).loc Cert.InProjCtx2.main_arg0)
      ∧ r.2.mem ((c.tc : Thread Cert.InProjCtx2.nD Cert.InProjCtx2.τ).loc Cert.InProjCtx2.main_arg1) = m ((c.tc : Thread Cert.InProjCtx2.nD Cert.InProjCtx2.τ).loc Cert.InProjCtx2.main_arg1)
      ∧ r.2.mem ((c.tc : Thread Cert.InProjCtx2.nD Cert.InProjCtx2.τ).loc Cert.InProjCtx2.main_arg2) = m ((c.tc : Thread Cert.InProjCtx2.nD Cert.InProjCtx2.τ).loc Cert.InProjCtx2.main_arg2)
      ∧ r.2.mem ((c.tc : Thread Cert.InProjCtx2.nD Cert.InProjCtx2.τ).loc Cert.InProjCtx2.main_arg3) = m ((c.tc : Thread Cert.InProjCtx2.nD Cert.InProjCtx2.τ).loc Cert.InProjCtx2.main_arg3))
      ∧ r.2.sem = fun _ => 0)

def quiescent_InProjCtx2Ideal [hInProjCtx2Ideal : Cert.InProjCtx2Ideal.Facts] : Prop :=
  ∀ (m : (ℓ : Loc Cert.InProjCtx2Ideal.nD Cert.InProjCtx2Ideal.τ Cert.InProjCtx2Ideal.sig) → Buf (Elt Ideal) ℓ) (g : Dev Cert.InProjCtx2Ideal.nD → PrngReg), Pre_InProjCtx2Ideal m →
    θ_run (Cert.InProjCtx2Ideal.defs (F := Ideal)) (onTc (τ := Cert.InProjCtx2Ideal.τ) (Cert.InProjCtx2Ideal.main (F := Ideal))) ⟨m, fun _ => 0, g⟩ (fun r => (∀ c : Dev Cert.InProjCtx2Ideal.nD,
      r.2.mem ((c.tc : Thread Cert.InProjCtx2Ideal.nD Cert.InProjCtx2Ideal.τ).loc Cert.InProjCtx2Ideal.main_arg0) = m ((c.tc : Thread Cert.InProjCtx2Ideal.nD Cert.InProjCtx2Ideal.τ).loc Cert.InProjCtx2Ideal.main_arg0)
      ∧ r.2.mem ((c.tc : Thread Cert.InProjCtx2Ideal.nD Cert.InProjCtx2Ideal.τ).loc Cert.InProjCtx2Ideal.main_arg1) = m ((c.tc : Thread Cert.InProjCtx2Ideal.nD Cert.InProjCtx2Ideal.τ).loc Cert.InProjCtx2Ideal.main_arg1)
      ∧ r.2.mem ((c.tc : Thread Cert.InProjCtx2Ideal.nD Cert.InProjCtx2Ideal.τ).loc Cert.InProjCtx2Ideal.main_arg2) = m ((c.tc : Thread Cert.InProjCtx2Ideal.nD Cert.InProjCtx2Ideal.τ).loc Cert.InProjCtx2Ideal.main_arg2)
      ∧ r.2.mem ((c.tc : Thread Cert.InProjCtx2Ideal.nD Cert.InProjCtx2Ideal.τ).loc Cert.InProjCtx2Ideal.main_arg3) = m ((c.tc : Thread Cert.InProjCtx2Ideal.nD Cert.InProjCtx2Ideal.τ).loc Cert.InProjCtx2Ideal.main_arg3))
      ∧ r.2.sem = fun _ => 0)

def quiescent_InProjCtxRef2Ideal [hInProjCtxRef2Ideal : Cert.InProjCtxRef2Ideal.Facts] : Prop :=
  ∀ (m : (ℓ : Loc Cert.InProjCtxRef2Ideal.nD Cert.InProjCtxRef2Ideal.τ Cert.InProjCtxRef2Ideal.sig) → Buf (Elt Ideal) ℓ) (g : Dev Cert.InProjCtxRef2Ideal.nD → PrngReg), Pre_InProjCtxRef2Ideal m →
    θ_run (Cert.InProjCtxRef2Ideal.defs (F := Ideal)) (onTc (τ := Cert.InProjCtxRef2Ideal.τ) (Cert.InProjCtxRef2Ideal.main (F := Ideal))) ⟨m, fun _ => 0, g⟩ (fun r => (∀ c : Dev Cert.InProjCtxRef2Ideal.nD,
      r.2.mem ((c.tc : Thread Cert.InProjCtxRef2Ideal.nD Cert.InProjCtxRef2Ideal.τ).loc Cert.InProjCtxRef2Ideal.main_arg0) = m ((c.tc : Thread Cert.InProjCtxRef2Ideal.nD Cert.InProjCtxRef2Ideal.τ).loc Cert.InProjCtxRef2Ideal.main_arg0)
      ∧ r.2.mem ((c.tc : Thread Cert.InProjCtxRef2Ideal.nD Cert.InProjCtxRef2Ideal.τ).loc Cert.InProjCtxRef2Ideal.main_arg1) = m ((c.tc : Thread Cert.InProjCtxRef2Ideal.nD Cert.InProjCtxRef2Ideal.τ).loc Cert.InProjCtxRef2Ideal.main_arg1)
      ∧ r.2.mem ((c.tc : Thread Cert.InProjCtxRef2Ideal.nD Cert.InProjCtxRef2Ideal.τ).loc Cert.InProjCtxRef2Ideal.main_arg2) = m ((c.tc : Thread Cert.InProjCtxRef2Ideal.nD Cert.InProjCtxRef2Ideal.τ).loc Cert.InProjCtxRef2Ideal.main_arg2)
      ∧ r.2.mem ((c.tc : Thread Cert.InProjCtxRef2Ideal.nD Cert.InProjCtxRef2Ideal.τ).loc Cert.InProjCtxRef2Ideal.main_arg3) = m ((c.tc : Thread Cert.InProjCtxRef2Ideal.nD Cert.InProjCtxRef2Ideal.τ).loc Cert.InProjCtxRef2Ideal.main_arg3))
      ∧ r.2.sem = fun _ => 0)

def quiescent_InProjCtx3 [hInProjCtx3 : Cert.InProjCtx3.Facts] : Prop :=
  ∀ (m : (ℓ : Loc Cert.InProjCtx3.nD Cert.InProjCtx3.τ Cert.InProjCtx3.sig) → Buf (Elt Bits) ℓ) (g : Dev Cert.InProjCtx3.nD → PrngReg), Pre_InProjCtx3 m →
    θ_run (Cert.InProjCtx3.defs (F := Bits)) (onTc (τ := Cert.InProjCtx3.τ) (Cert.InProjCtx3.main (F := Bits))) ⟨m, fun _ => 0, g⟩ (fun r => (∀ c : Dev Cert.InProjCtx3.nD,
      r.2.mem ((c.tc : Thread Cert.InProjCtx3.nD Cert.InProjCtx3.τ).loc Cert.InProjCtx3.main_arg0) = m ((c.tc : Thread Cert.InProjCtx3.nD Cert.InProjCtx3.τ).loc Cert.InProjCtx3.main_arg0)
      ∧ r.2.mem ((c.tc : Thread Cert.InProjCtx3.nD Cert.InProjCtx3.τ).loc Cert.InProjCtx3.main_arg1) = m ((c.tc : Thread Cert.InProjCtx3.nD Cert.InProjCtx3.τ).loc Cert.InProjCtx3.main_arg1)
      ∧ r.2.mem ((c.tc : Thread Cert.InProjCtx3.nD Cert.InProjCtx3.τ).loc Cert.InProjCtx3.main_arg2) = m ((c.tc : Thread Cert.InProjCtx3.nD Cert.InProjCtx3.τ).loc Cert.InProjCtx3.main_arg2)
      ∧ r.2.mem ((c.tc : Thread Cert.InProjCtx3.nD Cert.InProjCtx3.τ).loc Cert.InProjCtx3.main_arg3) = m ((c.tc : Thread Cert.InProjCtx3.nD Cert.InProjCtx3.τ).loc Cert.InProjCtx3.main_arg3))
      ∧ r.2.sem = fun _ => 0)

def quiescent_InProjCtx3Ideal [hInProjCtx3Ideal : Cert.InProjCtx3Ideal.Facts] : Prop :=
  ∀ (m : (ℓ : Loc Cert.InProjCtx3Ideal.nD Cert.InProjCtx3Ideal.τ Cert.InProjCtx3Ideal.sig) → Buf (Elt Ideal) ℓ) (g : Dev Cert.InProjCtx3Ideal.nD → PrngReg), Pre_InProjCtx3Ideal m →
    θ_run (Cert.InProjCtx3Ideal.defs (F := Ideal)) (onTc (τ := Cert.InProjCtx3Ideal.τ) (Cert.InProjCtx3Ideal.main (F := Ideal))) ⟨m, fun _ => 0, g⟩ (fun r => (∀ c : Dev Cert.InProjCtx3Ideal.nD,
      r.2.mem ((c.tc : Thread Cert.InProjCtx3Ideal.nD Cert.InProjCtx3Ideal.τ).loc Cert.InProjCtx3Ideal.main_arg0) = m ((c.tc : Thread Cert.InProjCtx3Ideal.nD Cert.InProjCtx3Ideal.τ).loc Cert.InProjCtx3Ideal.main_arg0)
      ∧ r.2.mem ((c.tc : Thread Cert.InProjCtx3Ideal.nD Cert.InProjCtx3Ideal.τ).loc Cert.InProjCtx3Ideal.main_arg1) = m ((c.tc : Thread Cert.InProjCtx3Ideal.nD Cert.InProjCtx3Ideal.τ).loc Cert.InProjCtx3Ideal.main_arg1)
      ∧ r.2.mem ((c.tc : Thread Cert.InProjCtx3Ideal.nD Cert.InProjCtx3Ideal.τ).loc Cert.InProjCtx3Ideal.main_arg2) = m ((c.tc : Thread Cert.InProjCtx3Ideal.nD Cert.InProjCtx3Ideal.τ).loc Cert.InProjCtx3Ideal.main_arg2)
      ∧ r.2.mem ((c.tc : Thread Cert.InProjCtx3Ideal.nD Cert.InProjCtx3Ideal.τ).loc Cert.InProjCtx3Ideal.main_arg3) = m ((c.tc : Thread Cert.InProjCtx3Ideal.nD Cert.InProjCtx3Ideal.τ).loc Cert.InProjCtx3Ideal.main_arg3))
      ∧ r.2.sem = fun _ => 0)

def quiescent_InProjCtxRef3Ideal [hInProjCtxRef3Ideal : Cert.InProjCtxRef3Ideal.Facts] : Prop :=
  ∀ (m : (ℓ : Loc Cert.InProjCtxRef3Ideal.nD Cert.InProjCtxRef3Ideal.τ Cert.InProjCtxRef3Ideal.sig) → Buf (Elt Ideal) ℓ) (g : Dev Cert.InProjCtxRef3Ideal.nD → PrngReg), Pre_InProjCtxRef3Ideal m →
    θ_run (Cert.InProjCtxRef3Ideal.defs (F := Ideal)) (onTc (τ := Cert.InProjCtxRef3Ideal.τ) (Cert.InProjCtxRef3Ideal.main (F := Ideal))) ⟨m, fun _ => 0, g⟩ (fun r => (∀ c : Dev Cert.InProjCtxRef3Ideal.nD,
      r.2.mem ((c.tc : Thread Cert.InProjCtxRef3Ideal.nD Cert.InProjCtxRef3Ideal.τ).loc Cert.InProjCtxRef3Ideal.main_arg0) = m ((c.tc : Thread Cert.InProjCtxRef3Ideal.nD Cert.InProjCtxRef3Ideal.τ).loc Cert.InProjCtxRef3Ideal.main_arg0)
      ∧ r.2.mem ((c.tc : Thread Cert.InProjCtxRef3Ideal.nD Cert.InProjCtxRef3Ideal.τ).loc Cert.InProjCtxRef3Ideal.main_arg1) = m ((c.tc : Thread Cert.InProjCtxRef3Ideal.nD Cert.InProjCtxRef3Ideal.τ).loc Cert.InProjCtxRef3Ideal.main_arg1)
      ∧ r.2.mem ((c.tc : Thread Cert.InProjCtxRef3Ideal.nD Cert.InProjCtxRef3Ideal.τ).loc Cert.InProjCtxRef3Ideal.main_arg2) = m ((c.tc : Thread Cert.InProjCtxRef3Ideal.nD Cert.InProjCtxRef3Ideal.τ).loc Cert.InProjCtxRef3Ideal.main_arg2)
      ∧ r.2.mem ((c.tc : Thread Cert.InProjCtxRef3Ideal.nD Cert.InProjCtxRef3Ideal.τ).loc Cert.InProjCtxRef3Ideal.main_arg3) = m ((c.tc : Thread Cert.InProjCtxRef3Ideal.nD Cert.InProjCtxRef3Ideal.τ).loc Cert.InProjCtxRef3Ideal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Pos [hPos : Cert.Pos.Facts] : Prop :=
  ∀ (m : (ℓ : Loc Cert.Pos.nD Cert.Pos.τ Cert.Pos.sig) → Buf (Elt Bits) ℓ) (g : Dev Cert.Pos.nD → PrngReg), Pre_Pos m →
    θ_run (Cert.Pos.defs (F := Bits)) (onTc (τ := Cert.Pos.τ) (Cert.Pos.main (F := Bits))) ⟨m, fun _ => 0, g⟩ (fun r => (∀ c : Dev Cert.Pos.nD,
      r.2.mem ((c.tc : Thread Cert.Pos.nD Cert.Pos.τ).loc Cert.Pos.main_arg0) = m ((c.tc : Thread Cert.Pos.nD Cert.Pos.τ).loc Cert.Pos.main_arg0)
      ∧ r.2.mem ((c.tc : Thread Cert.Pos.nD Cert.Pos.τ).loc Cert.Pos.main_arg1) = m ((c.tc : Thread Cert.Pos.nD Cert.Pos.τ).loc Cert.Pos.main_arg1))
      ∧ r.2.sem = fun _ => 0)

def quiescent_PosIdeal [hPosIdeal : Cert.PosIdeal.Facts] : Prop :=
  ∀ (m : (ℓ : Loc Cert.PosIdeal.nD Cert.PosIdeal.τ Cert.PosIdeal.sig) → Buf (Elt Ideal) ℓ) (g : Dev Cert.PosIdeal.nD → PrngReg), Pre_PosIdeal m →
    θ_run (Cert.PosIdeal.defs (F := Ideal)) (onTc (τ := Cert.PosIdeal.τ) (Cert.PosIdeal.main (F := Ideal))) ⟨m, fun _ => 0, g⟩ (fun r => (∀ c : Dev Cert.PosIdeal.nD,
      r.2.mem ((c.tc : Thread Cert.PosIdeal.nD Cert.PosIdeal.τ).loc Cert.PosIdeal.main_arg0) = m ((c.tc : Thread Cert.PosIdeal.nD Cert.PosIdeal.τ).loc Cert.PosIdeal.main_arg0)
      ∧ r.2.mem ((c.tc : Thread Cert.PosIdeal.nD Cert.PosIdeal.τ).loc Cert.PosIdeal.main_arg1) = m ((c.tc : Thread Cert.PosIdeal.nD Cert.PosIdeal.τ).loc Cert.PosIdeal.main_arg1))
      ∧ r.2.sem = fun _ => 0)

def quiescent_PosRefIdeal [hPosRefIdeal : Cert.PosRefIdeal.Facts] : Prop :=
  ∀ (m : (ℓ : Loc Cert.PosRefIdeal.nD Cert.PosRefIdeal.τ Cert.PosRefIdeal.sig) → Buf (Elt Ideal) ℓ) (g : Dev Cert.PosRefIdeal.nD → PrngReg), Pre_PosRefIdeal m →
    θ_run (Cert.PosRefIdeal.defs (F := Ideal)) (onTc (τ := Cert.PosRefIdeal.τ) (Cert.PosRefIdeal.main (F := Ideal))) ⟨m, fun _ => 0, g⟩ (fun r => (∀ c : Dev Cert.PosRefIdeal.nD,
      r.2.mem ((c.tc : Thread Cert.PosRefIdeal.nD Cert.PosRefIdeal.τ).loc Cert.PosRefIdeal.main_arg0) = m ((c.tc : Thread Cert.PosRefIdeal.nD Cert.PosRefIdeal.τ).loc Cert.PosRefIdeal.main_arg0)
      ∧ r.2.mem ((c.tc : Thread Cert.PosRefIdeal.nD Cert.PosRefIdeal.τ).loc Cert.PosRefIdeal.main_arg1) = m ((c.tc : Thread Cert.PosRefIdeal.nD Cert.PosRefIdeal.τ).loc Cert.PosRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v32) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)) →
    ∃ (v0 : (c : Dev Cert.LruIdeal.nD) → Buf (Elt Ideal) ((c.tc : Thread Cert.LruIdeal.nD Cert.LruIdeal.τ).loc Cert.LruIdeal.main_v48_0)) (v1 : (c : Dev Cert.LruIdeal.nD) → Buf (Elt Ideal) ((c.tc : Thread Cert.LruIdeal.nD Cert.LruIdeal.τ).loc Cert.LruIdeal.main_v48_1)) (v2 : (c : Dev Cert.LruIdeal.nD) → Buf (Elt Ideal) ((c.tc : Thread Cert.LruIdeal.nD Cert.LruIdeal.τ).loc Cert.LruIdeal.main_v48_2)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v48_0) = v0 c
          ∧ r.2.mem ((c.tc : Thread Cert.LruIdeal.nD Cert.LruIdeal.τ).loc Cert.LruIdeal.main_v48_1) = v1 c
          ∧ r.2.mem ((c.tc : Thread Cert.LruIdeal.nD Cert.LruIdeal.τ).loc Cert.LruIdeal.main_v48_2) = v2 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v146) = v0 c
          ∧ r.2.mem ((c.tc : Thread Cert.LruRefIdeal.nD Cert.LruRefIdeal.τ).loc Cert.LruRefIdeal.main_v147) = v1 c
          ∧ r.2.mem ((c.tc : Thread Cert.LruRefIdeal.nD Cert.LruRefIdeal.τ).loc Cert.LruRefIdeal.main_v148) = v2 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8))

def preserves_Mlp0_Mlp0Ideal : Prop :=
  True

def algebraic_Mlp0Ideal_MlpRef0Ideal [hMlp0Ideal : Cert.Mlp0Ideal.Facts] [hMlpRef0Ideal : Cert.MlpRef0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg)
    (m' : (ℓ : Loc Cert.MlpRef0Ideal.nD Cert.MlpRef0Ideal.τ Cert.MlpRef0Ideal.sig) → Buf (Elt Ideal) ℓ) (g' : Dev Cert.MlpRef0Ideal.nD → PrngReg), Pre_Mlp0Ideal m →
    (∀ c : Dev Cert.Mlp0Ideal.nD,
      m' ((c.tc : Thread Cert.MlpRef0Ideal.nD Cert.MlpRef0Ideal.τ).loc Cert.MlpRef0Ideal.main_arg0) = m ((c.tc : Thread Cert.Mlp0Ideal.nD Cert.Mlp0Ideal.τ).loc Cert.Mlp0Ideal.main_arg0)
      ∧ m' ((c.tc : Thread Cert.MlpRef0Ideal.nD Cert.MlpRef0Ideal.τ).loc Cert.MlpRef0Ideal.main_arg1) = m ((c.tc : Thread Cert.Mlp0Ideal.nD Cert.Mlp0Ideal.τ).loc Cert.Mlp0Ideal.main_arg1)
      ∧ m' ((c.tc : Thread Cert.MlpRef0Ideal.nD Cert.MlpRef0Ideal.τ).loc Cert.MlpRef0Ideal.main_arg2) = m ((c.tc : Thread Cert.Mlp0Ideal.nD Cert.Mlp0Ideal.τ).loc Cert.Mlp0Ideal.main_arg2)
      ∧ m' ((c.tc : Thread Cert.MlpRef0Ideal.nD Cert.MlpRef0Ideal.τ).loc Cert.MlpRef0Ideal.main_arg3) = m ((c.tc : Thread Cert.Mlp0Ideal.nD Cert.Mlp0Ideal.τ).loc Cert.Mlp0Ideal.main_arg3)
      ∧ m' ((c.tc : Thread Cert.MlpRef0Ideal.nD Cert.MlpRef0Ideal.τ).loc Cert.MlpRef0Ideal.main_arg4) = m ((c.tc : Thread Cert.Mlp0Ideal.nD Cert.Mlp0Ideal.τ).loc Cert.Mlp0Ideal.main_arg4)
      ∧ m' ((c.tc : Thread Cert.MlpRef0Ideal.nD Cert.MlpRef0Ideal.τ).loc Cert.MlpRef0Ideal.main_arg5) = m ((c.tc : Thread Cert.Mlp0Ideal.nD Cert.Mlp0Ideal.τ).loc Cert.Mlp0Ideal.main_arg5)) →
    ∃ (v0 : (c : Dev Cert.Mlp0Ideal.nD) → Buf (Elt Ideal) ((c.tc : Thread Cert.Mlp0Ideal.nD Cert.Mlp0Ideal.τ).loc Cert.Mlp0Ideal.main_v5)),
      θ_run (Cert.Mlp0Ideal.defs (F := Ideal)) (onTc (τ := Cert.Mlp0Ideal.τ) (Cert.Mlp0Ideal.main (F := Ideal))) ⟨m, fun _ => 0, g⟩ (fun r => ∀ c : Dev Cert.Mlp0Ideal.nD,
          r.2.mem ((c.tc : Thread Cert.Mlp0Ideal.nD Cert.Mlp0Ideal.τ).loc Cert.Mlp0Ideal.main_v5) = v0 c
          ∧ r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
          ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
          ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
          ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3)
          ∧ r.2.mem ((c.tc : Thread Cert.Mlp0Ideal.nD Cert.Mlp0Ideal.τ).loc Cert.Mlp0Ideal.main_arg4) = m ((c.tc : Thread Cert.Mlp0Ideal.nD Cert.Mlp0Ideal.τ).loc Cert.Mlp0Ideal.main_arg4)
          ∧ r.2.mem ((c.tc : Thread Cert.Mlp0Ideal.nD Cert.Mlp0Ideal.τ).loc Cert.Mlp0Ideal.main_arg5) = m ((c.tc : Thread Cert.Mlp0Ideal.nD Cert.Mlp0Ideal.τ).loc Cert.Mlp0Ideal.main_arg5))
      ∧ θ_run (Cert.MlpRef0Ideal.defs (F := Ideal)) (onTc (τ := Cert.MlpRef0Ideal.τ) (Cert.MlpRef0Ideal.main (F := Ideal))) ⟨m', fun _ => 0, g'⟩ (fun r => ∀ c : Dev Cert.MlpRef0Ideal.nD,
          r.2.mem ((c.tc : Thread Cert.MlpRef0Ideal.nD Cert.MlpRef0Ideal.τ).loc Cert.MlpRef0Ideal.main_v40) = v0 c
          ∧ r.2.mem ((c.tc : Thread Cert.MlpRef0Ideal.nD Cert.MlpRef0Ideal.τ).loc Cert.MlpRef0Ideal.main_arg0) = m' ((c.tc : Thread Cert.MlpRef0Ideal.nD Cert.MlpRef0Ideal.τ).loc Cert.MlpRef0Ideal.main_arg0)
          ∧ r.2.mem ((c.tc : Thread Cert.MlpRef0Ideal.nD Cert.MlpRef0Ideal.τ).loc Cert.MlpRef0Ideal.main_arg1) = m' ((c.tc : Thread Cert.MlpRef0Ideal.nD Cert.MlpRef0Ideal.τ).loc Cert.MlpRef0Ideal.main_arg1)
          ∧ r.2.mem ((c.tc : Thread Cert.MlpRef0Ideal.nD Cert.MlpRef0Ideal.τ).loc Cert.MlpRef0Ideal.main_arg2) = m' ((c.tc : Thread Cert.MlpRef0Ideal.nD Cert.MlpRef0Ideal.τ).loc Cert.MlpRef0Ideal.main_arg2)
          ∧ r.2.mem ((c.tc : Thread Cert.MlpRef0Ideal.nD Cert.MlpRef0Ideal.τ).loc Cert.MlpRef0Ideal.main_arg3) = m' ((c.tc : Thread Cert.MlpRef0Ideal.nD Cert.MlpRef0Ideal.τ).loc Cert.MlpRef0Ideal.main_arg3)
          ∧ r.2.mem ((c.tc : Thread Cert.MlpRef0Ideal.nD Cert.MlpRef0Ideal.τ).loc Cert.MlpRef0Ideal.main_arg4) = m' ((c.tc : Thread Cert.MlpRef0Ideal.nD Cert.MlpRef0Ideal.τ).loc Cert.MlpRef0Ideal.main_arg4)
          ∧ r.2.mem ((c.tc : Thread Cert.MlpRef0Ideal.nD Cert.MlpRef0Ideal.τ).loc Cert.MlpRef0Ideal.main_arg5) = m' ((c.tc : Thread Cert.MlpRef0Ideal.nD Cert.MlpRef0Ideal.τ).loc Cert.MlpRef0Ideal.main_arg5))

def preserves_Mlp1_Mlp1Ideal : Prop :=
  True

def algebraic_Mlp1Ideal_MlpRef1Ideal [hMlp1Ideal : Cert.Mlp1Ideal.Facts] [hMlpRef1Ideal : Cert.MlpRef1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.MlpRef1Ideal.nD Cert.MlpRef1Ideal.τ Cert.MlpRef1Ideal.sig) → Buf (Elt Ideal) ℓ) (g' : Dev Cert.MlpRef1Ideal.nD → PrngReg), Pre_Mlp1Ideal m →
    (∀ c : Dev Cert.Mlp1Ideal.nD,
      m' ((c.tc : Thread Cert.MlpRef1Ideal.nD Cert.MlpRef1Ideal.τ).loc Cert.MlpRef1Ideal.main_arg0) = m ((c.tc : Thread Cert.Mlp1Ideal.nD Cert.Mlp1Ideal.τ).loc Cert.Mlp1Ideal.main_arg0)
      ∧ m' ((c.tc : Thread Cert.MlpRef1Ideal.nD Cert.MlpRef1Ideal.τ).loc Cert.MlpRef1Ideal.main_arg1) = m ((c.tc : Thread Cert.Mlp1Ideal.nD Cert.Mlp1Ideal.τ).loc Cert.Mlp1Ideal.main_arg1)
      ∧ m' ((c.tc : Thread Cert.MlpRef1Ideal.nD Cert.MlpRef1Ideal.τ).loc Cert.MlpRef1Ideal.main_arg2) = m ((c.tc : Thread Cert.Mlp1Ideal.nD Cert.Mlp1Ideal.τ).loc Cert.Mlp1Ideal.main_arg2)
      ∧ m' ((c.tc : Thread Cert.MlpRef1Ideal.nD Cert.MlpRef1Ideal.τ).loc Cert.MlpRef1Ideal.main_arg3) = m ((c.tc : Thread Cert.Mlp1Ideal.nD Cert.Mlp1Ideal.τ).loc Cert.Mlp1Ideal.main_arg3)
      ∧ m' ((c.tc : Thread Cert.MlpRef1Ideal.nD Cert.MlpRef1Ideal.τ).loc Cert.MlpRef1Ideal.main_arg4) = m ((c.tc : Thread Cert.Mlp1Ideal.nD Cert.Mlp1Ideal.τ).loc Cert.Mlp1Ideal.main_arg4)
      ∧ m' ((c.tc : Thread Cert.MlpRef1Ideal.nD Cert.MlpRef1Ideal.τ).loc Cert.MlpRef1Ideal.main_arg5) = m ((c.tc : Thread Cert.Mlp1Ideal.nD Cert.Mlp1Ideal.τ).loc Cert.Mlp1Ideal.main_arg5)) →
    ∃ (v0 : (c : Dev Cert.Mlp1Ideal.nD) → Buf (Elt Ideal) ((c.tc : Thread Cert.Mlp1Ideal.nD Cert.Mlp1Ideal.τ).loc Cert.Mlp1Ideal.main_v5)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v5) = v0 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
          ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3)
          ∧ r.2.mem ((c.tc : Thread Cert.Mlp1Ideal.nD Cert.Mlp1Ideal.τ).loc Cert.Mlp1Ideal.main_arg4) = m ((c.tc : Thread Cert.Mlp1Ideal.nD Cert.Mlp1Ideal.τ).loc Cert.Mlp1Ideal.main_arg4)
          ∧ r.2.mem ((c.tc : Thread Cert.Mlp1Ideal.nD Cert.Mlp1Ideal.τ).loc Cert.Mlp1Ideal.main_arg5) = m ((c.tc : Thread Cert.Mlp1Ideal.nD Cert.Mlp1Ideal.τ).loc Cert.Mlp1Ideal.main_arg5))
      ∧ θ_run (Cert.MlpRef1Ideal.defs (F := Ideal)) (onTc (τ := Cert.MlpRef1Ideal.τ) (Cert.MlpRef1Ideal.main (F := Ideal))) ⟨m', fun _ => 0, g'⟩ (fun r => ∀ c : Dev Cert.MlpRef1Ideal.nD,
          r.2.mem ((c.tc : Thread Cert.MlpRef1Ideal.nD Cert.MlpRef1Ideal.τ).loc Cert.MlpRef1Ideal.main_v40) = v0 c
          ∧ r.2.mem ((c.tc : Thread Cert.MlpRef1Ideal.nD Cert.MlpRef1Ideal.τ).loc Cert.MlpRef1Ideal.main_arg0) = m' ((c.tc : Thread Cert.MlpRef1Ideal.nD Cert.MlpRef1Ideal.τ).loc Cert.MlpRef1Ideal.main_arg0)
          ∧ r.2.mem ((c.tc : Thread Cert.MlpRef1Ideal.nD Cert.MlpRef1Ideal.τ).loc Cert.MlpRef1Ideal.main_arg1) = m' ((c.tc : Thread Cert.MlpRef1Ideal.nD Cert.MlpRef1Ideal.τ).loc Cert.MlpRef1Ideal.main_arg1)
          ∧ r.2.mem ((c.tc : Thread Cert.MlpRef1Ideal.nD Cert.MlpRef1Ideal.τ).loc Cert.MlpRef1Ideal.main_arg2) = m' ((c.tc : Thread Cert.MlpRef1Ideal.nD Cert.MlpRef1Ideal.τ).loc Cert.MlpRef1Ideal.main_arg2)
          ∧ r.2.mem ((c.tc : Thread Cert.MlpRef1Ideal.nD Cert.MlpRef1Ideal.τ).loc Cert.MlpRef1Ideal.main_arg3) = m' ((c.tc : Thread Cert.MlpRef1Ideal.nD Cert.MlpRef1Ideal.τ).loc Cert.MlpRef1Ideal.main_arg3)
          ∧ r.2.mem ((c.tc : Thread Cert.MlpRef1Ideal.nD Cert.MlpRef1Ideal.τ).loc Cert.MlpRef1Ideal.main_arg4) = m' ((c.tc : Thread Cert.MlpRef1Ideal.nD Cert.MlpRef1Ideal.τ).loc Cert.MlpRef1Ideal.main_arg4)
          ∧ r.2.mem ((c.tc : Thread Cert.MlpRef1Ideal.nD Cert.MlpRef1Ideal.τ).loc Cert.MlpRef1Ideal.main_arg5) = m' ((c.tc : Thread Cert.MlpRef1Ideal.nD Cert.MlpRef1Ideal.τ).loc Cert.MlpRef1Ideal.main_arg5))

def preserves_Mlp2_Mlp2Ideal : Prop :=
  True

def algebraic_Mlp2Ideal_MlpRef2Ideal [hMlp2Ideal : Cert.Mlp2Ideal.Facts] [hMlpRef2Ideal : Cert.MlpRef2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.MlpRef2Ideal.nD Cert.MlpRef2Ideal.τ Cert.MlpRef2Ideal.sig) → Buf (Elt Ideal) ℓ) (g' : Dev Cert.MlpRef2Ideal.nD → PrngReg), Pre_Mlp2Ideal m →
    (∀ c : Dev Cert.Mlp2Ideal.nD,
      m' ((c.tc : Thread Cert.MlpRef2Ideal.nD Cert.MlpRef2Ideal.τ).loc Cert.MlpRef2Ideal.main_arg0) = m ((c.tc : Thread Cert.Mlp2Ideal.nD Cert.Mlp2Ideal.τ).loc Cert.Mlp2Ideal.main_arg0)
      ∧ m' ((c.tc : Thread Cert.MlpRef2Ideal.nD Cert.MlpRef2Ideal.τ).loc Cert.MlpRef2Ideal.main_arg1) = m ((c.tc : Thread Cert.Mlp2Ideal.nD Cert.Mlp2Ideal.τ).loc Cert.Mlp2Ideal.main_arg1)
      ∧ m' ((c.tc : Thread Cert.MlpRef2Ideal.nD Cert.MlpRef2Ideal.τ).loc Cert.MlpRef2Ideal.main_arg2) = m ((c.tc : Thread Cert.Mlp2Ideal.nD Cert.Mlp2Ideal.τ).loc Cert.Mlp2Ideal.main_arg2)
      ∧ m' ((c.tc : Thread Cert.MlpRef2Ideal.nD Cert.MlpRef2Ideal.τ).loc Cert.MlpRef2Ideal.main_arg3) = m ((c.tc : Thread Cert.Mlp2Ideal.nD Cert.Mlp2Ideal.τ).loc Cert.Mlp2Ideal.main_arg3)
      ∧ m' ((c.tc : Thread Cert.MlpRef2Ideal.nD Cert.MlpRef2Ideal.τ).loc Cert.MlpRef2Ideal.main_arg4) = m ((c.tc : Thread Cert.Mlp2Ideal.nD Cert.Mlp2Ideal.τ).loc Cert.Mlp2Ideal.main_arg4)
      ∧ m' ((c.tc : Thread Cert.MlpRef2Ideal.nD Cert.MlpRef2Ideal.τ).loc Cert.MlpRef2Ideal.main_arg5) = m ((c.tc : Thread Cert.Mlp2Ideal.nD Cert.Mlp2Ideal.τ).loc Cert.Mlp2Ideal.main_arg5)) →
    ∃ (v0 : (c : Dev Cert.Mlp2Ideal.nD) → Buf (Elt Ideal) ((c.tc : Thread Cert.Mlp2Ideal.nD Cert.Mlp2Ideal.τ).loc Cert.Mlp2Ideal.main_v5)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v5) = v0 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
          ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
          ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3)
          ∧ r.2.mem ((c.tc : Thread Cert.Mlp2Ideal.nD Cert.Mlp2Ideal.τ).loc Cert.Mlp2Ideal.main_arg4) = m ((c.tc : Thread Cert.Mlp2Ideal.nD Cert.Mlp2Ideal.τ).loc Cert.Mlp2Ideal.main_arg4)
          ∧ r.2.mem ((c.tc : Thread Cert.Mlp2Ideal.nD Cert.Mlp2Ideal.τ).loc Cert.Mlp2Ideal.main_arg5) = m ((c.tc : Thread Cert.Mlp2Ideal.nD Cert.Mlp2Ideal.τ).loc Cert.Mlp2Ideal.main_arg5))
      ∧ θ_run (Cert.MlpRef2Ideal.defs (F := Ideal)) (onTc (τ := Cert.MlpRef2Ideal.τ) (Cert.MlpRef2Ideal.main (F := Ideal))) ⟨m', fun _ => 0, g'⟩ (fun r => ∀ c : Dev Cert.MlpRef2Ideal.nD,
          r.2.mem ((c.tc : Thread Cert.MlpRef2Ideal.nD Cert.MlpRef2Ideal.τ).loc Cert.MlpRef2Ideal.main_v40) = v0 c
          ∧ r.2.mem ((c.tc : Thread Cert.MlpRef2Ideal.nD Cert.MlpRef2Ideal.τ).loc Cert.MlpRef2Ideal.main_arg0) = m' ((c.tc : Thread Cert.MlpRef2Ideal.nD Cert.MlpRef2Ideal.τ).loc Cert.MlpRef2Ideal.main_arg0)
          ∧ r.2.mem ((c.tc : Thread Cert.MlpRef2Ideal.nD Cert.MlpRef2Ideal.τ).loc Cert.MlpRef2Ideal.main_arg1) = m' ((c.tc : Thread Cert.MlpRef2Ideal.nD Cert.MlpRef2Ideal.τ).loc Cert.MlpRef2Ideal.main_arg1)
          ∧ r.2.mem ((c.tc : Thread Cert.MlpRef2Ideal.nD Cert.MlpRef2Ideal.τ).loc Cert.MlpRef2Ideal.main_arg2) = m' ((c.tc : Thread Cert.MlpRef2Ideal.nD Cert.MlpRef2Ideal.τ).loc Cert.MlpRef2Ideal.main_arg2)
          ∧ r.2.mem ((c.tc : Thread Cert.MlpRef2Ideal.nD Cert.MlpRef2Ideal.τ).loc Cert.MlpRef2Ideal.main_arg3) = m' ((c.tc : Thread Cert.MlpRef2Ideal.nD Cert.MlpRef2Ideal.τ).loc Cert.MlpRef2Ideal.main_arg3)
          ∧ r.2.mem ((c.tc : Thread Cert.MlpRef2Ideal.nD Cert.MlpRef2Ideal.τ).loc Cert.MlpRef2Ideal.main_arg4) = m' ((c.tc : Thread Cert.MlpRef2Ideal.nD Cert.MlpRef2Ideal.τ).loc Cert.MlpRef2Ideal.main_arg4)
          ∧ r.2.mem ((c.tc : Thread Cert.MlpRef2Ideal.nD Cert.MlpRef2Ideal.τ).loc Cert.MlpRef2Ideal.main_arg5) = m' ((c.tc : Thread Cert.MlpRef2Ideal.nD Cert.MlpRef2Ideal.τ).loc Cert.MlpRef2Ideal.main_arg5))

def preserves_InProj0_InProj0Ideal : Prop :=
  True

def algebraic_InProj0Ideal_InProjRef0Ideal [hInProj0Ideal : Cert.InProj0Ideal.Facts] [hInProjRef0Ideal : Cert.InProjRef0Ideal.Facts] : Prop :=
  ∀ (m : (ℓ : Loc Cert.InProj0Ideal.nD Cert.InProj0Ideal.τ Cert.InProj0Ideal.sig) → Buf (Elt Ideal) ℓ) (g : Dev Cert.InProj0Ideal.nD → PrngReg)
    (m' : (ℓ : Loc Cert.InProjRef0Ideal.nD Cert.InProjRef0Ideal.τ Cert.InProjRef0Ideal.sig) → Buf (Elt Ideal) ℓ) (g' : Dev Cert.InProjRef0Ideal.nD → PrngReg), Pre_InProj0Ideal m →
    (∀ c : Dev Cert.InProj0Ideal.nD,
      m' ((c.tc : Thread Cert.InProjRef0Ideal.nD Cert.InProjRef0Ideal.τ).loc Cert.InProjRef0Ideal.main_arg0) = m ((c.tc : Thread Cert.InProj0Ideal.nD Cert.InProj0Ideal.τ).loc Cert.InProj0Ideal.main_arg0)
      ∧ m' ((c.tc : Thread Cert.InProjRef0Ideal.nD Cert.InProjRef0Ideal.τ).loc Cert.InProjRef0Ideal.main_arg1) = m ((c.tc : Thread Cert.InProj0Ideal.nD Cert.InProj0Ideal.τ).loc Cert.InProj0Ideal.main_arg1)
      ∧ m' ((c.tc : Thread Cert.InProjRef0Ideal.nD Cert.InProjRef0Ideal.τ).loc Cert.InProjRef0Ideal.main_arg2) = m ((c.tc : Thread Cert.InProj0Ideal.nD Cert.InProj0Ideal.τ).loc Cert.InProj0Ideal.main_arg2)
      ∧ m' ((c.tc : Thread Cert.InProjRef0Ideal.nD Cert.InProjRef0Ideal.τ).loc Cert.InProjRef0Ideal.main_arg3) = m ((c.tc : Thread Cert.InProj0Ideal.nD Cert.InProj0Ideal.τ).loc Cert.InProj0Ideal.main_arg3)) →
    ∃ (v0 : (c : Dev Cert.InProj0Ideal.nD) → Buf (Elt Ideal) ((c.tc : Thread Cert.InProj0Ideal.nD Cert.InProj0Ideal.τ).loc Cert.InProj0Ideal.main_v3)),
      θ_run (Cert.InProj0Ideal.defs (F := Ideal)) (onTc (τ := Cert.InProj0Ideal.τ) (Cert.InProj0Ideal.main (F := Ideal))) ⟨m, fun _ => 0, g⟩ (fun r => ∀ c : Dev Cert.InProj0Ideal.nD,
          r.2.mem ((c.tc : Thread Cert.InProj0Ideal.nD Cert.InProj0Ideal.τ).loc Cert.InProj0Ideal.main_v3) = v0 c
          ∧ r.2.mem ((c.tc : Thread Cert.InProj0Ideal.nD Cert.InProj0Ideal.τ).loc Cert.InProj0Ideal.main_arg0) = m ((c.tc : Thread Cert.InProj0Ideal.nD Cert.InProj0Ideal.τ).loc Cert.InProj0Ideal.main_arg0)
          ∧ r.2.mem ((c.tc : Thread Cert.InProj0Ideal.nD Cert.InProj0Ideal.τ).loc Cert.InProj0Ideal.main_arg1) = m ((c.tc : Thread Cert.InProj0Ideal.nD Cert.InProj0Ideal.τ).loc Cert.InProj0Ideal.main_arg1)
          ∧ r.2.mem ((c.tc : Thread Cert.InProj0Ideal.nD Cert.InProj0Ideal.τ).loc Cert.InProj0Ideal.main_arg2) = m ((c.tc : Thread Cert.InProj0Ideal.nD Cert.InProj0Ideal.τ).loc Cert.InProj0Ideal.main_arg2)
          ∧ r.2.mem ((c.tc : Thread Cert.InProj0Ideal.nD Cert.InProj0Ideal.τ).loc Cert.InProj0Ideal.main_arg3) = m ((c.tc : Thread Cert.InProj0Ideal.nD Cert.InProj0Ideal.τ).loc Cert.InProj0Ideal.main_arg3))
      ∧ θ_run (Cert.InProjRef0Ideal.defs (F := Ideal)) (onTc (τ := Cert.InProjRef0Ideal.τ) (Cert.InProjRef0Ideal.main (F := Ideal))) ⟨m', fun _ => 0, g'⟩ (fun r => ∀ c : Dev Cert.InProjRef0Ideal.nD,
          r.2.mem ((c.tc : Thread Cert.InProjRef0Ideal.nD Cert.InProjRef0Ideal.τ).loc Cert.InProjRef0Ideal.main_v32) = v0 c
          ∧ r.2.mem ((c.tc : Thread Cert.InProjRef0Ideal.nD Cert.InProjRef0Ideal.τ).loc Cert.InProjRef0Ideal.main_arg0) = m' ((c.tc : Thread Cert.InProjRef0Ideal.nD Cert.InProjRef0Ideal.τ).loc Cert.InProjRef0Ideal.main_arg0)
          ∧ r.2.mem ((c.tc : Thread Cert.InProjRef0Ideal.nD Cert.InProjRef0Ideal.τ).loc Cert.InProjRef0Ideal.main_arg1) = m' ((c.tc : Thread Cert.InProjRef0Ideal.nD Cert.InProjRef0Ideal.τ).loc Cert.InProjRef0Ideal.main_arg1)
          ∧ r.2.mem ((c.tc : Thread Cert.InProjRef0Ideal.nD Cert.InProjRef0Ideal.τ).loc Cert.InProjRef0Ideal.main_arg2) = m' ((c.tc : Thread Cert.InProjRef0Ideal.nD Cert.InProjRef0Ideal.τ).loc Cert.InProjRef0Ideal.main_arg2)
          ∧ r.2.mem ((c.tc : Thread Cert.InProjRef0Ideal.nD Cert.InProjRef0Ideal.τ).loc Cert.InProjRef0Ideal.main_arg3) = m' ((c.tc : Thread Cert.InProjRef0Ideal.nD Cert.InProjRef0Ideal.τ).loc Cert.InProjRef0Ideal.main_arg3))

def preserves_InProj1_InProj1Ideal : Prop :=
  True

def algebraic_InProj1Ideal_InProjRef1Ideal [hInProj1Ideal : Cert.InProj1Ideal.Facts] [hInProjRef1Ideal : Cert.InProjRef1Ideal.Facts] : Prop :=
  ∀ (m : (ℓ : Loc Cert.InProj1Ideal.nD Cert.InProj1Ideal.τ Cert.InProj1Ideal.sig) → Buf (Elt Ideal) ℓ) (g : Dev Cert.InProj1Ideal.nD → PrngReg)
    (m' : (ℓ : Loc Cert.InProjRef1Ideal.nD Cert.InProjRef1Ideal.τ Cert.InProjRef1Ideal.sig) → Buf (Elt Ideal) ℓ) (g' : Dev Cert.InProjRef1Ideal.nD → PrngReg), Pre_InProj1Ideal m →
    (∀ c : Dev Cert.InProj1Ideal.nD,
      m' ((c.tc : Thread Cert.InProjRef1Ideal.nD Cert.InProjRef1Ideal.τ).loc Cert.InProjRef1Ideal.main_arg0) = m ((c.tc : Thread Cert.InProj1Ideal.nD Cert.InProj1Ideal.τ).loc Cert.InProj1Ideal.main_arg0)
      ∧ m' ((c.tc : Thread Cert.InProjRef1Ideal.nD Cert.InProjRef1Ideal.τ).loc Cert.InProjRef1Ideal.main_arg1) = m ((c.tc : Thread Cert.InProj1Ideal.nD Cert.InProj1Ideal.τ).loc Cert.InProj1Ideal.main_arg1)
      ∧ m' ((c.tc : Thread Cert.InProjRef1Ideal.nD Cert.InProjRef1Ideal.τ).loc Cert.InProjRef1Ideal.main_arg2) = m ((c.tc : Thread Cert.InProj1Ideal.nD Cert.InProj1Ideal.τ).loc Cert.InProj1Ideal.main_arg2)
      ∧ m' ((c.tc : Thread Cert.InProjRef1Ideal.nD Cert.InProjRef1Ideal.τ).loc Cert.InProjRef1Ideal.main_arg3) = m ((c.tc : Thread Cert.InProj1Ideal.nD Cert.InProj1Ideal.τ).loc Cert.InProj1Ideal.main_arg3)) →
    ∃ (v0 : (c : Dev Cert.InProj1Ideal.nD) → Buf (Elt Ideal) ((c.tc : Thread Cert.InProj1Ideal.nD Cert.InProj1Ideal.τ).loc Cert.InProj1Ideal.main_v3)),
      θ_run (Cert.InProj1Ideal.defs (F := Ideal)) (onTc (τ := Cert.InProj1Ideal.τ) (Cert.InProj1Ideal.main (F := Ideal))) ⟨m, fun _ => 0, g⟩ (fun r => ∀ c : Dev Cert.InProj1Ideal.nD,
          r.2.mem ((c.tc : Thread Cert.InProj1Ideal.nD Cert.InProj1Ideal.τ).loc Cert.InProj1Ideal.main_v3) = v0 c
          ∧ r.2.mem ((c.tc : Thread Cert.InProj1Ideal.nD Cert.InProj1Ideal.τ).loc Cert.InProj1Ideal.main_arg0) = m ((c.tc : Thread Cert.InProj1Ideal.nD Cert.InProj1Ideal.τ).loc Cert.InProj1Ideal.main_arg0)
          ∧ r.2.mem ((c.tc : Thread Cert.InProj1Ideal.nD Cert.InProj1Ideal.τ).loc Cert.InProj1Ideal.main_arg1) = m ((c.tc : Thread Cert.InProj1Ideal.nD Cert.InProj1Ideal.τ).loc Cert.InProj1Ideal.main_arg1)
          ∧ r.2.mem ((c.tc : Thread Cert.InProj1Ideal.nD Cert.InProj1Ideal.τ).loc Cert.InProj1Ideal.main_arg2) = m ((c.tc : Thread Cert.InProj1Ideal.nD Cert.InProj1Ideal.τ).loc Cert.InProj1Ideal.main_arg2)
          ∧ r.2.mem ((c.tc : Thread Cert.InProj1Ideal.nD Cert.InProj1Ideal.τ).loc Cert.InProj1Ideal.main_arg3) = m ((c.tc : Thread Cert.InProj1Ideal.nD Cert.InProj1Ideal.τ).loc Cert.InProj1Ideal.main_arg3))
      ∧ θ_run (Cert.InProjRef1Ideal.defs (F := Ideal)) (onTc (τ := Cert.InProjRef1Ideal.τ) (Cert.InProjRef1Ideal.main (F := Ideal))) ⟨m', fun _ => 0, g'⟩ (fun r => ∀ c : Dev Cert.InProjRef1Ideal.nD,
          r.2.mem ((c.tc : Thread Cert.InProjRef1Ideal.nD Cert.InProjRef1Ideal.τ).loc Cert.InProjRef1Ideal.main_v32) = v0 c
          ∧ r.2.mem ((c.tc : Thread Cert.InProjRef1Ideal.nD Cert.InProjRef1Ideal.τ).loc Cert.InProjRef1Ideal.main_arg0) = m' ((c.tc : Thread Cert.InProjRef1Ideal.nD Cert.InProjRef1Ideal.τ).loc Cert.InProjRef1Ideal.main_arg0)
          ∧ r.2.mem ((c.tc : Thread Cert.InProjRef1Ideal.nD Cert.InProjRef1Ideal.τ).loc Cert.InProjRef1Ideal.main_arg1) = m' ((c.tc : Thread Cert.InProjRef1Ideal.nD Cert.InProjRef1Ideal.τ).loc Cert.InProjRef1Ideal.main_arg1)
          ∧ r.2.mem ((c.tc : Thread Cert.InProjRef1Ideal.nD Cert.InProjRef1Ideal.τ).loc Cert.InProjRef1Ideal.main_arg2) = m' ((c.tc : Thread Cert.InProjRef1Ideal.nD Cert.InProjRef1Ideal.τ).loc Cert.InProjRef1Ideal.main_arg2)
          ∧ r.2.mem ((c.tc : Thread Cert.InProjRef1Ideal.nD Cert.InProjRef1Ideal.τ).loc Cert.InProjRef1Ideal.main_arg3) = m' ((c.tc : Thread Cert.InProjRef1Ideal.nD Cert.InProjRef1Ideal.τ).loc Cert.InProjRef1Ideal.main_arg3))

def preserves_InProj2_InProj2Ideal : Prop :=
  True

def algebraic_InProj2Ideal_InProjRef2Ideal [hInProj2Ideal : Cert.InProj2Ideal.Facts] [hInProjRef2Ideal : Cert.InProjRef2Ideal.Facts] : Prop :=
  ∀ (m : (ℓ : Loc Cert.InProj2Ideal.nD Cert.InProj2Ideal.τ Cert.InProj2Ideal.sig) → Buf (Elt Ideal) ℓ) (g : Dev Cert.InProj2Ideal.nD → PrngReg)
    (m' : (ℓ : Loc Cert.InProjRef2Ideal.nD Cert.InProjRef2Ideal.τ Cert.InProjRef2Ideal.sig) → Buf (Elt Ideal) ℓ) (g' : Dev Cert.InProjRef2Ideal.nD → PrngReg), Pre_InProj2Ideal m →
    (∀ c : Dev Cert.InProj2Ideal.nD,
      m' ((c.tc : Thread Cert.InProjRef2Ideal.nD Cert.InProjRef2Ideal.τ).loc Cert.InProjRef2Ideal.main_arg0) = m ((c.tc : Thread Cert.InProj2Ideal.nD Cert.InProj2Ideal.τ).loc Cert.InProj2Ideal.main_arg0)
      ∧ m' ((c.tc : Thread Cert.InProjRef2Ideal.nD Cert.InProjRef2Ideal.τ).loc Cert.InProjRef2Ideal.main_arg1) = m ((c.tc : Thread Cert.InProj2Ideal.nD Cert.InProj2Ideal.τ).loc Cert.InProj2Ideal.main_arg1)
      ∧ m' ((c.tc : Thread Cert.InProjRef2Ideal.nD Cert.InProjRef2Ideal.τ).loc Cert.InProjRef2Ideal.main_arg2) = m ((c.tc : Thread Cert.InProj2Ideal.nD Cert.InProj2Ideal.τ).loc Cert.InProj2Ideal.main_arg2)
      ∧ m' ((c.tc : Thread Cert.InProjRef2Ideal.nD Cert.InProjRef2Ideal.τ).loc Cert.InProjRef2Ideal.main_arg3) = m ((c.tc : Thread Cert.InProj2Ideal.nD Cert.InProj2Ideal.τ).loc Cert.InProj2Ideal.main_arg3)) →
    ∃ (v0 : (c : Dev Cert.InProj2Ideal.nD) → Buf (Elt Ideal) ((c.tc : Thread Cert.InProj2Ideal.nD Cert.InProj2Ideal.τ).loc Cert.InProj2Ideal.main_v3)),
      θ_run (Cert.InProj2Ideal.defs (F := Ideal)) (onTc (τ := Cert.InProj2Ideal.τ) (Cert.InProj2Ideal.main (F := Ideal))) ⟨m, fun _ => 0, g⟩ (fun r => ∀ c : Dev Cert.InProj2Ideal.nD,
          r.2.mem ((c.tc : Thread Cert.InProj2Ideal.nD Cert.InProj2Ideal.τ).loc Cert.InProj2Ideal.main_v3) = v0 c
          ∧ r.2.mem ((c.tc : Thread Cert.InProj2Ideal.nD Cert.InProj2Ideal.τ).loc Cert.InProj2Ideal.main_arg0) = m ((c.tc : Thread Cert.InProj2Ideal.nD Cert.InProj2Ideal.τ).loc Cert.InProj2Ideal.main_arg0)
          ∧ r.2.mem ((c.tc : Thread Cert.InProj2Ideal.nD Cert.InProj2Ideal.τ).loc Cert.InProj2Ideal.main_arg1) = m ((c.tc : Thread Cert.InProj2Ideal.nD Cert.InProj2Ideal.τ).loc Cert.InProj2Ideal.main_arg1)
          ∧ r.2.mem ((c.tc : Thread Cert.InProj2Ideal.nD Cert.InProj2Ideal.τ).loc Cert.InProj2Ideal.main_arg2) = m ((c.tc : Thread Cert.InProj2Ideal.nD Cert.InProj2Ideal.τ).loc Cert.InProj2Ideal.main_arg2)
          ∧ r.2.mem ((c.tc : Thread Cert.InProj2Ideal.nD Cert.InProj2Ideal.τ).loc Cert.InProj2Ideal.main_arg3) = m ((c.tc : Thread Cert.InProj2Ideal.nD Cert.InProj2Ideal.τ).loc Cert.InProj2Ideal.main_arg3))
      ∧ θ_run (Cert.InProjRef2Ideal.defs (F := Ideal)) (onTc (τ := Cert.InProjRef2Ideal.τ) (Cert.InProjRef2Ideal.main (F := Ideal))) ⟨m', fun _ => 0, g'⟩ (fun r => ∀ c : Dev Cert.InProjRef2Ideal.nD,
          r.2.mem ((c.tc : Thread Cert.InProjRef2Ideal.nD Cert.InProjRef2Ideal.τ).loc Cert.InProjRef2Ideal.main_v32) = v0 c
          ∧ r.2.mem ((c.tc : Thread Cert.InProjRef2Ideal.nD Cert.InProjRef2Ideal.τ).loc Cert.InProjRef2Ideal.main_arg0) = m' ((c.tc : Thread Cert.InProjRef2Ideal.nD Cert.InProjRef2Ideal.τ).loc Cert.InProjRef2Ideal.main_arg0)
          ∧ r.2.mem ((c.tc : Thread Cert.InProjRef2Ideal.nD Cert.InProjRef2Ideal.τ).loc Cert.InProjRef2Ideal.main_arg1) = m' ((c.tc : Thread Cert.InProjRef2Ideal.nD Cert.InProjRef2Ideal.τ).loc Cert.InProjRef2Ideal.main_arg1)
          ∧ r.2.mem ((c.tc : Thread Cert.InProjRef2Ideal.nD Cert.InProjRef2Ideal.τ).loc Cert.InProjRef2Ideal.main_arg2) = m' ((c.tc : Thread Cert.InProjRef2Ideal.nD Cert.InProjRef2Ideal.τ).loc Cert.InProjRef2Ideal.main_arg2)
          ∧ r.2.mem ((c.tc : Thread Cert.InProjRef2Ideal.nD Cert.InProjRef2Ideal.τ).loc Cert.InProjRef2Ideal.main_arg3) = m' ((c.tc : Thread Cert.InProjRef2Ideal.nD Cert.InProjRef2Ideal.τ).loc Cert.InProjRef2Ideal.main_arg3))

def preserves_MlpCtx0_MlpCtx0Ideal : Prop :=
  True

def algebraic_MlpCtx0Ideal_MlpCtxRef0Ideal [hMlpCtx0Ideal : Cert.MlpCtx0Ideal.Facts] [hMlpCtxRef0Ideal : Cert.MlpCtxRef0Ideal.Facts] : Prop :=
  ∀ (m : (ℓ : Loc Cert.MlpCtx0Ideal.nD Cert.MlpCtx0Ideal.τ Cert.MlpCtx0Ideal.sig) → Buf (Elt Ideal) ℓ) (g : Dev Cert.MlpCtx0Ideal.nD → PrngReg)
    (m' : (ℓ : Loc Cert.MlpCtxRef0Ideal.nD Cert.MlpCtxRef0Ideal.τ Cert.MlpCtxRef0Ideal.sig) → Buf (Elt Ideal) ℓ) (g' : Dev Cert.MlpCtxRef0Ideal.nD → PrngReg), Pre_MlpCtx0Ideal m →
    (∀ c : Dev Cert.MlpCtx0Ideal.nD,
      m' ((c.tc : Thread Cert.MlpCtxRef0Ideal.nD Cert.MlpCtxRef0Ideal.τ).loc Cert.MlpCtxRef0Ideal.main_arg0) = m ((c.tc : Thread Cert.MlpCtx0Ideal.nD Cert.MlpCtx0Ideal.τ).loc Cert.MlpCtx0Ideal.main_arg0)
      ∧ m' ((c.tc : Thread Cert.MlpCtxRef0Ideal.nD Cert.MlpCtxRef0Ideal.τ).loc Cert.MlpCtxRef0Ideal.main_arg1) = m ((c.tc : Thread Cert.MlpCtx0Ideal.nD Cert.MlpCtx0Ideal.τ).loc Cert.MlpCtx0Ideal.main_arg1)
      ∧ m' ((c.tc : Thread Cert.MlpCtxRef0Ideal.nD Cert.MlpCtxRef0Ideal.τ).loc Cert.MlpCtxRef0Ideal.main_arg2) = m ((c.tc : Thread Cert.MlpCtx0Ideal.nD Cert.MlpCtx0Ideal.τ).loc Cert.MlpCtx0Ideal.main_arg2)
      ∧ m' ((c.tc : Thread Cert.MlpCtxRef0Ideal.nD Cert.MlpCtxRef0Ideal.τ).loc Cert.MlpCtxRef0Ideal.main_arg3) = m ((c.tc : Thread Cert.MlpCtx0Ideal.nD Cert.MlpCtx0Ideal.τ).loc Cert.MlpCtx0Ideal.main_arg3)
      ∧ m' ((c.tc : Thread Cert.MlpCtxRef0Ideal.nD Cert.MlpCtxRef0Ideal.τ).loc Cert.MlpCtxRef0Ideal.main_arg4) = m ((c.tc : Thread Cert.MlpCtx0Ideal.nD Cert.MlpCtx0Ideal.τ).loc Cert.MlpCtx0Ideal.main_arg4)
      ∧ m' ((c.tc : Thread Cert.MlpCtxRef0Ideal.nD Cert.MlpCtxRef0Ideal.τ).loc Cert.MlpCtxRef0Ideal.main_arg5) = m ((c.tc : Thread Cert.MlpCtx0Ideal.nD Cert.MlpCtx0Ideal.τ).loc Cert.MlpCtx0Ideal.main_arg5)) →
    ∃ (v0 : (c : Dev Cert.MlpCtx0Ideal.nD) → Buf (Elt Ideal) ((c.tc : Thread Cert.MlpCtx0Ideal.nD Cert.MlpCtx0Ideal.τ).loc Cert.MlpCtx0Ideal.main_v5)),
      θ_run (Cert.MlpCtx0Ideal.defs (F := Ideal)) (onTc (τ := Cert.MlpCtx0Ideal.τ) (Cert.MlpCtx0Ideal.main (F := Ideal))) ⟨m, fun _ => 0, g⟩ (fun r => ∀ c : Dev Cert.MlpCtx0Ideal.nD,
          r.2.mem ((c.tc : Thread Cert.MlpCtx0Ideal.nD Cert.MlpCtx0Ideal.τ).loc Cert.MlpCtx0Ideal.main_v5) = v0 c
          ∧ r.2.mem ((c.tc : Thread Cert.MlpCtx0Ideal.nD Cert.MlpCtx0Ideal.τ).loc Cert.MlpCtx0Ideal.main_arg0) = m ((c.tc : Thread Cert.MlpCtx0Ideal.nD Cert.MlpCtx0Ideal.τ).loc Cert.MlpCtx0Ideal.main_arg0)
          ∧ r.2.mem ((c.tc : Thread Cert.MlpCtx0Ideal.nD Cert.MlpCtx0Ideal.τ).loc Cert.MlpCtx0Ideal.main_arg1) = m ((c.tc : Thread Cert.MlpCtx0Ideal.nD Cert.MlpCtx0Ideal.τ).loc Cert.MlpCtx0Ideal.main_arg1)
          ∧ r.2.mem ((c.tc : Thread Cert.MlpCtx0Ideal.nD Cert.MlpCtx0Ideal.τ).loc Cert.MlpCtx0Ideal.main_arg2) = m ((c.tc : Thread Cert.MlpCtx0Ideal.nD Cert.MlpCtx0Ideal.τ).loc Cert.MlpCtx0Ideal.main_arg2)
          ∧ r.2.mem ((c.tc : Thread Cert.MlpCtx0Ideal.nD Cert.MlpCtx0Ideal.τ).loc Cert.MlpCtx0Ideal.main_arg3) = m ((c.tc : Thread Cert.MlpCtx0Ideal.nD Cert.MlpCtx0Ideal.τ).loc Cert.MlpCtx0Ideal.main_arg3)
          ∧ r.2.mem ((c.tc : Thread Cert.MlpCtx0Ideal.nD Cert.MlpCtx0Ideal.τ).loc Cert.MlpCtx0Ideal.main_arg4) = m ((c.tc : Thread Cert.MlpCtx0Ideal.nD Cert.MlpCtx0Ideal.τ).loc Cert.MlpCtx0Ideal.main_arg4)
          ∧ r.2.mem ((c.tc : Thread Cert.MlpCtx0Ideal.nD Cert.MlpCtx0Ideal.τ).loc Cert.MlpCtx0Ideal.main_arg5) = m ((c.tc : Thread Cert.MlpCtx0Ideal.nD Cert.MlpCtx0Ideal.τ).loc Cert.MlpCtx0Ideal.main_arg5))
      ∧ θ_run (Cert.MlpCtxRef0Ideal.defs (F := Ideal)) (onTc (τ := Cert.MlpCtxRef0Ideal.τ) (Cert.MlpCtxRef0Ideal.main (F := Ideal))) ⟨m', fun _ => 0, g'⟩ (fun r => ∀ c : Dev Cert.MlpCtxRef0Ideal.nD,
          r.2.mem ((c.tc : Thread Cert.MlpCtxRef0Ideal.nD Cert.MlpCtxRef0Ideal.τ).loc Cert.MlpCtxRef0Ideal.main_v42) = v0 c
          ∧ r.2.mem ((c.tc : Thread Cert.MlpCtxRef0Ideal.nD Cert.MlpCtxRef0Ideal.τ).loc Cert.MlpCtxRef0Ideal.main_arg0) = m' ((c.tc : Thread Cert.MlpCtxRef0Ideal.nD Cert.MlpCtxRef0Ideal.τ).loc Cert.MlpCtxRef0Ideal.main_arg0)
          ∧ r.2.mem ((c.tc : Thread Cert.MlpCtxRef0Ideal.nD Cert.MlpCtxRef0Ideal.τ).loc Cert.MlpCtxRef0Ideal.main_arg1) = m' ((c.tc : Thread Cert.MlpCtxRef0Ideal.nD Cert.MlpCtxRef0Ideal.τ).loc Cert.MlpCtxRef0Ideal.main_arg1)
          ∧ r.2.mem ((c.tc : Thread Cert.MlpCtxRef0Ideal.nD Cert.MlpCtxRef0Ideal.τ).loc Cert.MlpCtxRef0Ideal.main_arg2) = m' ((c.tc : Thread Cert.MlpCtxRef0Ideal.nD Cert.MlpCtxRef0Ideal.τ).loc Cert.MlpCtxRef0Ideal.main_arg2)
          ∧ r.2.mem ((c.tc : Thread Cert.MlpCtxRef0Ideal.nD Cert.MlpCtxRef0Ideal.τ).loc Cert.MlpCtxRef0Ideal.main_arg3) = m' ((c.tc : Thread Cert.MlpCtxRef0Ideal.nD Cert.MlpCtxRef0Ideal.τ).loc Cert.MlpCtxRef0Ideal.main_arg3)
          ∧ r.2.mem ((c.tc : Thread Cert.MlpCtxRef0Ideal.nD Cert.MlpCtxRef0Ideal.τ).loc Cert.MlpCtxRef0Ideal.main_arg4) = m' ((c.tc : Thread Cert.MlpCtxRef0Ideal.nD Cert.MlpCtxRef0Ideal.τ).loc Cert.MlpCtxRef0Ideal.main_arg4)
          ∧ r.2.mem ((c.tc : Thread Cert.MlpCtxRef0Ideal.nD Cert.MlpCtxRef0Ideal.τ).loc Cert.MlpCtxRef0Ideal.main_arg5) = m' ((c.tc : Thread Cert.MlpCtxRef0Ideal.nD Cert.MlpCtxRef0Ideal.τ).loc Cert.MlpCtxRef0Ideal.main_arg5))

def preserves_MlpCtx1_MlpCtx1Ideal : Prop :=
  True

def algebraic_MlpCtx1Ideal_MlpCtxRef1Ideal [hMlpCtx1Ideal : Cert.MlpCtx1Ideal.Facts] [hMlpCtxRef1Ideal : Cert.MlpCtxRef1Ideal.Facts] : Prop :=
  ∀ (m : (ℓ : Loc Cert.MlpCtx1Ideal.nD Cert.MlpCtx1Ideal.τ Cert.MlpCtx1Ideal.sig) → Buf (Elt Ideal) ℓ) (g : Dev Cert.MlpCtx1Ideal.nD → PrngReg)
    (m' : (ℓ : Loc Cert.MlpCtxRef1Ideal.nD Cert.MlpCtxRef1Ideal.τ Cert.MlpCtxRef1Ideal.sig) → Buf (Elt Ideal) ℓ) (g' : Dev Cert.MlpCtxRef1Ideal.nD → PrngReg), Pre_MlpCtx1Ideal m →
    (∀ c : Dev Cert.MlpCtx1Ideal.nD,
      m' ((c.tc : Thread Cert.MlpCtxRef1Ideal.nD Cert.MlpCtxRef1Ideal.τ).loc Cert.MlpCtxRef1Ideal.main_arg0) = m ((c.tc : Thread Cert.MlpCtx1Ideal.nD Cert.MlpCtx1Ideal.τ).loc Cert.MlpCtx1Ideal.main_arg0)
      ∧ m' ((c.tc : Thread Cert.MlpCtxRef1Ideal.nD Cert.MlpCtxRef1Ideal.τ).loc Cert.MlpCtxRef1Ideal.main_arg1) = m ((c.tc : Thread Cert.MlpCtx1Ideal.nD Cert.MlpCtx1Ideal.τ).loc Cert.MlpCtx1Ideal.main_arg1)
      ∧ m' ((c.tc : Thread Cert.MlpCtxRef1Ideal.nD Cert.MlpCtxRef1Ideal.τ).loc Cert.MlpCtxRef1Ideal.main_arg2) = m ((c.tc : Thread Cert.MlpCtx1Ideal.nD Cert.MlpCtx1Ideal.τ).loc Cert.MlpCtx1Ideal.main_arg2)
      ∧ m' ((c.tc : Thread Cert.MlpCtxRef1Ideal.nD Cert.MlpCtxRef1Ideal.τ).loc Cert.MlpCtxRef1Ideal.main_arg3) = m ((c.tc : Thread Cert.MlpCtx1Ideal.nD Cert.MlpCtx1Ideal.τ).loc Cert.MlpCtx1Ideal.main_arg3)
      ∧ m' ((c.tc : Thread Cert.MlpCtxRef1Ideal.nD Cert.MlpCtxRef1Ideal.τ).loc Cert.MlpCtxRef1Ideal.main_arg4) = m ((c.tc : Thread Cert.MlpCtx1Ideal.nD Cert.MlpCtx1Ideal.τ).loc Cert.MlpCtx1Ideal.main_arg4)
      ∧ m' ((c.tc : Thread Cert.MlpCtxRef1Ideal.nD Cert.MlpCtxRef1Ideal.τ).loc Cert.MlpCtxRef1Ideal.main_arg5) = m ((c.tc : Thread Cert.MlpCtx1Ideal.nD Cert.MlpCtx1Ideal.τ).loc Cert.MlpCtx1Ideal.main_arg5)) →
    ∃ (v0 : (c : Dev Cert.MlpCtx1Ideal.nD) → Buf (Elt Ideal) ((c.tc : Thread Cert.MlpCtx1Ideal.nD Cert.MlpCtx1Ideal.τ).loc Cert.MlpCtx1Ideal.main_v5)),
      θ_run (Cert.MlpCtx1Ideal.defs (F := Ideal)) (onTc (τ := Cert.MlpCtx1Ideal.τ) (Cert.MlpCtx1Ideal.main (F := Ideal))) ⟨m, fun _ => 0, g⟩ (fun r => ∀ c : Dev Cert.MlpCtx1Ideal.nD,
          r.2.mem ((c.tc : Thread Cert.MlpCtx1Ideal.nD Cert.MlpCtx1Ideal.τ).loc Cert.MlpCtx1Ideal.main_v5) = v0 c
          ∧ r.2.mem ((c.tc : Thread Cert.MlpCtx1Ideal.nD Cert.MlpCtx1Ideal.τ).loc Cert.MlpCtx1Ideal.main_arg0) = m ((c.tc : Thread Cert.MlpCtx1Ideal.nD Cert.MlpCtx1Ideal.τ).loc Cert.MlpCtx1Ideal.main_arg0)
          ∧ r.2.mem ((c.tc : Thread Cert.MlpCtx1Ideal.nD Cert.MlpCtx1Ideal.τ).loc Cert.MlpCtx1Ideal.main_arg1) = m ((c.tc : Thread Cert.MlpCtx1Ideal.nD Cert.MlpCtx1Ideal.τ).loc Cert.MlpCtx1Ideal.main_arg1)
          ∧ r.2.mem ((c.tc : Thread Cert.MlpCtx1Ideal.nD Cert.MlpCtx1Ideal.τ).loc Cert.MlpCtx1Ideal.main_arg2) = m ((c.tc : Thread Cert.MlpCtx1Ideal.nD Cert.MlpCtx1Ideal.τ).loc Cert.MlpCtx1Ideal.main_arg2)
          ∧ r.2.mem ((c.tc : Thread Cert.MlpCtx1Ideal.nD Cert.MlpCtx1Ideal.τ).loc Cert.MlpCtx1Ideal.main_arg3) = m ((c.tc : Thread Cert.MlpCtx1Ideal.nD Cert.MlpCtx1Ideal.τ).loc Cert.MlpCtx1Ideal.main_arg3)
          ∧ r.2.mem ((c.tc : Thread Cert.MlpCtx1Ideal.nD Cert.MlpCtx1Ideal.τ).loc Cert.MlpCtx1Ideal.main_arg4) = m ((c.tc : Thread Cert.MlpCtx1Ideal.nD Cert.MlpCtx1Ideal.τ).loc Cert.MlpCtx1Ideal.main_arg4)
          ∧ r.2.mem ((c.tc : Thread Cert.MlpCtx1Ideal.nD Cert.MlpCtx1Ideal.τ).loc Cert.MlpCtx1Ideal.main_arg5) = m ((c.tc : Thread Cert.MlpCtx1Ideal.nD Cert.MlpCtx1Ideal.τ).loc Cert.MlpCtx1Ideal.main_arg5))
      ∧ θ_run (Cert.MlpCtxRef1Ideal.defs (F := Ideal)) (onTc (τ := Cert.MlpCtxRef1Ideal.τ) (Cert.MlpCtxRef1Ideal.main (F := Ideal))) ⟨m', fun _ => 0, g'⟩ (fun r => ∀ c : Dev Cert.MlpCtxRef1Ideal.nD,
          r.2.mem ((c.tc : Thread Cert.MlpCtxRef1Ideal.nD Cert.MlpCtxRef1Ideal.τ).loc Cert.MlpCtxRef1Ideal.main_v42) = v0 c
          ∧ r.2.mem ((c.tc : Thread Cert.MlpCtxRef1Ideal.nD Cert.MlpCtxRef1Ideal.τ).loc Cert.MlpCtxRef1Ideal.main_arg0) = m' ((c.tc : Thread Cert.MlpCtxRef1Ideal.nD Cert.MlpCtxRef1Ideal.τ).loc Cert.MlpCtxRef1Ideal.main_arg0)
          ∧ r.2.mem ((c.tc : Thread Cert.MlpCtxRef1Ideal.nD Cert.MlpCtxRef1Ideal.τ).loc Cert.MlpCtxRef1Ideal.main_arg1) = m' ((c.tc : Thread Cert.MlpCtxRef1Ideal.nD Cert.MlpCtxRef1Ideal.τ).loc Cert.MlpCtxRef1Ideal.main_arg1)
          ∧ r.2.mem ((c.tc : Thread Cert.MlpCtxRef1Ideal.nD Cert.MlpCtxRef1Ideal.τ).loc Cert.MlpCtxRef1Ideal.main_arg2) = m' ((c.tc : Thread Cert.MlpCtxRef1Ideal.nD Cert.MlpCtxRef1Ideal.τ).loc Cert.MlpCtxRef1Ideal.main_arg2)
          ∧ r.2.mem ((c.tc : Thread Cert.MlpCtxRef1Ideal.nD Cert.MlpCtxRef1Ideal.τ).loc Cert.MlpCtxRef1Ideal.main_arg3) = m' ((c.tc : Thread Cert.MlpCtxRef1Ideal.nD Cert.MlpCtxRef1Ideal.τ).loc Cert.MlpCtxRef1Ideal.main_arg3)
          ∧ r.2.mem ((c.tc : Thread Cert.MlpCtxRef1Ideal.nD Cert.MlpCtxRef1Ideal.τ).loc Cert.MlpCtxRef1Ideal.main_arg4) = m' ((c.tc : Thread Cert.MlpCtxRef1Ideal.nD Cert.MlpCtxRef1Ideal.τ).loc Cert.MlpCtxRef1Ideal.main_arg4)
          ∧ r.2.mem ((c.tc : Thread Cert.MlpCtxRef1Ideal.nD Cert.MlpCtxRef1Ideal.τ).loc Cert.MlpCtxRef1Ideal.main_arg5) = m' ((c.tc : Thread Cert.MlpCtxRef1Ideal.nD Cert.MlpCtxRef1Ideal.τ).loc Cert.MlpCtxRef1Ideal.main_arg5))

def preserves_MlpCtx2_MlpCtx2Ideal : Prop :=
  True

def algebraic_MlpCtx2Ideal_MlpCtxRef2Ideal [hMlpCtx2Ideal : Cert.MlpCtx2Ideal.Facts] [hMlpCtxRef2Ideal : Cert.MlpCtxRef2Ideal.Facts] : Prop :=
  ∀ (m : (ℓ : Loc Cert.MlpCtx2Ideal.nD Cert.MlpCtx2Ideal.τ Cert.MlpCtx2Ideal.sig) → Buf (Elt Ideal) ℓ) (g : Dev Cert.MlpCtx2Ideal.nD → PrngReg)
    (m' : (ℓ : Loc Cert.MlpCtxRef2Ideal.nD Cert.MlpCtxRef2Ideal.τ Cert.MlpCtxRef2Ideal.sig) → Buf (Elt Ideal) ℓ) (g' : Dev Cert.MlpCtxRef2Ideal.nD → PrngReg), Pre_MlpCtx2Ideal m →
    (∀ c : Dev Cert.MlpCtx2Ideal.nD,
      m' ((c.tc : Thread Cert.MlpCtxRef2Ideal.nD Cert.MlpCtxRef2Ideal.τ).loc Cert.MlpCtxRef2Ideal.main_arg0) = m ((c.tc : Thread Cert.MlpCtx2Ideal.nD Cert.MlpCtx2Ideal.τ).loc Cert.MlpCtx2Ideal.main_arg0)
      ∧ m' ((c.tc : Thread Cert.MlpCtxRef2Ideal.nD Cert.MlpCtxRef2Ideal.τ).loc Cert.MlpCtxRef2Ideal.main_arg1) = m ((c.tc : Thread Cert.MlpCtx2Ideal.nD Cert.MlpCtx2Ideal.τ).loc Cert.MlpCtx2Ideal.main_arg1)
      ∧ m' ((c.tc : Thread Cert.MlpCtxRef2Ideal.nD Cert.MlpCtxRef2Ideal.τ).loc Cert.MlpCtxRef2Ideal.main_arg2) = m ((c.tc : Thread Cert.MlpCtx2Ideal.nD Cert.MlpCtx2Ideal.τ).loc Cert.MlpCtx2Ideal.main_arg2)
      ∧ m' ((c.tc : Thread Cert.MlpCtxRef2Ideal.nD Cert.MlpCtxRef2Ideal.τ).loc Cert.MlpCtxRef2Ideal.main_arg3) = m ((c.tc : Thread Cert.MlpCtx2Ideal.nD Cert.MlpCtx2Ideal.τ).loc Cert.MlpCtx2Ideal.main_arg3)
      ∧ m' ((c.tc : Thread Cert.MlpCtxRef2Ideal.nD Cert.MlpCtxRef2Ideal.τ).loc Cert.MlpCtxRef2Ideal.main_arg4) = m ((c.tc : Thread Cert.MlpCtx2Ideal.nD Cert.MlpCtx2Ideal.τ).loc Cert.MlpCtx2Ideal.main_arg4)
      ∧ m' ((c.tc : Thread Cert.MlpCtxRef2Ideal.nD Cert.MlpCtxRef2Ideal.τ).loc Cert.MlpCtxRef2Ideal.main_arg5) = m ((c.tc : Thread Cert.MlpCtx2Ideal.nD Cert.MlpCtx2Ideal.τ).loc Cert.MlpCtx2Ideal.main_arg5)) →
    ∃ (v0 : (c : Dev Cert.MlpCtx2Ideal.nD) → Buf (Elt Ideal) ((c.tc : Thread Cert.MlpCtx2Ideal.nD Cert.MlpCtx2Ideal.τ).loc Cert.MlpCtx2Ideal.main_v5)),
      θ_run (Cert.MlpCtx2Ideal.defs (F := Ideal)) (onTc (τ := Cert.MlpCtx2Ideal.τ) (Cert.MlpCtx2Ideal.main (F := Ideal))) ⟨m, fun _ => 0, g⟩ (fun r => ∀ c : Dev Cert.MlpCtx2Ideal.nD,
          r.2.mem ((c.tc : Thread Cert.MlpCtx2Ideal.nD Cert.MlpCtx2Ideal.τ).loc Cert.MlpCtx2Ideal.main_v5) = v0 c
          ∧ r.2.mem ((c.tc : Thread Cert.MlpCtx2Ideal.nD Cert.MlpCtx2Ideal.τ).loc Cert.MlpCtx2Ideal.main_arg0) = m ((c.tc : Thread Cert.MlpCtx2Ideal.nD Cert.MlpCtx2Ideal.τ).loc Cert.MlpCtx2Ideal.main_arg0)
          ∧ r.2.mem ((c.tc : Thread Cert.MlpCtx2Ideal.nD Cert.MlpCtx2Ideal.τ).loc Cert.MlpCtx2Ideal.main_arg1) = m ((c.tc : Thread Cert.MlpCtx2Ideal.nD Cert.MlpCtx2Ideal.τ).loc Cert.MlpCtx2Ideal.main_arg1)
          ∧ r.2.mem ((c.tc : Thread Cert.MlpCtx2Ideal.nD Cert.MlpCtx2Ideal.τ).loc Cert.MlpCtx2Ideal.main_arg2) = m ((c.tc : Thread Cert.MlpCtx2Ideal.nD Cert.MlpCtx2Ideal.τ).loc Cert.MlpCtx2Ideal.main_arg2)
          ∧ r.2.mem ((c.tc : Thread Cert.MlpCtx2Ideal.nD Cert.MlpCtx2Ideal.τ).loc Cert.MlpCtx2Ideal.main_arg3) = m ((c.tc : Thread Cert.MlpCtx2Ideal.nD Cert.MlpCtx2Ideal.τ).loc Cert.MlpCtx2Ideal.main_arg3)
          ∧ r.2.mem ((c.tc : Thread Cert.MlpCtx2Ideal.nD Cert.MlpCtx2Ideal.τ).loc Cert.MlpCtx2Ideal.main_arg4) = m ((c.tc : Thread Cert.MlpCtx2Ideal.nD Cert.MlpCtx2Ideal.τ).loc Cert.MlpCtx2Ideal.main_arg4)
          ∧ r.2.mem ((c.tc : Thread Cert.MlpCtx2Ideal.nD Cert.MlpCtx2Ideal.τ).loc Cert.MlpCtx2Ideal.main_arg5) = m ((c.tc : Thread Cert.MlpCtx2Ideal.nD Cert.MlpCtx2Ideal.τ).loc Cert.MlpCtx2Ideal.main_arg5))
      ∧ θ_run (Cert.MlpCtxRef2Ideal.defs (F := Ideal)) (onTc (τ := Cert.MlpCtxRef2Ideal.τ) (Cert.MlpCtxRef2Ideal.main (F := Ideal))) ⟨m', fun _ => 0, g'⟩ (fun r => ∀ c : Dev Cert.MlpCtxRef2Ideal.nD,
          r.2.mem ((c.tc : Thread Cert.MlpCtxRef2Ideal.nD Cert.MlpCtxRef2Ideal.τ).loc Cert.MlpCtxRef2Ideal.main_v42) = v0 c
          ∧ r.2.mem ((c.tc : Thread Cert.MlpCtxRef2Ideal.nD Cert.MlpCtxRef2Ideal.τ).loc Cert.MlpCtxRef2Ideal.main_arg0) = m' ((c.tc : Thread Cert.MlpCtxRef2Ideal.nD Cert.MlpCtxRef2Ideal.τ).loc Cert.MlpCtxRef2Ideal.main_arg0)
          ∧ r.2.mem ((c.tc : Thread Cert.MlpCtxRef2Ideal.nD Cert.MlpCtxRef2Ideal.τ).loc Cert.MlpCtxRef2Ideal.main_arg1) = m' ((c.tc : Thread Cert.MlpCtxRef2Ideal.nD Cert.MlpCtxRef2Ideal.τ).loc Cert.MlpCtxRef2Ideal.main_arg1)
          ∧ r.2.mem ((c.tc : Thread Cert.MlpCtxRef2Ideal.nD Cert.MlpCtxRef2Ideal.τ).loc Cert.MlpCtxRef2Ideal.main_arg2) = m' ((c.tc : Thread Cert.MlpCtxRef2Ideal.nD Cert.MlpCtxRef2Ideal.τ).loc Cert.MlpCtxRef2Ideal.main_arg2)
          ∧ r.2.mem ((c.tc : Thread Cert.MlpCtxRef2Ideal.nD Cert.MlpCtxRef2Ideal.τ).loc Cert.MlpCtxRef2Ideal.main_arg3) = m' ((c.tc : Thread Cert.MlpCtxRef2Ideal.nD Cert.MlpCtxRef2Ideal.τ).loc Cert.MlpCtxRef2Ideal.main_arg3)
          ∧ r.2.mem ((c.tc : Thread Cert.MlpCtxRef2Ideal.nD Cert.MlpCtxRef2Ideal.τ).loc Cert.MlpCtxRef2Ideal.main_arg4) = m' ((c.tc : Thread Cert.MlpCtxRef2Ideal.nD Cert.MlpCtxRef2Ideal.τ).loc Cert.MlpCtxRef2Ideal.main_arg4)
          ∧ r.2.mem ((c.tc : Thread Cert.MlpCtxRef2Ideal.nD Cert.MlpCtxRef2Ideal.τ).loc Cert.MlpCtxRef2Ideal.main_arg5) = m' ((c.tc : Thread Cert.MlpCtxRef2Ideal.nD Cert.MlpCtxRef2Ideal.τ).loc Cert.MlpCtxRef2Ideal.main_arg5))

def preserves_InProjCtx0_InProjCtx0Ideal : Prop :=
  True

def algebraic_InProjCtx0Ideal_InProjCtxRef0Ideal [hInProjCtx0Ideal : Cert.InProjCtx0Ideal.Facts] [hInProjCtxRef0Ideal : Cert.InProjCtxRef0Ideal.Facts] : Prop :=
  ∀ (m : (ℓ : Loc Cert.InProjCtx0Ideal.nD Cert.InProjCtx0Ideal.τ Cert.InProjCtx0Ideal.sig) → Buf (Elt Ideal) ℓ) (g : Dev Cert.InProjCtx0Ideal.nD → PrngReg)
    (m' : (ℓ : Loc Cert.InProjCtxRef0Ideal.nD Cert.InProjCtxRef0Ideal.τ Cert.InProjCtxRef0Ideal.sig) → Buf (Elt Ideal) ℓ) (g' : Dev Cert.InProjCtxRef0Ideal.nD → PrngReg), Pre_InProjCtx0Ideal m →
    (∀ c : Dev Cert.InProjCtx0Ideal.nD,
      m' ((c.tc : Thread Cert.InProjCtxRef0Ideal.nD Cert.InProjCtxRef0Ideal.τ).loc Cert.InProjCtxRef0Ideal.main_arg0) = m ((c.tc : Thread Cert.InProjCtx0Ideal.nD Cert.InProjCtx0Ideal.τ).loc Cert.InProjCtx0Ideal.main_arg0)
      ∧ m' ((c.tc : Thread Cert.InProjCtxRef0Ideal.nD Cert.InProjCtxRef0Ideal.τ).loc Cert.InProjCtxRef0Ideal.main_arg1) = m ((c.tc : Thread Cert.InProjCtx0Ideal.nD Cert.InProjCtx0Ideal.τ).loc Cert.InProjCtx0Ideal.main_arg1)
      ∧ m' ((c.tc : Thread Cert.InProjCtxRef0Ideal.nD Cert.InProjCtxRef0Ideal.τ).loc Cert.InProjCtxRef0Ideal.main_arg2) = m ((c.tc : Thread Cert.InProjCtx0Ideal.nD Cert.InProjCtx0Ideal.τ).loc Cert.InProjCtx0Ideal.main_arg2)
      ∧ m' ((c.tc : Thread Cert.InProjCtxRef0Ideal.nD Cert.InProjCtxRef0Ideal.τ).loc Cert.InProjCtxRef0Ideal.main_arg3) = m ((c.tc : Thread Cert.InProjCtx0Ideal.nD Cert.InProjCtx0Ideal.τ).loc Cert.InProjCtx0Ideal.main_arg3)) →
    ∃ (v0 : (c : Dev Cert.InProjCtx0Ideal.nD) → Buf (Elt Ideal) ((c.tc : Thread Cert.InProjCtx0Ideal.nD Cert.InProjCtx0Ideal.τ).loc Cert.InProjCtx0Ideal.main_v3)),
      θ_run (Cert.InProjCtx0Ideal.defs (F := Ideal)) (onTc (τ := Cert.InProjCtx0Ideal.τ) (Cert.InProjCtx0Ideal.main (F := Ideal))) ⟨m, fun _ => 0, g⟩ (fun r => ∀ c : Dev Cert.InProjCtx0Ideal.nD,
          r.2.mem ((c.tc : Thread Cert.InProjCtx0Ideal.nD Cert.InProjCtx0Ideal.τ).loc Cert.InProjCtx0Ideal.main_v3) = v0 c
          ∧ r.2.mem ((c.tc : Thread Cert.InProjCtx0Ideal.nD Cert.InProjCtx0Ideal.τ).loc Cert.InProjCtx0Ideal.main_arg0) = m ((c.tc : Thread Cert.InProjCtx0Ideal.nD Cert.InProjCtx0Ideal.τ).loc Cert.InProjCtx0Ideal.main_arg0)
          ∧ r.2.mem ((c.tc : Thread Cert.InProjCtx0Ideal.nD Cert.InProjCtx0Ideal.τ).loc Cert.InProjCtx0Ideal.main_arg1) = m ((c.tc : Thread Cert.InProjCtx0Ideal.nD Cert.InProjCtx0Ideal.τ).loc Cert.InProjCtx0Ideal.main_arg1)
          ∧ r.2.mem ((c.tc : Thread Cert.InProjCtx0Ideal.nD Cert.InProjCtx0Ideal.τ).loc Cert.InProjCtx0Ideal.main_arg2) = m ((c.tc : Thread Cert.InProjCtx0Ideal.nD Cert.InProjCtx0Ideal.τ).loc Cert.InProjCtx0Ideal.main_arg2)
          ∧ r.2.mem ((c.tc : Thread Cert.InProjCtx0Ideal.nD Cert.InProjCtx0Ideal.τ).loc Cert.InProjCtx0Ideal.main_arg3) = m ((c.tc : Thread Cert.InProjCtx0Ideal.nD Cert.InProjCtx0Ideal.τ).loc Cert.InProjCtx0Ideal.main_arg3))
      ∧ θ_run (Cert.InProjCtxRef0Ideal.defs (F := Ideal)) (onTc (τ := Cert.InProjCtxRef0Ideal.τ) (Cert.InProjCtxRef0Ideal.main (F := Ideal))) ⟨m', fun _ => 0, g'⟩ (fun r => ∀ c : Dev Cert.InProjCtxRef0Ideal.nD,
          r.2.mem ((c.tc : Thread Cert.InProjCtxRef0Ideal.nD Cert.InProjCtxRef0Ideal.τ).loc Cert.InProjCtxRef0Ideal.main_v33) = v0 c
          ∧ r.2.mem ((c.tc : Thread Cert.InProjCtxRef0Ideal.nD Cert.InProjCtxRef0Ideal.τ).loc Cert.InProjCtxRef0Ideal.main_arg0) = m' ((c.tc : Thread Cert.InProjCtxRef0Ideal.nD Cert.InProjCtxRef0Ideal.τ).loc Cert.InProjCtxRef0Ideal.main_arg0)
          ∧ r.2.mem ((c.tc : Thread Cert.InProjCtxRef0Ideal.nD Cert.InProjCtxRef0Ideal.τ).loc Cert.InProjCtxRef0Ideal.main_arg1) = m' ((c.tc : Thread Cert.InProjCtxRef0Ideal.nD Cert.InProjCtxRef0Ideal.τ).loc Cert.InProjCtxRef0Ideal.main_arg1)
          ∧ r.2.mem ((c.tc : Thread Cert.InProjCtxRef0Ideal.nD Cert.InProjCtxRef0Ideal.τ).loc Cert.InProjCtxRef0Ideal.main_arg2) = m' ((c.tc : Thread Cert.InProjCtxRef0Ideal.nD Cert.InProjCtxRef0Ideal.τ).loc Cert.InProjCtxRef0Ideal.main_arg2)
          ∧ r.2.mem ((c.tc : Thread Cert.InProjCtxRef0Ideal.nD Cert.InProjCtxRef0Ideal.τ).loc Cert.InProjCtxRef0Ideal.main_arg3) = m' ((c.tc : Thread Cert.InProjCtxRef0Ideal.nD Cert.InProjCtxRef0Ideal.τ).loc Cert.InProjCtxRef0Ideal.main_arg3))

def preserves_InProjCtx1_InProjCtx1Ideal : Prop :=
  True

def algebraic_InProjCtx1Ideal_InProjCtxRef1Ideal [hInProjCtx1Ideal : Cert.InProjCtx1Ideal.Facts] [hInProjCtxRef1Ideal : Cert.InProjCtxRef1Ideal.Facts] : Prop :=
  ∀ (m : (ℓ : Loc Cert.InProjCtx1Ideal.nD Cert.InProjCtx1Ideal.τ Cert.InProjCtx1Ideal.sig) → Buf (Elt Ideal) ℓ) (g : Dev Cert.InProjCtx1Ideal.nD → PrngReg)
    (m' : (ℓ : Loc Cert.InProjCtxRef1Ideal.nD Cert.InProjCtxRef1Ideal.τ Cert.InProjCtxRef1Ideal.sig) → Buf (Elt Ideal) ℓ) (g' : Dev Cert.InProjCtxRef1Ideal.nD → PrngReg), Pre_InProjCtx1Ideal m →
    (∀ c : Dev Cert.InProjCtx1Ideal.nD,
      m' ((c.tc : Thread Cert.InProjCtxRef1Ideal.nD Cert.InProjCtxRef1Ideal.τ).loc Cert.InProjCtxRef1Ideal.main_arg0) = m ((c.tc : Thread Cert.InProjCtx1Ideal.nD Cert.InProjCtx1Ideal.τ).loc Cert.InProjCtx1Ideal.main_arg0)
      ∧ m' ((c.tc : Thread Cert.InProjCtxRef1Ideal.nD Cert.InProjCtxRef1Ideal.τ).loc Cert.InProjCtxRef1Ideal.main_arg1) = m ((c.tc : Thread Cert.InProjCtx1Ideal.nD Cert.InProjCtx1Ideal.τ).loc Cert.InProjCtx1Ideal.main_arg1)
      ∧ m' ((c.tc : Thread Cert.InProjCtxRef1Ideal.nD Cert.InProjCtxRef1Ideal.τ).loc Cert.InProjCtxRef1Ideal.main_arg2) = m ((c.tc : Thread Cert.InProjCtx1Ideal.nD Cert.InProjCtx1Ideal.τ).loc Cert.InProjCtx1Ideal.main_arg2)
      ∧ m' ((c.tc : Thread Cert.InProjCtxRef1Ideal.nD Cert.InProjCtxRef1Ideal.τ).loc Cert.InProjCtxRef1Ideal.main_arg3) = m ((c.tc : Thread Cert.InProjCtx1Ideal.nD Cert.InProjCtx1Ideal.τ).loc Cert.InProjCtx1Ideal.main_arg3)) →
    ∃ (v0 : (c : Dev Cert.InProjCtx1Ideal.nD) → Buf (Elt Ideal) ((c.tc : Thread Cert.InProjCtx1Ideal.nD Cert.InProjCtx1Ideal.τ).loc Cert.InProjCtx1Ideal.main_v3)),
      θ_run (Cert.InProjCtx1Ideal.defs (F := Ideal)) (onTc (τ := Cert.InProjCtx1Ideal.τ) (Cert.InProjCtx1Ideal.main (F := Ideal))) ⟨m, fun _ => 0, g⟩ (fun r => ∀ c : Dev Cert.InProjCtx1Ideal.nD,
          r.2.mem ((c.tc : Thread Cert.InProjCtx1Ideal.nD Cert.InProjCtx1Ideal.τ).loc Cert.InProjCtx1Ideal.main_v3) = v0 c
          ∧ r.2.mem ((c.tc : Thread Cert.InProjCtx1Ideal.nD Cert.InProjCtx1Ideal.τ).loc Cert.InProjCtx1Ideal.main_arg0) = m ((c.tc : Thread Cert.InProjCtx1Ideal.nD Cert.InProjCtx1Ideal.τ).loc Cert.InProjCtx1Ideal.main_arg0)
          ∧ r.2.mem ((c.tc : Thread Cert.InProjCtx1Ideal.nD Cert.InProjCtx1Ideal.τ).loc Cert.InProjCtx1Ideal.main_arg1) = m ((c.tc : Thread Cert.InProjCtx1Ideal.nD Cert.InProjCtx1Ideal.τ).loc Cert.InProjCtx1Ideal.main_arg1)
          ∧ r.2.mem ((c.tc : Thread Cert.InProjCtx1Ideal.nD Cert.InProjCtx1Ideal.τ).loc Cert.InProjCtx1Ideal.main_arg2) = m ((c.tc : Thread Cert.InProjCtx1Ideal.nD Cert.InProjCtx1Ideal.τ).loc Cert.InProjCtx1Ideal.main_arg2)
          ∧ r.2.mem ((c.tc : Thread Cert.InProjCtx1Ideal.nD Cert.InProjCtx1Ideal.τ).loc Cert.InProjCtx1Ideal.main_arg3) = m ((c.tc : Thread Cert.InProjCtx1Ideal.nD Cert.InProjCtx1Ideal.τ).loc Cert.InProjCtx1Ideal.main_arg3))
      ∧ θ_run (Cert.InProjCtxRef1Ideal.defs (F := Ideal)) (onTc (τ := Cert.InProjCtxRef1Ideal.τ) (Cert.InProjCtxRef1Ideal.main (F := Ideal))) ⟨m', fun _ => 0, g'⟩ (fun r => ∀ c : Dev Cert.InProjCtxRef1Ideal.nD,
          r.2.mem ((c.tc : Thread Cert.InProjCtxRef1Ideal.nD Cert.InProjCtxRef1Ideal.τ).loc Cert.InProjCtxRef1Ideal.main_v33) = v0 c
          ∧ r.2.mem ((c.tc : Thread Cert.InProjCtxRef1Ideal.nD Cert.InProjCtxRef1Ideal.τ).loc Cert.InProjCtxRef1Ideal.main_arg0) = m' ((c.tc : Thread Cert.InProjCtxRef1Ideal.nD Cert.InProjCtxRef1Ideal.τ).loc Cert.InProjCtxRef1Ideal.main_arg0)
          ∧ r.2.mem ((c.tc : Thread Cert.InProjCtxRef1Ideal.nD Cert.InProjCtxRef1Ideal.τ).loc Cert.InProjCtxRef1Ideal.main_arg1) = m' ((c.tc : Thread Cert.InProjCtxRef1Ideal.nD Cert.InProjCtxRef1Ideal.τ).loc Cert.InProjCtxRef1Ideal.main_arg1)
          ∧ r.2.mem ((c.tc : Thread Cert.InProjCtxRef1Ideal.nD Cert.InProjCtxRef1Ideal.τ).loc Cert.InProjCtxRef1Ideal.main_arg2) = m' ((c.tc : Thread Cert.InProjCtxRef1Ideal.nD Cert.InProjCtxRef1Ideal.τ).loc Cert.InProjCtxRef1Ideal.main_arg2)
          ∧ r.2.mem ((c.tc : Thread Cert.InProjCtxRef1Ideal.nD Cert.InProjCtxRef1Ideal.τ).loc Cert.InProjCtxRef1Ideal.main_arg3) = m' ((c.tc : Thread Cert.InProjCtxRef1Ideal.nD Cert.InProjCtxRef1Ideal.τ).loc Cert.InProjCtxRef1Ideal.main_arg3))

def preserves_InProjCtx2_InProjCtx2Ideal : Prop :=
  True

def algebraic_InProjCtx2Ideal_InProjCtxRef2Ideal [hInProjCtx2Ideal : Cert.InProjCtx2Ideal.Facts] [hInProjCtxRef2Ideal : Cert.InProjCtxRef2Ideal.Facts] : Prop :=
  ∀ (m : (ℓ : Loc Cert.InProjCtx2Ideal.nD Cert.InProjCtx2Ideal.τ Cert.InProjCtx2Ideal.sig) → Buf (Elt Ideal) ℓ) (g : Dev Cert.InProjCtx2Ideal.nD → PrngReg)
    (m' : (ℓ : Loc Cert.InProjCtxRef2Ideal.nD Cert.InProjCtxRef2Ideal.τ Cert.InProjCtxRef2Ideal.sig) → Buf (Elt Ideal) ℓ) (g' : Dev Cert.InProjCtxRef2Ideal.nD → PrngReg), Pre_InProjCtx2Ideal m →
    (∀ c : Dev Cert.InProjCtx2Ideal.nD,
      m' ((c.tc : Thread Cert.InProjCtxRef2Ideal.nD Cert.InProjCtxRef2Ideal.τ).loc Cert.InProjCtxRef2Ideal.main_arg0) = m ((c.tc : Thread Cert.InProjCtx2Ideal.nD Cert.InProjCtx2Ideal.τ).loc Cert.InProjCtx2Ideal.main_arg0)
      ∧ m' ((c.tc : Thread Cert.InProjCtxRef2Ideal.nD Cert.InProjCtxRef2Ideal.τ).loc Cert.InProjCtxRef2Ideal.main_arg1) = m ((c.tc : Thread Cert.InProjCtx2Ideal.nD Cert.InProjCtx2Ideal.τ).loc Cert.InProjCtx2Ideal.main_arg1)
      ∧ m' ((c.tc : Thread Cert.InProjCtxRef2Ideal.nD Cert.InProjCtxRef2Ideal.τ).loc Cert.InProjCtxRef2Ideal.main_arg2) = m ((c.tc : Thread Cert.InProjCtx2Ideal.nD Cert.InProjCtx2Ideal.τ).loc Cert.InProjCtx2Ideal.main_arg2)
      ∧ m' ((c.tc : Thread Cert.InProjCtxRef2Ideal.nD Cert.InProjCtxRef2Ideal.τ).loc Cert.InProjCtxRef2Ideal.main_arg3) = m ((c.tc : Thread Cert.InProjCtx2Ideal.nD Cert.InProjCtx2Ideal.τ).loc Cert.InProjCtx2Ideal.main_arg3)) →
    ∃ (v0 : (c : Dev Cert.InProjCtx2Ideal.nD) → Buf (Elt Ideal) ((c.tc : Thread Cert.InProjCtx2Ideal.nD Cert.InProjCtx2Ideal.τ).loc Cert.InProjCtx2Ideal.main_v3)),
      θ_run (Cert.InProjCtx2Ideal.defs (F := Ideal)) (onTc (τ := Cert.InProjCtx2Ideal.τ) (Cert.InProjCtx2Ideal.main (F := Ideal))) ⟨m, fun _ => 0, g⟩ (fun r => ∀ c : Dev Cert.InProjCtx2Ideal.nD,
          r.2.mem ((c.tc : Thread Cert.InProjCtx2Ideal.nD Cert.InProjCtx2Ideal.τ).loc Cert.InProjCtx2Ideal.main_v3) = v0 c
          ∧ r.2.mem ((c.tc : Thread Cert.InProjCtx2Ideal.nD Cert.InProjCtx2Ideal.τ).loc Cert.InProjCtx2Ideal.main_arg0) = m ((c.tc : Thread Cert.InProjCtx2Ideal.nD Cert.InProjCtx2Ideal.τ).loc Cert.InProjCtx2Ideal.main_arg0)
          ∧ r.2.mem ((c.tc : Thread Cert.InProjCtx2Ideal.nD Cert.InProjCtx2Ideal.τ).loc Cert.InProjCtx2Ideal.main_arg1) = m ((c.tc : Thread Cert.InProjCtx2Ideal.nD Cert.InProjCtx2Ideal.τ).loc Cert.InProjCtx2Ideal.main_arg1)
          ∧ r.2.mem ((c.tc : Thread Cert.InProjCtx2Ideal.nD Cert.InProjCtx2Ideal.τ).loc Cert.InProjCtx2Ideal.main_arg2) = m ((c.tc : Thread Cert.InProjCtx2Ideal.nD Cert.InProjCtx2Ideal.τ).loc Cert.InProjCtx2Ideal.main_arg2)
          ∧ r.2.mem ((c.tc : Thread Cert.InProjCtx2Ideal.nD Cert.InProjCtx2Ideal.τ).loc Cert.InProjCtx2Ideal.main_arg3) = m ((c.tc : Thread Cert.InProjCtx2Ideal.nD Cert.InProjCtx2Ideal.τ).loc Cert.InProjCtx2Ideal.main_arg3))
      ∧ θ_run (Cert.InProjCtxRef2Ideal.defs (F := Ideal)) (onTc (τ := Cert.InProjCtxRef2Ideal.τ) (Cert.InProjCtxRef2Ideal.main (F := Ideal))) ⟨m', fun _ => 0, g'⟩ (fun r => ∀ c : Dev Cert.InProjCtxRef2Ideal.nD,
          r.2.mem ((c.tc : Thread Cert.InProjCtxRef2Ideal.nD Cert.InProjCtxRef2Ideal.τ).loc Cert.InProjCtxRef2Ideal.main_v33) = v0 c
          ∧ r.2.mem ((c.tc : Thread Cert.InProjCtxRef2Ideal.nD Cert.InProjCtxRef2Ideal.τ).loc Cert.InProjCtxRef2Ideal.main_arg0) = m' ((c.tc : Thread Cert.InProjCtxRef2Ideal.nD Cert.InProjCtxRef2Ideal.τ).loc Cert.InProjCtxRef2Ideal.main_arg0)
          ∧ r.2.mem ((c.tc : Thread Cert.InProjCtxRef2Ideal.nD Cert.InProjCtxRef2Ideal.τ).loc Cert.InProjCtxRef2Ideal.main_arg1) = m' ((c.tc : Thread Cert.InProjCtxRef2Ideal.nD Cert.InProjCtxRef2Ideal.τ).loc Cert.InProjCtxRef2Ideal.main_arg1)
          ∧ r.2.mem ((c.tc : Thread Cert.InProjCtxRef2Ideal.nD Cert.InProjCtxRef2Ideal.τ).loc Cert.InProjCtxRef2Ideal.main_arg2) = m' ((c.tc : Thread Cert.InProjCtxRef2Ideal.nD Cert.InProjCtxRef2Ideal.τ).loc Cert.InProjCtxRef2Ideal.main_arg2)
          ∧ r.2.mem ((c.tc : Thread Cert.InProjCtxRef2Ideal.nD Cert.InProjCtxRef2Ideal.τ).loc Cert.InProjCtxRef2Ideal.main_arg3) = m' ((c.tc : Thread Cert.InProjCtxRef2Ideal.nD Cert.InProjCtxRef2Ideal.τ).loc Cert.InProjCtxRef2Ideal.main_arg3))

def preserves_InProjCtx3_InProjCtx3Ideal : Prop :=
  True

def algebraic_InProjCtx3Ideal_InProjCtxRef3Ideal [hInProjCtx3Ideal : Cert.InProjCtx3Ideal.Facts] [hInProjCtxRef3Ideal : Cert.InProjCtxRef3Ideal.Facts] : Prop :=
  ∀ (m : (ℓ : Loc Cert.InProjCtx3Ideal.nD Cert.InProjCtx3Ideal.τ Cert.InProjCtx3Ideal.sig) → Buf (Elt Ideal) ℓ) (g : Dev Cert.InProjCtx3Ideal.nD → PrngReg)
    (m' : (ℓ : Loc Cert.InProjCtxRef3Ideal.nD Cert.InProjCtxRef3Ideal.τ Cert.InProjCtxRef3Ideal.sig) → Buf (Elt Ideal) ℓ) (g' : Dev Cert.InProjCtxRef3Ideal.nD → PrngReg), Pre_InProjCtx3Ideal m →
    (∀ c : Dev Cert.InProjCtx3Ideal.nD,
      m' ((c.tc : Thread Cert.InProjCtxRef3Ideal.nD Cert.InProjCtxRef3Ideal.τ).loc Cert.InProjCtxRef3Ideal.main_arg0) = m ((c.tc : Thread Cert.InProjCtx3Ideal.nD Cert.InProjCtx3Ideal.τ).loc Cert.InProjCtx3Ideal.main_arg0)
      ∧ m' ((c.tc : Thread Cert.InProjCtxRef3Ideal.nD Cert.InProjCtxRef3Ideal.τ).loc Cert.InProjCtxRef3Ideal.main_arg1) = m ((c.tc : Thread Cert.InProjCtx3Ideal.nD Cert.InProjCtx3Ideal.τ).loc Cert.InProjCtx3Ideal.main_arg1)
      ∧ m' ((c.tc : Thread Cert.InProjCtxRef3Ideal.nD Cert.InProjCtxRef3Ideal.τ).loc Cert.InProjCtxRef3Ideal.main_arg2) = m ((c.tc : Thread Cert.InProjCtx3Ideal.nD Cert.InProjCtx3Ideal.τ).loc Cert.InProjCtx3Ideal.main_arg2)
      ∧ m' ((c.tc : Thread Cert.InProjCtxRef3Ideal.nD Cert.InProjCtxRef3Ideal.τ).loc Cert.InProjCtxRef3Ideal.main_arg3) = m ((c.tc : Thread Cert.InProjCtx3Ideal.nD Cert.InProjCtx3Ideal.τ).loc Cert.InProjCtx3Ideal.main_arg3)) →
    ∃ (v0 : (c : Dev Cert.InProjCtx3Ideal.nD) → Buf (Elt Ideal) ((c.tc : Thread Cert.InProjCtx3Ideal.nD Cert.InProjCtx3Ideal.τ).loc Cert.InProjCtx3Ideal.main_v3)),
      θ_run (Cert.InProjCtx3Ideal.defs (F := Ideal)) (onTc (τ := Cert.InProjCtx3Ideal.τ) (Cert.InProjCtx3Ideal.main (F := Ideal))) ⟨m, fun _ => 0, g⟩ (fun r => ∀ c : Dev Cert.InProjCtx3Ideal.nD,
          r.2.mem ((c.tc : Thread Cert.InProjCtx3Ideal.nD Cert.InProjCtx3Ideal.τ).loc Cert.InProjCtx3Ideal.main_v3) = v0 c
          ∧ r.2.mem ((c.tc : Thread Cert.InProjCtx3Ideal.nD Cert.InProjCtx3Ideal.τ).loc Cert.InProjCtx3Ideal.main_arg0) = m ((c.tc : Thread Cert.InProjCtx3Ideal.nD Cert.InProjCtx3Ideal.τ).loc Cert.InProjCtx3Ideal.main_arg0)
          ∧ r.2.mem ((c.tc : Thread Cert.InProjCtx3Ideal.nD Cert.InProjCtx3Ideal.τ).loc Cert.InProjCtx3Ideal.main_arg1) = m ((c.tc : Thread Cert.InProjCtx3Ideal.nD Cert.InProjCtx3Ideal.τ).loc Cert.InProjCtx3Ideal.main_arg1)
          ∧ r.2.mem ((c.tc : Thread Cert.InProjCtx3Ideal.nD Cert.InProjCtx3Ideal.τ).loc Cert.InProjCtx3Ideal.main_arg2) = m ((c.tc : Thread Cert.InProjCtx3Ideal.nD Cert.InProjCtx3Ideal.τ).loc Cert.InProjCtx3Ideal.main_arg2)
          ∧ r.2.mem ((c.tc : Thread Cert.InProjCtx3Ideal.nD Cert.InProjCtx3Ideal.τ).loc Cert.InProjCtx3Ideal.main_arg3) = m ((c.tc : Thread Cert.InProjCtx3Ideal.nD Cert.InProjCtx3Ideal.τ).loc Cert.InProjCtx3Ideal.main_arg3))
      ∧ θ_run (Cert.InProjCtxRef3Ideal.defs (F := Ideal)) (onTc (τ := Cert.InProjCtxRef3Ideal.τ) (Cert.InProjCtxRef3Ideal.main (F := Ideal))) ⟨m', fun _ => 0, g'⟩ (fun r => ∀ c : Dev Cert.InProjCtxRef3Ideal.nD,
          r.2.mem ((c.tc : Thread Cert.InProjCtxRef3Ideal.nD Cert.InProjCtxRef3Ideal.τ).loc Cert.InProjCtxRef3Ideal.main_v33) = v0 c
          ∧ r.2.mem ((c.tc : Thread Cert.InProjCtxRef3Ideal.nD Cert.InProjCtxRef3Ideal.τ).loc Cert.InProjCtxRef3Ideal.main_arg0) = m' ((c.tc : Thread Cert.InProjCtxRef3Ideal.nD Cert.InProjCtxRef3Ideal.τ).loc Cert.InProjCtxRef3Ideal.main_arg0)
          ∧ r.2.mem ((c.tc : Thread Cert.InProjCtxRef3Ideal.nD Cert.InProjCtxRef3Ideal.τ).loc Cert.InProjCtxRef3Ideal.main_arg1) = m' ((c.tc : Thread Cert.InProjCtxRef3Ideal.nD Cert.InProjCtxRef3Ideal.τ).loc Cert.InProjCtxRef3Ideal.main_arg1)
          ∧ r.2.mem ((c.tc : Thread Cert.InProjCtxRef3Ideal.nD Cert.InProjCtxRef3Ideal.τ).loc Cert.InProjCtxRef3Ideal.main_arg2) = m' ((c.tc : Thread Cert.InProjCtxRef3Ideal.nD Cert.InProjCtxRef3Ideal.τ).loc Cert.InProjCtxRef3Ideal.main_arg2)
          ∧ r.2.mem ((c.tc : Thread Cert.InProjCtxRef3Ideal.nD Cert.InProjCtxRef3Ideal.τ).loc Cert.InProjCtxRef3Ideal.main_arg3) = m' ((c.tc : Thread Cert.InProjCtxRef3Ideal.nD Cert.InProjCtxRef3Ideal.τ).loc Cert.InProjCtxRef3Ideal.main_arg3))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v6)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v6) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v8) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Pos_PosIdeal : Prop :=
  True

def algebraic_PosIdeal_PosRefIdeal [hPosIdeal : Cert.PosIdeal.Facts] [hPosRefIdeal : Cert.PosRefIdeal.Facts] : Prop :=
  ∀ (m : (ℓ : Loc Cert.PosIdeal.nD Cert.PosIdeal.τ Cert.PosIdeal.sig) → Buf (Elt Ideal) ℓ) (g : Dev Cert.PosIdeal.nD → PrngReg)
    (m' : (ℓ : Loc Cert.PosRefIdeal.nD Cert.PosRefIdeal.τ Cert.PosRefIdeal.sig) → Buf (Elt Ideal) ℓ) (g' : Dev Cert.PosRefIdeal.nD → PrngReg), Pre_PosIdeal m →
    (∀ c : Dev Cert.PosIdeal.nD,
      m' ((c.tc : Thread Cert.PosRefIdeal.nD Cert.PosRefIdeal.τ).loc Cert.PosRefIdeal.main_arg0) = m ((c.tc : Thread Cert.PosIdeal.nD Cert.PosIdeal.τ).loc Cert.PosIdeal.main_arg0)
      ∧ m' ((c.tc : Thread Cert.PosRefIdeal.nD Cert.PosRefIdeal.τ).loc Cert.PosRefIdeal.main_arg1) = m ((c.tc : Thread Cert.PosIdeal.nD Cert.PosIdeal.τ).loc Cert.PosIdeal.main_arg1)) →
    ∃ (v0 : (c : Dev Cert.PosIdeal.nD) → Buf (Elt Ideal) ((c.tc : Thread Cert.PosIdeal.nD Cert.PosIdeal.τ).loc Cert.PosIdeal.main_v0)),
      θ_run (Cert.PosIdeal.defs (F := Ideal)) (onTc (τ := Cert.PosIdeal.τ) (Cert.PosIdeal.main (F := Ideal))) ⟨m, fun _ => 0, g⟩ (fun r => ∀ c : Dev Cert.PosIdeal.nD,
          r.2.mem ((c.tc : Thread Cert.PosIdeal.nD Cert.PosIdeal.τ).loc Cert.PosIdeal.main_v0) = v0 c
          ∧ r.2.mem ((c.tc : Thread Cert.PosIdeal.nD Cert.PosIdeal.τ).loc Cert.PosIdeal.main_arg0) = m ((c.tc : Thread Cert.PosIdeal.nD Cert.PosIdeal.τ).loc Cert.PosIdeal.main_arg0)
          ∧ r.2.mem ((c.tc : Thread Cert.PosIdeal.nD Cert.PosIdeal.τ).loc Cert.PosIdeal.main_arg1) = m ((c.tc : Thread Cert.PosIdeal.nD Cert.PosIdeal.τ).loc Cert.PosIdeal.main_arg1))
      ∧ θ_run (Cert.PosRefIdeal.defs (F := Ideal)) (onTc (τ := Cert.PosRefIdeal.τ) (Cert.PosRefIdeal.main (F := Ideal))) ⟨m', fun _ => 0, g'⟩ (fun r => ∀ c : Dev Cert.PosRefIdeal.nD,
          r.2.mem ((c.tc : Thread Cert.PosRefIdeal.nD Cert.PosRefIdeal.τ).loc Cert.PosRefIdeal.main_v9) = v0 c
          ∧ r.2.mem ((c.tc : Thread Cert.PosRefIdeal.nD Cert.PosRefIdeal.τ).loc Cert.PosRefIdeal.main_arg0) = m' ((c.tc : Thread Cert.PosRefIdeal.nD Cert.PosRefIdeal.τ).loc Cert.PosRefIdeal.main_arg0)
          ∧ r.2.mem ((c.tc : Thread Cert.PosRefIdeal.nD Cert.PosRefIdeal.τ).loc Cert.PosRefIdeal.main_arg1) = m' ((c.tc : Thread Cert.PosRefIdeal.nD Cert.PosRefIdeal.τ).loc Cert.PosRefIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hLru : Cert.Lru.Facts) (hLruIdeal : Cert.LruIdeal.Facts) (hLruRefIdeal : Cert.LruRefIdeal.Facts) (hMlp0 : Cert.Mlp0.Facts) (hMlp0Ideal : Cert.Mlp0Ideal.Facts) (hMlpRef0Ideal : Cert.MlpRef0Ideal.Facts) (hMlp1 : Cert.Mlp1.Facts) (hMlp1Ideal : Cert.Mlp1Ideal.Facts) (hMlpRef1Ideal : Cert.MlpRef1Ideal.Facts) (hMlp2 : Cert.Mlp2.Facts) (hMlp2Ideal : Cert.Mlp2Ideal.Facts) (hMlpRef2Ideal : Cert.MlpRef2Ideal.Facts) (hInProj0 : Cert.InProj0.Facts) (hInProj0Ideal : Cert.InProj0Ideal.Facts) (hInProjRef0Ideal : Cert.InProjRef0Ideal.Facts) (hInProj1 : Cert.InProj1.Facts) (hInProj1Ideal : Cert.InProj1Ideal.Facts) (hInProjRef1Ideal : Cert.InProjRef1Ideal.Facts) (hInProj2 : Cert.InProj2.Facts) (hInProj2Ideal : Cert.InProj2Ideal.Facts) (hInProjRef2Ideal : Cert.InProjRef2Ideal.Facts) (hMlpCtx0 : Cert.MlpCtx0.Facts) (hMlpCtx0Ideal : Cert.MlpCtx0Ideal.Facts) (hMlpCtxRef0Ideal : Cert.MlpCtxRef0Ideal.Facts) (hMlpCtx1 : Cert.MlpCtx1.Facts) (hMlpCtx1Ideal : Cert.MlpCtx1Ideal.Facts) (hMlpCtxRef1Ideal : Cert.MlpCtxRef1Ideal.Facts) (hMlpCtx2 : Cert.MlpCtx2.Facts) (hMlpCtx2Ideal : Cert.MlpCtx2Ideal.Facts) (hMlpCtxRef2Ideal : Cert.MlpCtxRef2Ideal.Facts) (hInProjCtx0 : Cert.InProjCtx0.Facts) (hInProjCtx0Ideal : Cert.InProjCtx0Ideal.Facts) (hInProjCtxRef0Ideal : Cert.InProjCtxRef0Ideal.Facts) (hInProjCtx1 : Cert.InProjCtx1.Facts) (hInProjCtx1Ideal : Cert.InProjCtx1Ideal.Facts) (hInProjCtxRef1Ideal : Cert.InProjCtxRef1Ideal.Facts) (hInProjCtx2 : Cert.InProjCtx2.Facts) (hInProjCtx2Ideal : Cert.InProjCtx2Ideal.Facts) (hInProjCtxRef2Ideal : Cert.InProjCtxRef2Ideal.Facts) (hInProjCtx3 : Cert.InProjCtx3.Facts) (hInProjCtx3Ideal : Cert.InProjCtx3Ideal.Facts) (hInProjCtxRef3Ideal : Cert.InProjCtxRef3Ideal.Facts) (hMod : Cert.Mod.Facts) (hModIdeal : Cert.ModIdeal.Facts) (hModRefIdeal : Cert.ModRefIdeal.Facts) (hPos : Cert.Pos.Facts) (hPosIdeal : Cert.PosIdeal.Facts) (hPosRefIdeal : Cert.PosRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_Lru (hLru := hLru)
    ∧ quiescent_LruIdeal (hLruIdeal := hLruIdeal)
    ∧ quiescent_LruRefIdeal (hLruRefIdeal := hLruRefIdeal)
    ∧ quiescent_Mlp0 (hMlp0 := hMlp0)
    ∧ quiescent_Mlp0Ideal (hMlp0Ideal := hMlp0Ideal)
    ∧ quiescent_MlpRef0Ideal (hMlpRef0Ideal := hMlpRef0Ideal)
    ∧ quiescent_Mlp1 (hMlp1 := hMlp1)
    ∧ quiescent_Mlp1Ideal (hMlp1Ideal := hMlp1Ideal)
    ∧ quiescent_MlpRef1Ideal (hMlpRef1Ideal := hMlpRef1Ideal)
    ∧ quiescent_Mlp2 (hMlp2 := hMlp2)
    ∧ quiescent_Mlp2Ideal (hMlp2Ideal := hMlp2Ideal)
    ∧ quiescent_MlpRef2Ideal (hMlpRef2Ideal := hMlpRef2Ideal)
    ∧ quiescent_InProj0 (hInProj0 := hInProj0)
    ∧ quiescent_InProj0Ideal (hInProj0Ideal := hInProj0Ideal)
    ∧ quiescent_InProjRef0Ideal (hInProjRef0Ideal := hInProjRef0Ideal)
    ∧ quiescent_InProj1 (hInProj1 := hInProj1)
    ∧ quiescent_InProj1Ideal (hInProj1Ideal := hInProj1Ideal)
    ∧ quiescent_InProjRef1Ideal (hInProjRef1Ideal := hInProjRef1Ideal)
    ∧ quiescent_InProj2 (hInProj2 := hInProj2)
    ∧ quiescent_InProj2Ideal (hInProj2Ideal := hInProj2Ideal)
    ∧ quiescent_InProjRef2Ideal (hInProjRef2Ideal := hInProjRef2Ideal)
    ∧ quiescent_MlpCtx0 (hMlpCtx0 := hMlpCtx0)
    ∧ quiescent_MlpCtx0Ideal (hMlpCtx0Ideal := hMlpCtx0Ideal)
    ∧ quiescent_MlpCtxRef0Ideal (hMlpCtxRef0Ideal := hMlpCtxRef0Ideal)
    ∧ quiescent_MlpCtx1 (hMlpCtx1 := hMlpCtx1)
    ∧ quiescent_MlpCtx1Ideal (hMlpCtx1Ideal := hMlpCtx1Ideal)
    ∧ quiescent_MlpCtxRef1Ideal (hMlpCtxRef1Ideal := hMlpCtxRef1Ideal)
    ∧ quiescent_MlpCtx2 (hMlpCtx2 := hMlpCtx2)
    ∧ quiescent_MlpCtx2Ideal (hMlpCtx2Ideal := hMlpCtx2Ideal)
    ∧ quiescent_MlpCtxRef2Ideal (hMlpCtxRef2Ideal := hMlpCtxRef2Ideal)
    ∧ quiescent_InProjCtx0 (hInProjCtx0 := hInProjCtx0)
    ∧ quiescent_InProjCtx0Ideal (hInProjCtx0Ideal := hInProjCtx0Ideal)
    ∧ quiescent_InProjCtxRef0Ideal (hInProjCtxRef0Ideal := hInProjCtxRef0Ideal)
    ∧ quiescent_InProjCtx1 (hInProjCtx1 := hInProjCtx1)
    ∧ quiescent_InProjCtx1Ideal (hInProjCtx1Ideal := hInProjCtx1Ideal)
    ∧ quiescent_InProjCtxRef1Ideal (hInProjCtxRef1Ideal := hInProjCtxRef1Ideal)
    ∧ quiescent_InProjCtx2 (hInProjCtx2 := hInProjCtx2)
    ∧ quiescent_InProjCtx2Ideal (hInProjCtx2Ideal := hInProjCtx2Ideal)
    ∧ quiescent_InProjCtxRef2Ideal (hInProjCtxRef2Ideal := hInProjCtxRef2Ideal)
    ∧ quiescent_InProjCtx3 (hInProjCtx3 := hInProjCtx3)
    ∧ quiescent_InProjCtx3Ideal (hInProjCtx3Ideal := hInProjCtx3Ideal)
    ∧ quiescent_InProjCtxRef3Ideal (hInProjCtxRef3Ideal := hInProjCtxRef3Ideal)
    ∧ quiescent_Mod (hMod := hMod)
    ∧ quiescent_ModIdeal (hModIdeal := hModIdeal)
    ∧ quiescent_ModRefIdeal (hModRefIdeal := hModRefIdeal)
    ∧ quiescent_Pos (hPos := hPos)
    ∧ quiescent_PosIdeal (hPosIdeal := hPosIdeal)
    ∧ quiescent_PosRefIdeal (hPosRefIdeal := hPosRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_Lru_LruIdeal
    ∧ algebraic_LruIdeal_LruRefIdeal (hLruIdeal := hLruIdeal) (hLruRefIdeal := hLruRefIdeal)
    ∧ preserves_Mlp0_Mlp0Ideal
    ∧ algebraic_Mlp0Ideal_MlpRef0Ideal (hMlp0Ideal := hMlp0Ideal) (hMlpRef0Ideal := hMlpRef0Ideal)
    ∧ preserves_Mlp1_Mlp1Ideal
    ∧ algebraic_Mlp1Ideal_MlpRef1Ideal (hMlp1Ideal := hMlp1Ideal) (hMlpRef1Ideal := hMlpRef1Ideal)
    ∧ preserves_Mlp2_Mlp2Ideal
    ∧ algebraic_Mlp2Ideal_MlpRef2Ideal (hMlp2Ideal := hMlp2Ideal) (hMlpRef2Ideal := hMlpRef2Ideal)
    ∧ preserves_InProj0_InProj0Ideal
    ∧ algebraic_InProj0Ideal_InProjRef0Ideal (hInProj0Ideal := hInProj0Ideal) (hInProjRef0Ideal := hInProjRef0Ideal)
    ∧ preserves_InProj1_InProj1Ideal
    ∧ algebraic_InProj1Ideal_InProjRef1Ideal (hInProj1Ideal := hInProj1Ideal) (hInProjRef1Ideal := hInProjRef1Ideal)
    ∧ preserves_InProj2_InProj2Ideal
    ∧ algebraic_InProj2Ideal_InProjRef2Ideal (hInProj2Ideal := hInProj2Ideal) (hInProjRef2Ideal := hInProjRef2Ideal)
    ∧ preserves_MlpCtx0_MlpCtx0Ideal
    ∧ algebraic_MlpCtx0Ideal_MlpCtxRef0Ideal (hMlpCtx0Ideal := hMlpCtx0Ideal) (hMlpCtxRef0Ideal := hMlpCtxRef0Ideal)
    ∧ preserves_MlpCtx1_MlpCtx1Ideal
    ∧ algebraic_MlpCtx1Ideal_MlpCtxRef1Ideal (hMlpCtx1Ideal := hMlpCtx1Ideal) (hMlpCtxRef1Ideal := hMlpCtxRef1Ideal)
    ∧ preserves_MlpCtx2_MlpCtx2Ideal
    ∧ algebraic_MlpCtx2Ideal_MlpCtxRef2Ideal (hMlpCtx2Ideal := hMlpCtx2Ideal) (hMlpCtxRef2Ideal := hMlpCtxRef2Ideal)
    ∧ preserves_InProjCtx0_InProjCtx0Ideal
    ∧ algebraic_InProjCtx0Ideal_InProjCtxRef0Ideal (hInProjCtx0Ideal := hInProjCtx0Ideal) (hInProjCtxRef0Ideal := hInProjCtxRef0Ideal)
    ∧ preserves_InProjCtx1_InProjCtx1Ideal
    ∧ algebraic_InProjCtx1Ideal_InProjCtxRef1Ideal (hInProjCtx1Ideal := hInProjCtx1Ideal) (hInProjCtxRef1Ideal := hInProjCtxRef1Ideal)
    ∧ preserves_InProjCtx2_InProjCtx2Ideal
    ∧ algebraic_InProjCtx2Ideal_InProjCtxRef2Ideal (hInProjCtx2Ideal := hInProjCtx2Ideal) (hInProjCtxRef2Ideal := hInProjCtxRef2Ideal)
    ∧ preserves_InProjCtx3_InProjCtx3Ideal
    ∧ algebraic_InProjCtx3Ideal_InProjCtxRef3Ideal (hInProjCtx3Ideal := hInProjCtx3Ideal) (hInProjCtxRef3Ideal := hInProjCtxRef3Ideal)
    ∧ preserves_Mod_ModIdeal
    ∧ algebraic_ModIdeal_ModRefIdeal (hModIdeal := hModIdeal) (hModRefIdeal := hModRefIdeal)
    ∧ preserves_Pos_PosIdeal
    ∧ algebraic_PosIdeal_PosRefIdeal (hPosIdeal := hPosIdeal) (hPosRefIdeal := hPosRefIdeal)
-- ==== Kernel.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c3_i32 : BitVec 32 := 3#32
  let c3_i32_0 : BitVec 32 := 3#32
  let c0_i32 : BitVec 32 := 0#32
  let c0_i32_1 : BitVec 32 := 0#32
  let c0_i32_2 : BitVec 32 := 0#32
  ![c3_i32.toNat, arg0.toNat, c3_i32_0.toNat, c0_i32.toNat, c0_i32_1.toNat]

def cc0_transform_3 (i : grid0.Coords) : Fin 5 → Nat :=
  let arg0 : BitVec 32 := BitVec.ofNat 32 (i 0).val
  let arg1 : BitVec 32 := BitVec.ofNat 32 (i 1).val
  let c3_i32 : BitVec 32 := 3#32
  let c4_i32 : BitVec 32 := 4#32
  let c0_i32 : BitVec 32 := 0#32
  let c0_i32_0 : BitVec 32 := 0#32
  let c0_i32_1 : BitVec 32 := 0#32
  ![c3_i32.toNat, arg0.toNat, c4_i32.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c3_i32 : BitVec 32 := 3#32
  let c5_i32 : BitVec 32 := 5#32
  let c0_i32 : BitVec 32 := 0#32
  let c0_i32_0 : BitVec 32 := 0#32
  let c0_i32_1 : BitVec 32 := 0#32
  ![c3_i32.toNat, arg0.toNat, c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c3_i32 : BitVec 32 := 3#32
  let c3_i32_0 : BitVec 32 := 3#32
  let c0_i32 : BitVec 32 := 0#32
  let c0_i32_1 : BitVec 32 := 0#32
  let c0_i32_2 : BitVec 32 := 0#32
  ![c3_i32.toNat, arg0.toNat, c3_i32_0.toNat, c0_i32.toNat, c0_i32_1.toNat]

def cc0_transform_3 (i : grid0.Coords) : Fin 5 → Nat :=
  let arg0 : BitVec 32 := BitVec.ofNat 32 (i 0).val
  let arg1 : BitVec 32 := BitVec.ofNat 32 (i 1).val
  let c3_i32 : BitVec 32 := 3#32
  let c4_i32 : BitVec 32 := 4#32
  let c0_i32 : BitVec 32 := 0#32
  let c0_i32_0 : BitVec 32 := 0#32
  let c0_i32_1 : BitVec 32 := 0#32
  ![c3_i32.toNat, arg0.toNat, c4_i32.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c3_i32 : BitVec 32 := 3#32
  let c5_i32 : BitVec 32 := 5#32
  let c0_i32 : BitVec 32 := 0#32
  let c0_i32_0 : BitVec 32 := 0#32
  let c0_i32_1 : BitVec 32 := 0#32
  ![c3_i32.toNat, arg0.toNat, c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1024 : Shape := ⟨1, ![1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x4x6144, .f32⟩
  | .hbm, ⟨7, _⟩ => ⟨S4x6144, .f32⟩
  | .hbm, ⟨8, _⟩ => ⟨S4x1x6144, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S1x1024, .f32⟩
  | .hbm, ⟨16, _⟩ => ⟨S1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S1x1024x4096, .f32⟩
  | .hbm, ⟨41, _⟩ => ⟨S1024x4096, .f32⟩
  | .hbm, ⟨42, _⟩ => ⟨S4x4096x4096, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S1x4096x1024, .f32⟩
  | .hbm, ⟨48, _⟩ => ⟨S4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1, .f32⟩
  | .hbm, ⟨64, _⟩ => ⟨S4x4096x1024, .f32⟩
  | .hbm, ⟨65, _⟩ => ⟨S4x4096x1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== InProj.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x4096x1792 : Shape := ⟨3, ![4, 4096, 1792]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x512x1792 : Shape := ⟨3, ![1, 512, 1792]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x4096x1792, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1024x1792, .bf16⟩
  | .local _ .vmem, ⟨8, _⟩ => ⟨S1x512x1792, .f32⟩
  | .local _ .vmem, ⟨9, _⟩ => ⟨S1x512x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, arg0.toNat, c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjIdeal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x4096x1792 : Shape := ⟨3, ![4, 4096, 1792]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x512x1792 : Shape := ⟨3, ![1, 512, 1792]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x4096x1792, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1024x1792, .bf16⟩
  | .local _ .vmem, ⟨8, _⟩ => ⟨S1x512x1792, .f32⟩
  | .local _ .vmem, ⟨9, _⟩ => ⟨S1x512x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, arg0.toNat, c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x1792 : Shape := ⟨3, ![1, 1024, 1792]⟩
abbrev S1024x1792 : Shape := ⟨2, ![1024, 1792]⟩
abbrev S4x4096x1792 : Shape := ⟨3, ![4, 4096, 1792]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S1x4x6144, .f32⟩
  | .hbm, ⟨5, _⟩ => ⟨S4x6144, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S1x1024, .f32⟩
  | .hbm, ⟨14, _⟩ => ⟨S1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S1x1024x1792, .f32⟩
  | .hbm, ⟨39, _⟩ => ⟨S1024x1792, .f32⟩
  | .hbm, ⟨40, _⟩ => ⟨S4x4096x1792, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Lru.lean ====
abbrev S4x4096x1792 : Shape := ⟨3, ![4, 4096, 1792]⟩
abbrev S4x4x256 : Shape := ⟨3, ![4, 4, 256]⟩
abbrev S4x256 : Shape := ⟨2, ![4, 256]⟩
abbrev S4x2x4x64x64 : Shape := ⟨5, ![4, 2, 4, 64, 64]⟩
abbrev S4x2x256 : Shape := ⟨3, ![4, 2, 256]⟩
abbrev S4x1x256 : Shape := ⟨3, ![4, 1, 256]⟩
abbrev S4x4 : Shape := ⟨2, ![4, 4]⟩
abbrev S_ : Shape := ⟨0, ![]⟩
abbrev S4x2x4x64x1x64 : Shape := ⟨6, ![4, 2, 4, 64, 1, 64]⟩
abbrev S4x1x4x1 : Shape := ⟨4, ![4, 1, 4, 1]⟩
abbrev S1x1x4x1x4x1 : Shape := ⟨6, ![1, 1, 4, 1, 4, 1]⟩
abbrev S4x2x4x64x4x64 : Shape := ⟨6, ![4, 2, 4, 64, 4, 64]⟩
abbrev S4x2x256x256 : Shape := ⟨4, ![4, 2, 256, 256]⟩
abbrev S4x1x256x256 : Shape := ⟨4, ![4, 1, 256, 256]⟩
abbrev S4x256x256 : Shape := ⟨3, ![4, 256, 256]⟩
abbrev S4x256x1024 : Shape := ⟨3, ![4, 256, 1024]⟩
abbrev S4x1024 : Shape := ⟨2, ![4, 1024]⟩
abbrev S4x1x1024 : Shape := ⟨3, ![4, 1, 1024]⟩
abbrev S4x1x512 : Shape := ⟨3, ![4, 1, 512]⟩
abbrev S4x4096x256 : Shape := ⟨3, ![4, 4096, 256]⟩
abbrev S4x4096x512 : Shape := ⟨3, ![4, 4096, 512]⟩
abbrev S1x512x256 : Shape := ⟨3, ![1, 512, 256]⟩
abbrev S1x8x256 : Shape := ⟨3, ![1, 8, 256]⟩
abbrev S1x4x256 : Shape := ⟨3, ![1, 4, 256]⟩
abbrev S1x1x256 : Shape := ⟨3, ![1, 1, 256]⟩
abbrev S1x256x1024 : Shape := ⟨3, ![1, 256, 1024]⟩
abbrev S1x1x1024 : Shape := ⟨3, ![1, 1, 1024]⟩
abbrev S1x1x512 : Shape := ⟨3, ![1, 1, 512]⟩
abbrev S1x512x512 : Shape := ⟨3, ![1, 512, 512]⟩
abbrev S528x256 : Shape := ⟨2, ![528, 256]⟩
abbrev S512x256 : Shape := ⟨2, ![512, 256]⟩
abbrev S1x256 : Shape := ⟨2, ![1, 256]⟩
abbrev S8x256 : Shape := ⟨2, ![8, 256]⟩
abbrev S256x1024 : Shape := ⟨2, ![256, 1024]⟩
abbrev S512x1024 : Shape := ⟨2, ![512, 1024]⟩
abbrev S1x1024 : Shape := ⟨2, ![1, 1024]⟩
abbrev S1x512 : Shape := ⟨2, ![1, 512]⟩

abbrev nBuf : Space → Nat
  | .hbm => 62
  | .vmem => 23
  | .smem => 0
  | _ => 0

abbrev bufTy : (tb : Table) → Fin (tcTables nBuf tb) → BufTy
  | .hbm, ⟨0, _⟩ => ⟨S4x4096x1792, .f32⟩
  | .hbm, ⟨1, _⟩ => ⟨S4x4x256, .f32⟩
  | .hbm, ⟨2, _⟩ => ⟨S4x256, .f32⟩
  | .hbm, ⟨3, _⟩ => ⟨S4x2x4x64x64, .f32⟩
  | .hbm, ⟨4, _⟩ => ⟨S4x2x256, .f32⟩
  | .hbm, ⟨5, _⟩ => ⟨S4x2x4x64x64, .f32⟩
  | .hbm, ⟨6, _⟩ => ⟨S4x2x256, .f32⟩
  | .hbm, ⟨7, _⟩ => ⟨S4x2x256, .f32⟩
  | .hbm, ⟨8, _⟩ => ⟨S4x1x256, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x2x4x64x1x64, .f32⟩
  | .hbm, ⟨17, _⟩ => ⟨S4x1x4x1, .f32⟩
  | .hbm, ⟨18, _⟩ => ⟨S1x1x4x1x4x1, .f32⟩
  | .hbm, ⟨19, _⟩ => ⟨S4x2x4x64x4x64, .f32⟩
  | .hbm, ⟨20, _⟩ => ⟨S4x2x4x64x4x64, .f32⟩
  | .hbm, ⟨21, _⟩ => ⟨S4x2x4x64x4x64, .f32⟩
  | .hbm, ⟨22, _⟩ => ⟨S4x2x256x256, .f32⟩
  | .hbm, ⟨23, _⟩ => ⟨S4x4, .i32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S4x4, .f32⟩
  | .hbm, ⟨30, _⟩ => ⟨S4x2x4x64x1x64, .f32⟩
  | .hbm, ⟨31, _⟩ => ⟨S4x1x4x1, .f32⟩
  | .hbm, ⟨32, _⟩ => ⟨S1x1x4x1x4x1, .f32⟩
  | .hbm, ⟨33, _⟩ => ⟨S4x2x4x64x4x64, .f32⟩
  | .hbm, ⟨34, _⟩ => ⟨S4x2x4x64x4x64, .f32⟩
  | .hbm, ⟨35, _⟩ => ⟨S4x2x4x64x4x64, .f32⟩
  | .hbm, ⟨36, _⟩ => ⟨S4x2x256x256, .f32⟩
  | .hbm, ⟨37, _⟩ => ⟨S4x1x256x256, .f32⟩
  | .hbm, ⟨38, _⟩ => ⟨S4x256x256, .f32⟩
  | .hbm, ⟨39, _⟩ => ⟨S4x1x256x256, .f32⟩
  | .hbm, ⟨40, _⟩ => ⟨S4x256x256, .f32⟩
  | .hbm, ⟨41, _⟩ => ⟨S4x1x256x256, .f32⟩
  | .hbm, ⟨42, _⟩ => ⟨S4x256x256, .f32⟩
  | .hbm, ⟨43, _⟩ => ⟨S4x1x256x256, .f32⟩
  | .hbm, ⟨44, _⟩ => ⟨S4x256x256, .f32⟩
  | .hbm, ⟨45, _⟩ => ⟨S4x256x1024, .f32⟩
  | .hbm, ⟨46, _⟩ => ⟨S4x256x1024, .bf16⟩
  | .hbm, ⟨47, _⟩ => ⟨S4x1x256, .f32⟩
  | .hbm, ⟨48, _⟩ => ⟨S4x256, .f32⟩
  | .hbm, ⟨49, _⟩ => ⟨S4x1x256, .f32⟩
  | .hbm, ⟨50, _⟩ => ⟨S4x256, .f32⟩
  | .hbm, ⟨51, _⟩ => ⟨S4x1x256, .f32⟩
  | .hbm, ⟨52, _⟩ => ⟨S4x256, .f32⟩
  | .hbm, ⟨53, _⟩ => ⟨S4x1x256, .f32⟩
  | .hbm, ⟨54, _⟩ => ⟨S4x256, .f32⟩
  | .hbm, ⟨55, _⟩ => ⟨S4x1024, .f32⟩
  | .hbm, ⟨56, _⟩ => ⟨S4x1x1024, .f32⟩
  | .hbm, ⟨57, _⟩ => ⟨S4x1x512, .f32⟩
  | .hbm, ⟨58, _⟩ => ⟨S4x1x256, .f32⟩
  | .hbm, ⟨59, _⟩ => ⟨S4x4096x256, .f32⟩
  | .hbm, ⟨60, _⟩ => ⟨S4x4096x512, .f32⟩
  | .hbm, ⟨61, _⟩ => ⟨S4x1x256, .f32⟩
  | .local _ .vmem, ⟨0, _⟩ => ⟨S1x512x256, .f32⟩
  | .local _ .vmem, ⟨1, _⟩ => ⟨S1x512x256, .f32⟩
  | .local _ .vmem, ⟨2, _⟩ => ⟨S1x8x256, .f32⟩
  | .local _ .vmem, ⟨3, _⟩ => ⟨S1x8x256, .f32⟩
  | .local _ .vmem, ⟨4, _⟩ => ⟨S1x8x256, .f32⟩
  | .local _ .vmem, ⟨5, _⟩ => ⟨S1x8x256, .f32⟩
  | .local _ .vmem, ⟨6, _⟩ => ⟨S1x4x256, .f32⟩
  | .local _ .vmem, ⟨7, _⟩ => ⟨S1x1x256, .f32⟩
  | .local _ .vmem, ⟨8, _⟩ => ⟨S1x256x1024, .bf16⟩
  | .local _ .vmem, ⟨9, _⟩ => ⟨S1x1x1024, .f32⟩
  | .local _ .vmem, ⟨10, _⟩ => ⟨S1x1x512, .f32⟩
  | .local _ .vmem, ⟨11, _⟩ => ⟨S1x1x256, .f32⟩
  | .local _ .vmem, ⟨12, _⟩ => ⟨S1x1x256, .f32⟩
  | .local _ .vmem, ⟨13, _⟩ => ⟨S1x512x256, .f32⟩
  | .local _ .vmem, ⟨14, _⟩ => ⟨S1x512x256, .f32⟩
  | .local _ .vmem, ⟨15, _⟩ => ⟨S1x512x512, .f32⟩
  | .local _ .vmem, ⟨16, _⟩ => ⟨S1x512x512, .f32⟩
  | .local _ .vmem, ⟨17, _⟩ => ⟨S1x1x256, .f32⟩
  | .local _ .vmem, ⟨18, _⟩ => ⟨S1x1x256, .f32⟩
  | .local _ .vmem, ⟨19, _⟩ => ⟨S528x256, .f32⟩
  | .local _ .vmem, ⟨20, _⟩ => ⟨S512x256, .f32⟩
  | .local _ .vmem, ⟨21, _⟩ => ⟨S512x256, .f32⟩
  | .local _ .vmem, ⟨22, _⟩ => ⟨S1x256, .f32⟩
  | _, _ => ⟨S4x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48_0 : Ref sig .tc := ⟨.hbm, 59, rfl⟩
abbrev main_v48_1 : Ref sig .tc := ⟨.hbm, 60, rfl⟩
abbrev main_v48_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_73 : BitVec 32 := 0#32
  let c64_i32 : BitVec 32 := 64#32
  let v148 : BitVec 32 := Scalar.addi c0_i32_73 c64_i32
  let c1_i32 : BitVec 32 := 1#32
  ⟨c0_i32_73, v148, c1_i32⟩
def k0_mult1 (k0_t1 : Fin k0_t1_loop.trips) : BitVec 32 :=
  let c0_i32_73 : BitVec 32 := 0#32
  let c1_i32 : BitVec 32 := 1#32
  let arg18 : BitVec 32 := Scf.iv c0_i32_73 c1_i32 k0_t1
  let c8_i32 : BitVec 32 := 8#32
  let v157 : BitVec 32 := Scalar.muli arg18 c8_i32
  v157
def k0_off1 (k0_t1 : Fin k0_t1_loop.trips) : Fin 2 → Nat :=
  let c0_i32_73 : BitVec 32 := 0#32
  let c1_i32 : BitVec 32 := 1#32
  let arg18 : BitVec 32 := Scf.iv c0_i32_73 c1_i32 k0_t1
  let c8_i32 : BitVec 32 := 8#32
  let v157 : BitVec 32 := Scalar.muli arg18 c8_i32
  let v158 : BitVec 32 := v157
  let v159 : Index := Scalar.indexCast v158
  let c0_80 : Index := 0#32
  ![v159.toNat, 0]
def k0_off2 (k0_t1 : Fin k0_t1_loop.trips) : Fin 3 → Nat :=
  let c0_95 : Index := 0#32
  let c0_i32_73 : BitVec 32 := 0#32
  let c1_i32 : BitVec 32 := 1#32
  let arg18 : BitVec 32 := Scf.iv c0_i32_73 c1_i32 k0_t1
  let c8_i32 : BitVec 32 := 8#32
  let v157 : BitVec 32 := Scalar.muli arg18 c8_i32
  let v158 : BitVec 32 := v157
  let v198 : Index := Scalar.indexCast v158
  let c0_96 : Index := 0#32
  ![0, v198.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== LruRefIdeal.lean ====
abbrev S4x4096x1792 : Shape := ⟨3, ![4, 4096, 1792]⟩
abbrev S4x4x256 : Shape := ⟨3, ![4, 4, 256]⟩
abbrev S4x256 : Shape := ⟨2, ![4, 256]⟩
abbrev S4x2x4x64x64 : Shape := ⟨5, ![4, 2, 4, 64, 64]⟩
abbrev S4x2x256 : Shape := ⟨3, ![4, 2, 256]⟩
abbrev S4x1x256 : Shape := ⟨3, ![4, 1, 256]⟩
abbrev S4x4096x256 : Shape := ⟨3, ![4, 4096, 256]⟩
abbrev S1x4x256 : Shape := ⟨3, ![1, 4, 256]⟩
abbrev S1x256 : Shape := ⟨2, ![1, 256]⟩
abbrev S256 : Shape := ⟨1, ![256]⟩
abbrev S_ : Shape := ⟨0, ![]⟩
abbrev S4x4099x256 : Shape := ⟨3, ![4, 4099, 256]⟩
abbrev S1x1x256 : Shape := ⟨3, ![1, 1, 256]⟩
abbrev S1x1x4x64x64 : Shape := ⟨5, ![1, 1, 4, 64, 64]⟩
abbrev S4x64x64 : Shape := ⟨3, ![4, 64, 64]⟩
abbrev S4x4096x4x64 : Shape := ⟨4, ![4, 4096, 4, 64]⟩
abbrev S4x64x4x4096 : Shape := ⟨4, ![4, 64, 4, 4096]⟩
abbrev S4096x4x256 : Shape := ⟨3, ![4096, 4, 256]⟩
abbrev S4096x4x512 : Shape := ⟨3, ![4096, 4, 512]⟩
abbrev S4x512 : Shape := ⟨2, ![4, 512]⟩
abbrev S1x4x512 : Shape := ⟨3, ![1, 4, 512]⟩
abbrev S4x4096x512 : Shape := ⟨3, ![4, 4096, 512]⟩

abbrev nBuf : Space → Nat
  | .hbm => 240
  | .vmem => 0
  | .smem => 0
  | _ => 0

abbrev hbmTy0_0 (i : Nat) : BufTy := match i % 128 with
  | 0 => ⟨S4x4096x1792, .f32⟩
  | 1 => ⟨S4x4x256, .f32⟩
  | 2 => ⟨S4x256, .f32⟩
  | 3 => ⟨S4x2x4x64x64, .f32⟩
  | 4 => ⟨S4x2x256, .f32⟩
  | 5 => ⟨S4x2x4x64x64, .f32⟩
  | 6 => ⟨S4x2x256, .f32⟩
  | 7 => ⟨S4x2x256, .f32⟩
  | 8 => ⟨S4x1x256, .f32⟩
  | 9 => ⟨S4x4096x256, .f32⟩
  | 10 => ⟨S1x4x256, .f32⟩
  | 11 => ⟨S4x256, .f32⟩
  | 12 => ⟨S1x256, .f32⟩
  | 13 => ⟨S256, .f32⟩
  | 14 => ⟨S_, .i32⟩
  | 15 => ⟨S_, .f32⟩
  | 16 => ⟨S4x4099x256, .f32⟩
  | 17 => ⟨S1x256, .f32⟩
  | 18 => ⟨S256, .f32⟩
  | 19 => ⟨S4x4096x256, .f32⟩
  | 20 => ⟨S1x1x256, .f32⟩
  | 21 => ⟨S4x4096x256, .f32⟩
  | 22 => ⟨S4x4096x256, .f32⟩
  | 23 => ⟨S_, .f32⟩
  | 24 => ⟨S4x4096x256, .f32⟩
  | 25 => ⟨S4x4096x256, .f32⟩
  | 26 => ⟨S1x256, .f32⟩
  | 27 => ⟨S256, .f32⟩
  | 28 => ⟨S4x4096x256, .f32⟩
  | 29 => ⟨S1x1x256, .f32⟩
  | 30 => ⟨S4x4096x256, .f32⟩
  | 31 => ⟨S4x4096x256, .f32⟩
  | 32 => ⟨S4x4096x256, .f32⟩
  | 33 => ⟨S1x256, .f32⟩
  | 34 => ⟨S256, .f32⟩
  | 35 => ⟨S4x4096x256, .f32⟩
  | 36 => ⟨S1x1x256, .f32⟩
  | 37 => ⟨S4x4096x256, .f32⟩
  | 38 => ⟨S4x4096x256, .f32⟩
  | 39 => ⟨S4x4096x256, .f32⟩
  | 40 => ⟨S1x256, .f32⟩
  | 41 => ⟨S256, .f32⟩
  | 42 => ⟨S4x4096x256, .f32⟩
  | 43 => ⟨S1x1x256, .f32⟩
  | 44 => ⟨S4x4096x256, .f32⟩
  | 45 => ⟨S4x4096x256, .f32⟩
  | 46 => ⟨S4x4096x256, .f32⟩
  | 47 => ⟨S1x1x256, .f32⟩
  | 48 => ⟨S4x4096x256, .f32⟩
  | 49 => ⟨S4x4096x256, .f32⟩
  | 50 => ⟨S1x1x4x64x64, .f32⟩
  | 51 => ⟨S4x64x64, .f32⟩
  | 52 => ⟨S1x1x256, .f32⟩
  | 53 => ⟨S256, .f32⟩
  | 54 => ⟨S1x1x4x64x64, .f32⟩
  | 55 => ⟨S4x64x64, .f32⟩
  | 56 => ⟨S1x1x256, .f32⟩
  | 57 => ⟨S256, .f32⟩
  | 58 => ⟨S1x1x256, .f32⟩
  | 59 => ⟨S256, .f32⟩
  | 60 => ⟨S4x4096x4x64, .f32⟩
  | 61 => ⟨S4x64x4x4096, .f32⟩
  | 62 => ⟨S4x4096x4x64, .f32⟩
  | 63 => ⟨S4x4096x256, .f32⟩
  | 64 => ⟨S1x1x256, .f32⟩
  | 65 => ⟨S4x4096x256, .f32⟩
  | 66 => ⟨S4x4096x256, .f32⟩
  | 67 => ⟨S4x4096x256, .f32⟩
  | 68 => ⟨S4x4096x256, .f32⟩
  | 69 => ⟨S_, .f32⟩
  | 70 => ⟨S4x4096x256, .f32⟩
  | 71 => ⟨S4x4096x256, .f32⟩
  | 72 => ⟨S_, .f32⟩
  | 73 => ⟨S4x4096x256, .f32⟩
  | 74 => ⟨S4x4096x256, .f32⟩
  | 75 => ⟨S4x64x4x4096, .f32⟩
  | 76 => ⟨S4x4096x4x64, .f32⟩
  | 77 => ⟨S4x4096x256, .f32⟩
  | 78 => ⟨S1x1x256, .f32⟩
  | 79 => ⟨S4x4096x256, .f32⟩
  | 80 => ⟨S4x4096x256, .f32⟩
  | 81 => ⟨S4x4096x256, .f32⟩
  | 82 => ⟨S4x4096x256, .f32⟩
  | 83 => ⟨S_, .f32⟩
  | 84 => ⟨S4x4096x256, .f32⟩
  | 85 => ⟨S4x4096x256, .f32⟩
  | 86 => ⟨S_, .f32⟩
  | 87 => ⟨S4x4096x256, .f32⟩
  | 88 => ⟨S4x4096x256, .f32⟩
  | 89 => ⟨S_, .f32⟩
  | 90 => ⟨S4x4096x256, .f32⟩
  | 91 => ⟨S4x4096x256, .f32⟩
  | 92 => ⟨S256, .f32⟩
  | 93 => ⟨S_, .f32⟩
  | 94 => ⟨S256, .f32⟩
  | 95 => ⟨S256, .f32⟩
  | 96 => ⟨S256, .f32⟩
  | 97 => ⟨S256, .f32⟩
  | 98 => ⟨S256, .i1⟩
  | 99 => ⟨S256, .f32⟩
  | 100 => ⟨S256, .f32⟩
  | 101 => ⟨S256, .f32⟩
  | 102 => ⟨S256, .f32⟩
  | 103 => ⟨S256, .f32⟩
  | 104 => ⟨S256, .f32⟩
  | 105 => ⟨S256, .f32⟩
  | 106 => ⟨S256, .f32⟩
  | 107 => ⟨S1x1x256, .f32⟩
  | 108 => ⟨S4x4096x256, .f32⟩
  | 109 => ⟨S4x4096x256, .f32⟩
  | 110 => ⟨S4x4096x256, .f32⟩
  | 111 => ⟨S_, .f32⟩
  | 112 => ⟨S4x4096x256, .f32⟩
  | 113 => ⟨S4x4096x256, .f32⟩
  | 114 => ⟨S4x4096x256, .f32⟩
  | 115 => ⟨S4x4096x256, .f32⟩
  | 116 => ⟨S4x4096x256, .f32⟩
  | 117 => ⟨S4x4096x256, .f32⟩
  | 118 => ⟨S4x4096x256, .f32⟩
  | 119 => ⟨S1x1x4x64x64, .f32⟩
  | 120 => ⟨S4x64x64, .f32⟩
  | 121 => ⟨S1x1x256, .f32⟩
  | 122 => ⟨S256, .f32⟩
  | 123 => ⟨S1x1x4x64x64, .f32⟩
  | 124 => ⟨S4x64x64, .f32⟩
  | 125 => ⟨S1x1x256, .f32⟩
  | 126 => ⟨S256, .f32⟩
  | 127 => ⟨S1x1x256, .f32⟩
  | _ => ⟨S4x4096x1792, .f32⟩

abbrev hbmTy0_1 (i : Nat) : BufTy := match i % 128 with
  | 0 => ⟨S256, .f32⟩
  | 1 => ⟨S4x4096x4x64, .f32⟩
  | 2 => ⟨S4x64x4x4096, .f32⟩
  | 3 => ⟨S4x4096x4x64, .f32⟩
  | 4 => ⟨S4x4096x256, .f32⟩
  | 5 => ⟨S1x1x256, .f32⟩
  | 6 => ⟨S4x4096x256, .f32⟩
  | 7 => ⟨S4x4096x256, .f32⟩
  | 8 => ⟨S4x4096x256, .f32⟩
  | 9 => ⟨S4x4096x256, .f32⟩
  | 10 => ⟨S_, .f32⟩
  | 11 => ⟨S4x4096x256, .f32⟩
  | 12 => ⟨S4x4096x256, .f32⟩
  | 13 => ⟨S_, .f32⟩
  | 14 => ⟨S4x4096x256, .f32⟩
  | 15 => ⟨S4x4096x256, .f32⟩
  | 16 => ⟨S4x64x4x4096, .f32⟩
  | 17 => ⟨S4x4096x4x64, .f32⟩
  | 18 => ⟨S4x4096x256, .f32⟩
  | 19 => ⟨S1x1x256, .f32⟩
  | 20 => ⟨S4x4096x256, .f32⟩
  | 21 => ⟨S4x4096x256, .f32⟩
  | 22 => ⟨S4x4096x256, .f32⟩
  | 23 => ⟨S4x4096x256, .f32⟩
  | 24 => ⟨S_, .f32⟩
  | 25 => ⟨S4x4096x256, .f32⟩
  | 26 => ⟨S4x4096x256, .f32⟩
  | 27 => ⟨S_, .f32⟩
  | 28 => ⟨S4x4096x256, .f32⟩
  | 29 => ⟨S4x4096x256, .f32⟩
  | 30 => ⟨S_, .f32⟩
  | 31 => ⟨S4x4096x256, .f32⟩
  | 32 => ⟨S4x4096x256, .f32⟩
  | 33 => ⟨S256, .f32⟩
  | 34 => ⟨S_, .f32⟩
  | 35 => ⟨S256, .f32⟩
  | 36 => ⟨S256, .f32⟩
  | 37 => ⟨S256, .f32⟩
  | 38 => ⟨S256, .f32⟩
  | 39 => ⟨S256, .i1⟩
  | 40 => ⟨S256, .f32⟩
  | 41 => ⟨S256, .f32⟩
  | 42 => ⟨S256, .f32⟩
  | 43 => ⟨S256, .f32⟩
  | 44 => ⟨S256, .f32⟩
  | 45 => ⟨S256, .f32⟩
  | 46 => ⟨S256, .f32⟩
  | 47 => ⟨S256, .f32⟩
  | 48 => ⟨S1x1x256, .f32⟩
  | 49 => ⟨S4x4096x256, .f32⟩
  | 50 => ⟨S4x4096x256, .f32⟩
  | 51 => ⟨S4x4096x256, .f32⟩
  | 52 => ⟨S_, .f32⟩
  | 53 => ⟨S4x4096x256, .f32⟩
  | 54 => ⟨S4x4096x256, .f32⟩
  | 55 => ⟨S4x4096x256, .f32⟩
  | 56 => ⟨S4x4096x256, .f32⟩
  | 57 => ⟨S4x4096x256, .f32⟩
  | 58 => ⟨S4x4096x256, .f32⟩
  | 59 => ⟨S4x4096x256, .f32⟩
  | 60 => ⟨S4x256, .f32⟩
  | 61 => ⟨S4096x4x256, .f32⟩
  | 62 => ⟨S4096x4x256, .f32⟩
  | 63 => ⟨S4096x4x256, .f32⟩
  | 64 => ⟨S4096x4x256, .f32⟩
  | 65 => ⟨S_, .f32⟩
  | 66 => ⟨S4096x4x256, .f32⟩
  | 67 => ⟨S_, .f32⟩
  | 68 => ⟨S4096x4x512, .f32⟩
  | 69 => ⟨S_, .i32⟩
  | 70 => ⟨S4096x4x256, .f32⟩
  | 71 => ⟨S4096x4x256, .f32⟩
  | 72 => ⟨S4096x4x256, .f32⟩
  | 73 => ⟨S4096x4x256, .f32⟩
  | 74 => ⟨S_, .i32⟩
  | 75 => ⟨S4x256, .f32⟩
  | 76 => ⟨S4096x4x256, .f32⟩
  | 77 => ⟨S4096x4x512, .f32⟩
  | 78 => ⟨S_, .i32⟩
  | 79 => ⟨S_, .i1⟩
  | 80 => ⟨S_, .i32⟩
  | 81 => ⟨S_, .i32⟩
  | 82 => ⟨S1x4x256, .f32⟩
  | 83 => ⟨S4x256, .f32⟩
  | 84 => ⟨S_, .i32⟩
  | 85 => ⟨S_, .i32⟩
  | 86 => ⟨S1x4x256, .f32⟩
  | 87 => ⟨S4x256, .f32⟩
  | 88 => ⟨S_, .i32⟩
  | 89 => ⟨S_, .i32⟩
  | 90 => ⟨S1x4x256, .f32⟩
  | 91 => ⟨S4x256, .f32⟩
  | 92 => ⟨S_, .i32⟩
  | 93 => ⟨S_, .i32⟩
  | 94 => ⟨S1x4x256, .f32⟩
  | 95 => ⟨S4x256, .f32⟩
  | 96 => ⟨S4x256, .f32⟩
  | 97 => ⟨S4x256, .f32⟩
  | 98 => ⟨S4x512, .f32⟩
  | 99 => ⟨S1x4x256, .f32⟩
  | 100 => ⟨S_, .i32⟩
  | 101 => ⟨S_, .i32⟩
  | 102 => ⟨S4096x4x256, .f32⟩
  | 103 => ⟨S1x4x512, .f32⟩
  | 104 => ⟨S_, .i32⟩
  | 105 => ⟨S_, .i32⟩
  | 106 => ⟨S4096x4x512, .f32⟩
  | 107 => ⟨S_, .i32⟩
  | 108 => ⟨S_, .i32⟩
  | 109 => ⟨S4x4096x256, .f32⟩
  | 110 => ⟨S4x4096x512, .f32⟩
  | 111 => ⟨S4x1x256, .f32⟩
  | _ => ⟨S4x4096x1792, .f32⟩

abbrev hbmTy (i : Nat) : BufTy := match i / 128 with
  | 0 => hbmTy0_0 i
  | 1 => hbmTy0_1 i
  | _ => ⟨S4x4096x1792, .f32⟩

abbrev bufTy : (tb : Table) → Fin (tcTables nBuf tb) → BufTy
  | .hbm, ⟨i, _⟩ => hbmTy i
  | _, _ => ⟨S4x4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_0 : Ref sig .tc := ⟨.hbm, 69, rfl⟩
abbrev main_v57 : Ref sig .tc := ⟨.hbm, 70, rfl⟩
abbrev main_v58 : Ref sig .tc := ⟨.hbm, 71, rfl⟩
abbrev main_cst_1 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_2 : Ref sig .tc := ⟨.hbm, 83, rfl⟩
abbrev main_v69 : Ref sig .tc := ⟨.hbm, 84, rfl⟩
abbrev main_v70 : Ref sig .tc := ⟨.hbm, 85, rfl⟩
abbrev main_cst_3 : Ref sig .tc := ⟨.hbm, 86, rfl⟩
abbrev main_v71 : Ref sig .tc := ⟨.hbm, 87, rfl⟩
abbrev main_v72 : Ref sig .tc := ⟨.hbm, 88, rfl⟩
abbrev main_cst_4 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_5 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_6 : Ref sig .tc := ⟨.hbm, 138, rfl⟩
abbrev main_v107 : Ref sig .tc := ⟨.hbm, 139, rfl⟩
abbrev main_v108 : Ref sig .tc := ⟨.hbm, 140, rfl⟩
abbrev main_cst_7 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_8 : Ref sig .tc := ⟨.hbm, 152, rfl⟩
abbrev main_v119 : Ref sig .tc := ⟨.hbm, 153, rfl⟩
abbrev main_v120 : Ref sig .tc := ⟨.hbm, 154, rfl⟩
abbrev main_cst_9 : Ref sig .tc := ⟨.hbm, 155, rfl⟩
abbrev main_v121 : Ref sig .tc := ⟨.hbm, 156, rfl⟩
abbrev main_v122 : Ref sig .tc := ⟨.hbm, 157, rfl⟩
abbrev main_cst_10 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_call2_cst : Ref sig .tc := ⟨.hbm, 162, rfl⟩
abbrev main_call2_v0 : Ref sig .tc := ⟨.hbm, 163, rfl⟩
abbrev main_call2_v1 : Ref sig .tc := ⟨.hbm, 164, rfl⟩
abbrev main_call2_v2 : Ref sig .tc := ⟨.hbm, 165, rfl⟩
abbrev main_call2_v3 : Ref sig .tc := ⟨.hbm, 166, rfl⟩
abbrev main_call2_v4 : Ref sig .tc := ⟨.hbm, 167, rfl⟩
abbrev main_call2_v5 : Ref sig .tc := ⟨.hbm, 168, rfl⟩
abbrev main_call2_v6 : Ref sig .tc := ⟨.hbm, 169, rfl⟩
abbrev main_call2_v7 : Ref sig .tc := ⟨.hbm, 170, rfl⟩
abbrev main_call2_v8 : Ref sig .tc := ⟨.hbm, 171, rfl⟩
abbrev main_call2_v9 : Ref sig .tc := ⟨.hbm, 172, rfl⟩
abbrev main_call2_v10 : Ref sig .tc := ⟨.hbm, 173, rfl⟩
abbrev main_call2_v11 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_11 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_12 : Ref sig .tc := ⟨.hbm, 193, rfl⟩
abbrev main_v143 : Ref sig .tc := ⟨.hbm, 194, rfl⟩
abbrev main_cst_13 : Ref sig .tc := ⟨.hbm, 195, rfl⟩
abbrev main_v144 : Ref sig .tc := ⟨.hbm, 196, rfl⟩
abbrev main_c_14 : Ref sig .tc := ⟨.hbm, 197, rfl⟩
abbrev main_v145_0 : Ref sig .tc := ⟨.hbm, 198, rfl⟩
abbrev main_v145_1 : Ref sig .tc := ⟨.hbm, 199, rfl⟩
abbrev main_v145_2 : Ref sig .tc := ⟨.hbm, 200, rfl⟩
abbrev main_v145_3 : Ref sig .tc := ⟨.hbm, 201, rfl⟩
abbrev main_v145_4 : Ref sig .tc := ⟨.hbm, 202, rfl⟩
abbrev main_v145_5 : Ref sig .tc := ⟨.hbm, 203, rfl⟩
abbrev main_v145_6 : Ref sig .tc := ⟨.hbm, 204, rfl⟩
abbrev main_v145_7 : Ref sig .tc := ⟨.hbm, 205, rfl⟩
abbrev main_while0c_c_22 : Ref sig .tc := ⟨.hbm, 206, rfl⟩
abbrev main_while0c_v149 : Ref sig .tc := ⟨.hbm, 207, rfl⟩
abbrev main_while0b_call3_c : Ref sig .tc := ⟨.hbm, 208, rfl⟩
abbrev main_while0b_call3_c_0 : Ref sig .tc := ⟨.hbm, 209, rfl⟩
abbrev main_while0b_call3_v0 : Ref sig .tc := ⟨.hbm, 210, rfl⟩
abbrev main_while0b_v149 : Ref sig .tc := ⟨.hbm, 211, rfl⟩
abbrev main_while0b_call4_c : Ref sig .tc := ⟨.hbm, 212, rfl⟩
abbrev main_while0b_call4_c_0 : Ref sig .tc := ⟨.hbm, 213, rfl⟩
abbrev main_while0b_call4_v0 : Ref sig .tc := ⟨.hbm, 214, rfl⟩
abbrev main_while0b_v150 : Ref sig .tc := ⟨.hbm, 215, rfl⟩
abbrev main_while0b_call5_c : Ref sig .tc := ⟨.hbm, 216, rfl⟩
abbrev main_while0b_call5_c_0 : Ref sig .tc := ⟨.hbm, 217, rfl⟩
abbrev main_while0b_call5_v0 : Ref sig .tc := ⟨.hbm, 218, rfl⟩
abbrev main_while0b_v151 : Ref sig .tc := ⟨.hbm, 219, rfl⟩
abbrev main_while0b_call6_c : Ref sig .tc := ⟨.hbm, 220, rfl⟩
abbrev main_while0b_call6_c_0 : Ref sig .tc := ⟨.hbm, 221, rfl⟩
abbrev main_while0b_call6_v0 : Ref sig .tc := ⟨.hbm, 222, rfl⟩
abbrev main_while0b_v152 : Ref sig .tc := ⟨.hbm, 223, rfl⟩
abbrev main_while0b_v153 : Ref sig .tc := ⟨.hbm, 224, rfl⟩
abbrev main_while0b_v154 : Ref sig .tc := ⟨.hbm, 225, rfl⟩
abbrev main_while0b_v155 : Ref sig .tc := ⟨.hbm, 226, rfl⟩
abbrev main_while0b_call7_v0 : Ref sig .tc := ⟨.hbm, 227, rfl⟩
abbrev main_while0b_call7_c : Ref sig .tc := ⟨.hbm, 228, rfl⟩
abbrev main_while0b_call7_c_0 : Ref sig .tc := ⟨.hbm, 229, rfl⟩
abbrev main_while0b_v156 : Ref sig .tc := ⟨.hbm, 230, rfl⟩
abbrev main_while0b_call8_v0 : Ref sig .tc := ⟨.hbm, 231, rfl⟩
abbrev main_while0b_call8_c : Ref sig .tc := ⟨.hbm, 232, rfl⟩
abbrev main_while0b_call8_c_0 : Ref sig .tc := ⟨.hbm, 233, rfl⟩
abbrev main_while0b_v157 : Ref sig .tc := ⟨.hbm, 234, rfl⟩
abbrev main_while0b_c_22 : Ref sig .tc := ⟨.hbm, 235, rfl⟩
abbrev main_while0b_v158 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩

abbrev nD : Nat := 1
abbrev τ : Topo := Topo.v7x

variable {F : FTy → Type} [FloatOps F]

abbrev main_while0_count : Scf.Loop 32 := ⟨0#32, 4096#32, 1#32⟩
-- ==== Mlp0.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, arg0.toNat, c3_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, arg0.toNat, c4_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  let c0_i32_1 : BitVec 32 := 0#32
  let c0_i32_2 : BitVec 32 := 0#32
  ![c0_i32.toNat, arg0.toNat, c5_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Mlp0Ideal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, arg0.toNat, c3_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, arg0.toNat, c4_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  let c0_i32_1 : BitVec 32 := 0#32
  let c0_i32_2 : BitVec 32 := 0#32
  ![c0_i32.toNat, arg0.toNat, c5_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlpRef0Ideal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1024 : Shape := ⟨1, ![1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x4x6144, .f32⟩
  | .hbm, ⟨7, _⟩ => ⟨S4x6144, .f32⟩
  | .hbm, ⟨8, _⟩ => ⟨S4x1x6144, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S1x1024, .f32⟩
  | .hbm, ⟨16, _⟩ => ⟨S1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S1x1024x4096, .f32⟩
  | .hbm, ⟨41, _⟩ => ⟨S1024x4096, .f32⟩
  | .hbm, ⟨42, _⟩ => ⟨S4x4096x4096, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S1x4096x1024, .f32⟩
  | .hbm, ⟨48, _⟩ => ⟨S4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Mlp1.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, arg0.toNat, c3_i32.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  ![c1_i32.toNat, arg0.toNat, c4_i32.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let c5_i32 : BitVec 32 := 5#32
  let c0_i32 : BitVec 32 := 0#32
  let c0_i32_0 : BitVec 32 := 0#32
  let c0_i32_1 : BitVec 32 := 0#32
  ![c1_i32.toNat, arg0.toNat, c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Mlp1Ideal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, arg0.toNat, c3_i32.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  ![c1_i32.toNat, arg0.toNat, c4_i32.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let c5_i32 : BitVec 32 := 5#32
  let c0_i32 : BitVec 32 := 0#32
  let c0_i32_0 : BitVec 32 := 0#32
  let c0_i32_1 : BitVec 32 := 0#32
  ![c1_i32.toNat, arg0.toNat, c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlpRef1Ideal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1024 : Shape := ⟨1, ![1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x4x6144, .f32⟩
  | .hbm, ⟨7, _⟩ => ⟨S4x6144, .f32⟩
  | .hbm, ⟨8, _⟩ => ⟨S4x1x6144, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S1x1024, .f32⟩
  | .hbm, ⟨16, _⟩ => ⟨S1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S1x1024x4096, .f32⟩
  | .hbm, ⟨41, _⟩ => ⟨S1024x4096, .f32⟩
  | .hbm, ⟨42, _⟩ => ⟨S4x4096x4096, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S1x4096x1024, .f32⟩
  | .hbm, ⟨48, _⟩ => ⟨S4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Mlp2.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1024x4096, .bf16⟩
  | .local _ .vmem, ⟨10, _⟩ => ⟨S1x4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let c3_i32 : BitVec 32 := 3#32
  let c0_i32 : BitVec 32 := 0#32
  let c0_i32_0 : BitVec 32 := 0#32
  let c0_i32_1 : BitVec 32 := 0#32
  ![c2_i32.toNat, arg0.toNat, c3_i32.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let c4_i32 : BitVec 32 := 4#32
  let c0_i32 : BitVec 32 := 0#32
  let c0_i32_0 : BitVec 32 := 0#32
  let c0_i32_1 : BitVec 32 := 0#32
  ![c2_i32.toNat, arg0.toNat, c4_i32.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c2_i32 : BitVec 32 := 2#32
  let c5_i32 : BitVec 32 := 5#32
  let c0_i32 : BitVec 32 := 0#32
  let c0_i32_0 : BitVec 32 := 0#32
  let c0_i32_1 : BitVec 32 := 0#32
  ![c2_i32.toNat, arg0.toNat, c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlpRef2Ideal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S1024 : Shape := ⟨1, ![1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x4096x4096 : Shape := ⟨3, ![4, 4096, 4096]⟩
abbrev S1x4096x1024 : Shape := ⟨3, ![1, 4096, 1024]⟩
abbrev S4096x1024 : Shape := ⟨2, ![4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x4x6144, .f32⟩
  | .hbm, ⟨7, _⟩ => ⟨S4x6144, .f32⟩
  | .hbm, ⟨8, _⟩ => ⟨S4x1x6144, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S1x1024, .f32⟩
  | .hbm, ⟨16, _⟩ => ⟨S1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S1x1024x4096, .f32⟩
  | .hbm, ⟨41, _⟩ => ⟨S1024x4096, .f32⟩
  | .hbm, ⟨42, _⟩ => ⟨S4x4096x4096, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S1x4096x1024, .f32⟩
  | .hbm, ⟨48, _⟩ => ⟨S4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== InProj0.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x4096x1792 : Shape := ⟨3, ![4, 4096, 1792]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x512x1792 : Shape := ⟨3, ![1, 512, 1792]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x4096x1792, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1024x1792, .bf16⟩
  | .local _ .vmem, ⟨8, _⟩ => ⟨S1x512x1792, .f32⟩
  | .local _ .vmem, ⟨9, _⟩ => ⟨S1x512x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg0.toNat, c1_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProj0Ideal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x4096x1792 : Shape := ⟨3, ![4, 4096, 1792]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x512x1792 : Shape := ⟨3, ![1, 512, 1792]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x4096x1792, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1024x1792, .bf16⟩
  | .local _ .vmem, ⟨8, _⟩ => ⟨S1x512x1792, .f32⟩
  | .local _ .vmem, ⟨9, _⟩ => ⟨S1x512x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg0.toNat, c1_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRef0Ideal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x1792 : Shape := ⟨3, ![1, 1024, 1792]⟩
abbrev S1024x1792 : Shape := ⟨2, ![1024, 1792]⟩
abbrev S4x4096x1792 : Shape := ⟨3, ![4, 4096, 1792]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S1x4x6144, .f32⟩
  | .hbm, ⟨5, _⟩ => ⟨S4x6144, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S1x1024, .f32⟩
  | .hbm, ⟨14, _⟩ => ⟨S1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S1x1024x1792, .f32⟩
  | .hbm, ⟨39, _⟩ => ⟨S1024x1792, .f32⟩
  | .hbm, ⟨40, _⟩ => ⟨S4x4096x1792, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== InProj1.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x4096x1792 : Shape := ⟨3, ![4, 4096, 1792]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x512x1792 : Shape := ⟨3, ![1, 512, 1792]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x4096x1792, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1024x1792, .bf16⟩
  | .local _ .vmem, ⟨8, _⟩ => ⟨S1x512x1792, .f32⟩
  | .local _ .vmem, ⟨9, _⟩ => ⟨S1x512x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, arg0.toNat, c1_i32_0.toNat, c0_i32.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProj1Ideal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x4096x1792 : Shape := ⟨3, ![4, 4096, 1792]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x512x1792 : Shape := ⟨3, ![1, 512, 1792]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x4096x1792, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1024x1792, .bf16⟩
  | .local _ .vmem, ⟨8, _⟩ => ⟨S1x512x1792, .f32⟩
  | .local _ .vmem, ⟨9, _⟩ => ⟨S1x512x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, arg0.toNat, c1_i32_0.toNat, c0_i32.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRef1Ideal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x1792 : Shape := ⟨3, ![1, 1024, 1792]⟩
abbrev S1024x1792 : Shape := ⟨2, ![1024, 1792]⟩
abbrev S4x4096x1792 : Shape := ⟨3, ![4, 4096, 1792]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S1x4x6144, .f32⟩
  | .hbm, ⟨5, _⟩ => ⟨S4x6144, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S1x1024, .f32⟩
  | .hbm, ⟨14, _⟩ => ⟨S1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S1x1024x1792, .f32⟩
  | .hbm, ⟨39, _⟩ => ⟨S1024x1792, .f32⟩
  | .hbm, ⟨40, _⟩ => ⟨S4x4096x1792, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== InProj2.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x4096x1792 : Shape := ⟨3, ![4, 4096, 1792]⟩
abbrev S1x512x1024 : Shape := ⟨3, ![1, 512, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x512x1792 : Shape := ⟨3, ![1, 512, 1792]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1792 : Shape := ⟨2, ![1024, 1792]⟩
abbrev S512x1792 : Shape := ⟨2, ![512, 1792]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x4096x1792, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1024x1792, .bf16⟩
  | .local _ .vmem, ⟨8, _⟩ => ⟨S1x512x1792, .f32⟩
  | .local _ .vmem, ⟨9, _⟩ => ⟨S1x512x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, arg0.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let c1_i32 : BitVec 32 := 1#32
  let c0_i32 : BitVec 32 := 0#32
  let c0_i32_0 : BitVec 32 := 0#32
  let c0_i32_1 : BitVec 32 := 0#32
  ![c2_i32.toNat, arg0.toNat, c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRef2Ideal.lean ====
abbrev S4x4096x1024 : Shape := ⟨3, ![4, 4096, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x1792 : Shape := ⟨3, ![1, 1024, 1792]⟩
abbrev S1024x1792 : Shape := ⟨2, ![1024, 1792]⟩
abbrev S4x4096x1792 : Shape := ⟨3, ![4, 4096, 1792]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S1x4x6144, .f32⟩
  | .hbm, ⟨5, _⟩ => ⟨S4x6144, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S1x1024, .f32⟩
  | .hbm, ⟨14, _⟩ => ⟨S1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S1x1024x1792, .f32⟩
  | .hbm, ⟨39, _⟩ => ⟨S1024x1792, .f32⟩
  | .hbm, ⟨40, _⟩ => ⟨S4x4096x1792, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== MlpCtx0.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c3_i32 : BitVec 32 := 3#32
  let c0_i32_0 : BitVec 32 := 0#32
  let c0_i32_1 : BitVec 32 := 0#32
  let c0_i32_2 : BitVec 32 := 0#32
  ![c0_i32.toNat, c4_i32.toNat, c3_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c4_i32_0 : BitVec 32 := 4#32
  let c0_i32_1 : BitVec 32 := 0#32
  let c0_i32_2 : BitVec 32 := 0#32
  let c0_i32_3 : BitVec 32 := 0#32
  ![c0_i32.toNat, c4_i32.toNat, c4_i32_0.toNat, c0_i32_1.toNat, c0_i32_2.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c5_i32 : BitVec 32 := 5#32
  let c0_i32_0 : BitVec 32 := 0#32
  let c0_i32_1 : BitVec 32 := 0#32
  let c0_i32_2 : BitVec 32 := 0#32
  ![c0_i32.toNat, c4_i32.toNat, c5_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlpCtx0Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c3_i32 : BitVec 32 := 3#32
  let c0_i32_0 : BitVec 32 := 0#32
  let c0_i32_1 : BitVec 32 := 0#32
  let c0_i32_2 : BitVec 32 := 0#32
  ![c0_i32.toNat, c4_i32.toNat, c3_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c4_i32_0 : BitVec 32 := 4#32
  let c0_i32_1 : BitVec 32 := 0#32
  let c0_i32_2 : BitVec 32 := 0#32
  let c0_i32_3 : BitVec 32 := 0#32
  ![c0_i32.toNat, c4_i32.toNat, c4_i32_0.toNat, c0_i32_1.toNat, c0_i32_2.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c5_i32 : BitVec 32 := 5#32
  let c0_i32_0 : BitVec 32 := 0#32
  let c0_i32_1 : BitVec 32 := 0#32
  let c0_i32_2 : BitVec 32 := 0#32
  ![c0_i32.toNat, c4_i32.toNat, c5_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlpCtxRef0Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1x6144 : Shape := ⟨3, ![1, 1, 6144]⟩
abbrev S6144 : Shape := ⟨1, ![6144]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x256x4096 : Shape := ⟨3, ![4, 256, 4096]⟩
abbrev S1x4096x1024 : Shape := ⟨3, ![1, 4096, 1024]⟩
abbrev S4096x1024 : Shape := ⟨2, ![4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x1x6144, .f32⟩
  | .hbm, ⟨7, _⟩ => ⟨S6144, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S4x256x1024, .f32⟩
  | .hbm, ⟨17, _⟩ => ⟨S_, .f32⟩
  | .hbm, ⟨18, _⟩ => ⟨S4x256, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S_, .f32⟩
  | .hbm, ⟨24, _⟩ => ⟨S4x256x1, .f32⟩
  | .hbm, ⟨25, _⟩ => ⟨S4x256x1, .f32⟩
  | .hbm, ⟨26, _⟩ => ⟨S4x256x1, .f32⟩
  | .hbm, ⟨27, _⟩ => ⟨S4x256x1024, .f32⟩
  | .hbm, ⟨28, _⟩ => ⟨S4x256x1024, .f32⟩
  | .hbm, ⟨29, _⟩ => ⟨S1x1x1024, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1x1024, .f32⟩
  | .hbm, ⟨36, _⟩ => ⟨S4x256x1024, .f32⟩
  | .hbm, ⟨37, _⟩ => ⟨S4x256x1024, .f32⟩
  | .hbm, ⟨38, _⟩ => ⟨S1x1x1024, .f32⟩
  | .hbm, ⟨39, _⟩ => ⟨S4x256x1024, .f32⟩
  | .hbm, ⟨40, _⟩ => ⟨S4x256x1024, .f32⟩
  | .hbm, ⟨41, _⟩ => ⟨S1x1024x4096, .f32⟩
  | .hbm, ⟨42, _⟩ => ⟨S1024x4096, .f32⟩
  | .hbm, ⟨43, _⟩ => ⟨S4x256x4096, .f32⟩
  | .hbm, ⟨44, _⟩ => ⟨S_, .f32⟩
  | .hbm, ⟨45, _⟩ => ⟨S4x256x4096, .f32⟩
  | .hbm, ⟨46, _⟩ => ⟨S4x256x4096, .f32⟩
  | .hbm, ⟨47, _⟩ => ⟨S4x256x4096, .f32⟩
  | .hbm, ⟨48, _⟩ => ⟨S1x4096x1024, .f32⟩
  | .hbm, ⟨49, _⟩ => ⟨S4096x1024, .f32⟩
  | .hbm, ⟨50, _⟩ => ⟨S4x256x1024, .f32⟩
  | .hbm, ⟨51, _⟩ => ⟨S1x1x1024, .f32⟩
  | .hbm, ⟨52, _⟩ => ⟨S4x256x1024, .f32⟩
  | .hbm, ⟨53, _⟩ => ⟨S4x256x1024, .f32⟩
  | .hbm, ⟨54, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== MlpCtx1.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c3_i32 : BitVec 32 := 3#32
  let c0_i32 : BitVec 32 := 0#32
  let c0_i32_0 : BitVec 32 := 0#32
  let c0_i32_1 : BitVec 32 := 0#32
  ![c1_i32.toNat, c4_i32.toNat, c3_i32.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c4_i32_0 : BitVec 32 := 4#32
  let c0_i32 : BitVec 32 := 0#32
  let c0_i32_1 : BitVec 32 := 0#32
  let c0_i32_2 : BitVec 32 := 0#32
  ![c1_i32.toNat, c4_i32.toNat, c4_i32_0.toNat, c0_i32.toNat, c0_i32_1.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c5_i32 : BitVec 32 := 5#32
  let c0_i32 : BitVec 32 := 0#32
  let c0_i32_0 : BitVec 32 := 0#32
  let c0_i32_1 : BitVec 32 := 0#32
  ![c1_i32.toNat, c4_i32.toNat, c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlpCtx1Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c3_i32 : BitVec 32 := 3#32
  let c0_i32 : BitVec 32 := 0#32
  let c0_i32_0 : BitVec 32 := 0#32
  let c0_i32_1 : BitVec 32 := 0#32
  ![c1_i32.toNat, c4_i32.toNat, c3_i32.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c4_i32_0 : BitVec 32 := 4#32
  let c0_i32 : BitVec 32 := 0#32
  let c0_i32_1 : BitVec 32 := 0#32
  let c0_i32_2 : BitVec 32 := 0#32
  ![c1_i32.toNat, c4_i32.toNat, c4_i32_0.toNat, c0_i32.toNat, c0_i32_1.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c5_i32 : BitVec 32 := 5#32
  let c0_i32 : BitVec 32 := 0#32
  let c0_i32_0 : BitVec 32 := 0#32
  let c0_i32_1 : BitVec 32 := 0#32
  ![c1_i32.toNat, c4_i32.toNat, c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlpCtxRef1Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1x6144 : Shape := ⟨3, ![1, 1, 6144]⟩
abbrev S6144 : Shape := ⟨1, ![6144]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x256x4096 : Shape := ⟨3, ![4, 256, 4096]⟩
abbrev S1x4096x1024 : Shape := ⟨3, ![1, 4096, 1024]⟩
abbrev S4096x1024 : Shape := ⟨2, ![4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x1x6144, .f32⟩
  | .hbm, ⟨7, _⟩ => ⟨S6144, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S4x256x1024, .f32⟩
  | .hbm, ⟨17, _⟩ => ⟨S_, .f32⟩
  | .hbm, ⟨18, _⟩ => ⟨S4x256, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S_, .f32⟩
  | .hbm, ⟨24, _⟩ => ⟨S4x256x1, .f32⟩
  | .hbm, ⟨25, _⟩ => ⟨S4x256x1, .f32⟩
  | .hbm, ⟨26, _⟩ => ⟨S4x256x1, .f32⟩
  | .hbm, ⟨27, _⟩ => ⟨S4x256x1024, .f32⟩
  | .hbm, ⟨28, _⟩ => ⟨S4x256x1024, .f32⟩
  | .hbm, ⟨29, _⟩ => ⟨S1x1x1024, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1x1024, .f32⟩
  | .hbm, ⟨36, _⟩ => ⟨S4x256x1024, .f32⟩
  | .hbm, ⟨37, _⟩ => ⟨S4x256x1024, .f32⟩
  | .hbm, ⟨38, _⟩ => ⟨S1x1x1024, .f32⟩
  | .hbm, ⟨39, _⟩ => ⟨S4x256x1024, .f32⟩
  | .hbm, ⟨40, _⟩ => ⟨S4x256x1024, .f32⟩
  | .hbm, ⟨41, _⟩ => ⟨S1x1024x4096, .f32⟩
  | .hbm, ⟨42, _⟩ => ⟨S1024x4096, .f32⟩
  | .hbm, ⟨43, _⟩ => ⟨S4x256x4096, .f32⟩
  | .hbm, ⟨44, _⟩ => ⟨S_, .f32⟩
  | .hbm, ⟨45, _⟩ => ⟨S4x256x4096, .f32⟩
  | .hbm, ⟨46, _⟩ => ⟨S4x256x4096, .f32⟩
  | .hbm, ⟨47, _⟩ => ⟨S4x256x4096, .f32⟩
  | .hbm, ⟨48, _⟩ => ⟨S1x4096x1024, .f32⟩
  | .hbm, ⟨49, _⟩ => ⟨S4096x1024, .f32⟩
  | .hbm, ⟨50, _⟩ => ⟨S4x256x1024, .f32⟩
  | .hbm, ⟨51, _⟩ => ⟨S1x1x1024, .f32⟩
  | .hbm, ⟨52, _⟩ => ⟨S4x256x1024, .f32⟩
  | .hbm, ⟨53, _⟩ => ⟨S4x256x1024, .f32⟩
  | .hbm, ⟨54, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== MlpCtx2.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S4x8x6x1x1024 : Shape := ⟨5, ![4, 8, 6, 1, 1024]⟩
abbrev S1x1024 : Shape := ⟨2, ![1, 1024]⟩
abbrev S4x1x1024 : Shape := ⟨3, ![4, 1, 1024]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S4x8x6x1x1024, .f32⟩
  | .hbm, ⟨7, _⟩ => ⟨S4x1024x4096, .bf16⟩
  | .hbm, ⟨8, _⟩ => ⟨S4x4096x1024, .bf16⟩
  | .hbm, ⟨9, _⟩ => ⟨S1x1024, .f32⟩
  | .hbm, ⟨10, _⟩ => ⟨S4x1x1024, .f32⟩
  | .hbm, ⟨11, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let c4_i32 : BitVec 32 := 4#32
  let c3_i32 : BitVec 32 := 3#32
  let c0_i32 : BitVec 32 := 0#32
  let c0_i32_0 : BitVec 32 := 0#32
  let c0_i32_1 : BitVec 32 := 0#32
  ![c2_i32.toNat, c4_i32.toNat, c3_i32.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let c4_i32 : BitVec 32 := 4#32
  let c4_i32_0 : BitVec 32 := 4#32
  let c0_i32 : BitVec 32 := 0#32
  let c0_i32_1 : BitVec 32 := 0#32
  let c0_i32_2 : BitVec 32 := 0#32
  ![c2_i32.toNat, c4_i32.toNat, c4_i32_0.toNat, c0_i32.toNat, c0_i32_1.toNat]

def cc0_transform_4 (i : grid0.Coords) : Fin 5 → Nat :=
  let arg0 : BitVec 32 := BitVec.ofNat 32 (i 0).val
  let arg1 : BitVec 32 := BitVec.ofNat 32 (i 1).val
  let c2_i32 : BitVec 32 := 2#32
  let c4_i32 : BitVec 32 := 4#32
  let c5_i32 : BitVec 32 := 5#32
  let c0_i32 : BitVec 32 := 0#32
  let c0_i32_0 : BitVec 32 := 0#32
  let c0_i32_1 : BitVec 32 := 0#32
  ![c2_i32.toNat, c4_i32.toNat, c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlpCtxRef2Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x4096 : Shape := ⟨3, ![4, 1024, 4096]⟩
abbrev S4x4096x1024 : Shape := ⟨3, ![4, 4096, 1024]⟩
abbrev S1024 : Shape := ⟨1, ![1024]⟩
abbrev S1x1x6144 : Shape := ⟨3, ![1, 1, 6144]⟩
abbrev S6144 : Shape := ⟨1, ![6144]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S4x256x4096 : Shape := ⟨3, ![4, 256, 4096]⟩
abbrev S1x4096x1024 : Shape := ⟨3, ![1, 4096, 1024]⟩
abbrev S4096x1024 : Shape := ⟨2, ![4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x4096, .f32⟩
  | .hbm, ⟨4, _⟩ => ⟨S4x4096x1024, .f32⟩
  | .hbm, ⟨5, _⟩ => ⟨S1024, .f32⟩
  | .hbm, ⟨6, _⟩ => ⟨S1x1x6144, .f32⟩
  | .hbm, ⟨7, _⟩ => ⟨S6144, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S4x256x1024, .f32⟩
  | .hbm, ⟨17, _⟩ => ⟨S_, .f32⟩
  | .hbm, ⟨18, _⟩ => ⟨S4x256, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S_, .f32⟩
  | .hbm, ⟨24, _⟩ => ⟨S4x256x1, .f32⟩
  | .hbm, ⟨25, _⟩ => ⟨S4x256x1, .f32⟩
  | .hbm, ⟨26, _⟩ => ⟨S4x256x1, .f32⟩
  | .hbm, ⟨27, _⟩ => ⟨S4x256x1024, .f32⟩
  | .hbm, ⟨28, _⟩ => ⟨S4x256x1024, .f32⟩
  | .hbm, ⟨29, _⟩ => ⟨S1x1x1024, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1x1024, .f32⟩
  | .hbm, ⟨36, _⟩ => ⟨S4x256x1024, .f32⟩
  | .hbm, ⟨37, _⟩ => ⟨S4x256x1024, .f32⟩
  | .hbm, ⟨38, _⟩ => ⟨S1x1x1024, .f32⟩
  | .hbm, ⟨39, _⟩ => ⟨S4x256x1024, .f32⟩
  | .hbm, ⟨40, _⟩ => ⟨S4x256x1024, .f32⟩
  | .hbm, ⟨41, _⟩ => ⟨S1x1024x4096, .f32⟩
  | .hbm, ⟨42, _⟩ => ⟨S1024x4096, .f32⟩
  | .hbm, ⟨43, _⟩ => ⟨S4x256x4096, .f32⟩
  | .hbm, ⟨44, _⟩ => ⟨S_, .f32⟩
  | .hbm, ⟨45, _⟩ => ⟨S4x256x4096, .f32⟩
  | .hbm, ⟨46, _⟩ => ⟨S4x256x4096, .f32⟩
  | .hbm, ⟨47, _⟩ => ⟨S4x256x4096, .f32⟩
  | .hbm, ⟨48, _⟩ => ⟨S1x4096x1024, .f32⟩
  | .hbm, ⟨49, _⟩ => ⟨S4096x1024, .f32⟩
  | .hbm, ⟨50, _⟩ => ⟨S4x256x1024, .f32⟩
  | .hbm, ⟨51, _⟩ => ⟨S1x1x1024, .f32⟩
  | .hbm, ⟨52, _⟩ => ⟨S4x256x1024, .f32⟩
  | .hbm, ⟨53, _⟩ => ⟨S4x256x1024, .f32⟩
  | .hbm, ⟨54, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== InProjCtx0.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x256x1792 : Shape := ⟨3, ![4, 256, 1792]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x256x1792 : Shape := ⟨3, ![1, 256, 1792]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x256x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1024x1792, .bf16⟩
  | .local _ .vmem, ⟨6, _⟩ => ⟨S1x256x1792, .f32⟩
  | .local _ .vmem, ⟨7, _⟩ => ⟨S1x256x1792, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  let c0_i32_3 : BitVec 32 := 0#32
  ![c0_i32.toNat, c4_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c1_i32 : BitVec 32 := 1#32
  let c0_i32_0 : BitVec 32 := 0#32
  let c0_i32_1 : BitVec 32 := 0#32
  let c0_i32_2 : BitVec 32 := 0#32
  ![c0_i32.toNat, c4_i32.toNat, c1_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjCtx0Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x256x1792 : Shape := ⟨3, ![4, 256, 1792]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x256x1792 : Shape := ⟨3, ![1, 256, 1792]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x256x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1024x1792, .bf16⟩
  | .local _ .vmem, ⟨6, _⟩ => ⟨S1x256x1792, .f32⟩
  | .local _ .vmem, ⟨7, _⟩ => ⟨S1x256x1792, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  let c0_i32_1 : BitVec 32 := 0#32
  let c0_i32_2 : BitVec 32 := 0#32
  let c0_i32_3 : BitVec 32 := 0#32
  ![c0_i32.toNat, c4_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c4_i32 : BitVec 32 := 4#32
  let c1_i32 : BitVec 32 := 1#32
  let c0_i32_0 : BitVec 32 := 0#32
  let c0_i32_1 : BitVec 32 := 0#32
  let c0_i32_2 : BitVec 32 := 0#32
  ![c0_i32.toNat, c4_i32.toNat, c1_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjCtxRef0Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S1x1x6144 : Shape := ⟨3, ![1, 1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x1792 : Shape := ⟨3, ![1, 1024, 1792]⟩
abbrev S1024x1792 : Shape := ⟨2, ![1024, 1792]⟩
abbrev S4x256x1792 : Shape := ⟨3, ![4, 256, 1792]⟩

abbrev nBuf : Space → Nat
  | .hbm => 42
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S1x1x6144, .f32⟩
  | .hbm, ⟨5, _⟩ => ⟨S6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S4x256x1024, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S4x256x1, .f32⟩
  | .hbm, ⟨25, _⟩ => ⟨S4x256x1024, .f32⟩
  | .hbm, ⟨26, _⟩ => ⟨S4x256x1024, .f32⟩
  | .hbm, ⟨27, _⟩ => ⟨S1x1x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1x1024, .f32⟩
  | .hbm, ⟨34, _⟩ => ⟨S4x256x1024, .f32⟩
  | .hbm, ⟨35, _⟩ => ⟨S4x256x1024, .f32⟩
  | .hbm, ⟨36, _⟩ => ⟨S1x1x1024, .f32⟩
  | .hbm, ⟨37, _⟩ => ⟨S4x256x1024, .f32⟩
  | .hbm, ⟨38, _⟩ => ⟨S4x256x1024, .f32⟩
  | .hbm, ⟨39, _⟩ => ⟨S1x1024x1792, .f32⟩
  | .hbm, ⟨40, _⟩ => ⟨S1024x1792, .f32⟩
  | .hbm, ⟨41, _⟩ => ⟨S4x256x1792, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== InProjCtx1.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x256x1792 : Shape := ⟨3, ![4, 256, 1792]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x256x1792 : Shape := ⟨3, ![1, 256, 1792]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x256x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1024x1792, .bf16⟩
  | .local _ .vmem, ⟨6, _⟩ => ⟨S1x256x1792, .f32⟩
  | .local _ .vmem, ⟨7, _⟩ => ⟨S1x256x1792, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  let c0_i32_2 : BitVec 32 := 0#32
  ![c1_i32.toNat, c4_i32.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c1_i32_0 : BitVec 32 := 1#32
  let c0_i32 : BitVec 32 := 0#32
  let c0_i32_1 : BitVec 32 := 0#32
  let c0_i32_2 : BitVec 32 := 0#32
  ![c1_i32.toNat, c4_i32.toNat, c1_i32_0.toNat, c0_i32.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjCtx1Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x256x1792 : Shape := ⟨3, ![4, 256, 1792]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x256x1792 : Shape := ⟨3, ![1, 256, 1792]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x256x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1024x1792, .bf16⟩
  | .local _ .vmem, ⟨6, _⟩ => ⟨S1x256x1792, .f32⟩
  | .local _ .vmem, ⟨7, _⟩ => ⟨S1x256x1792, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c0_i32 : BitVec 32 := 0#32
  let c0_i32_0 : BitVec 32 := 0#32
  let c0_i32_1 : BitVec 32 := 0#32
  let c0_i32_2 : BitVec 32 := 0#32
  ![c1_i32.toNat, c4_i32.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c4_i32 : BitVec 32 := 4#32
  let c1_i32_0 : BitVec 32 := 1#32
  let c0_i32 : BitVec 32 := 0#32
  let c0_i32_1 : BitVec 32 := 0#32
  let c0_i32_2 : BitVec 32 := 0#32
  ![c1_i32.toNat, c4_i32.toNat, c1_i32_0.toNat, c0_i32.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjCtxRef1Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S1x1x6144 : Shape := ⟨3, ![1, 1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x1792 : Shape := ⟨3, ![1, 1024, 1792]⟩
abbrev S1024x1792 : Shape := ⟨2, ![1024, 1792]⟩
abbrev S4x256x1792 : Shape := ⟨3, ![4, 256, 1792]⟩

abbrev nBuf : Space → Nat
  | .hbm => 42
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S1x1x6144, .f32⟩
  | .hbm, ⟨5, _⟩ => ⟨S6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S4x256x1024, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S4x256x1, .f32⟩
  | .hbm, ⟨25, _⟩ => ⟨S4x256x1024, .f32⟩
  | .hbm, ⟨26, _⟩ => ⟨S4x256x1024, .f32⟩
  | .hbm, ⟨27, _⟩ => ⟨S1x1x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1x1024, .f32⟩
  | .hbm, ⟨34, _⟩ => ⟨S4x256x1024, .f32⟩
  | .hbm, ⟨35, _⟩ => ⟨S4x256x1024, .f32⟩
  | .hbm, ⟨36, _⟩ => ⟨S1x1x1024, .f32⟩
  | .hbm, ⟨37, _⟩ => ⟨S4x256x1024, .f32⟩
  | .hbm, ⟨38, _⟩ => ⟨S4x256x1024, .f32⟩
  | .hbm, ⟨39, _⟩ => ⟨S1x1024x1792, .f32⟩
  | .hbm, ⟨40, _⟩ => ⟨S1024x1792, .f32⟩
  | .hbm, ⟨41, _⟩ => ⟨S4x256x1792, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== InProjCtx2.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x256x1792 : Shape := ⟨3, ![4, 256, 1792]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x256x1792 : Shape := ⟨3, ![1, 256, 1792]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x256x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1024x1792, .bf16⟩
  | .local _ .vmem, ⟨6, _⟩ => ⟨S1x256x1792, .f32⟩
  | .local _ .vmem, ⟨7, _⟩ => ⟨S1x256x1792, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let c4_i32 : BitVec 32 := 4#32
  let c0_i32 : BitVec 32 := 0#32
  let c0_i32_0 : BitVec 32 := 0#32
  let c0_i32_1 : BitVec 32 := 0#32
  let c0_i32_2 : BitVec 32 := 0#32
  ![c2_i32.toNat, c4_i32.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let c4_i32 : BitVec 32 := 4#32
  let c1_i32 : BitVec 32 := 1#32
  let c0_i32 : BitVec 32 := 0#32
  let c0_i32_0 : BitVec 32 := 0#32
  let c0_i32_1 : BitVec 32 := 0#32
  ![c2_i32.toNat, c4_i32.toNat, c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjCtx2Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x256x1792 : Shape := ⟨3, ![4, 256, 1792]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x256x1792 : Shape := ⟨3, ![1, 256, 1792]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x256x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1024x1792, .bf16⟩
  | .local _ .vmem, ⟨6, _⟩ => ⟨S1x256x1792, .f32⟩
  | .local _ .vmem, ⟨7, _⟩ => ⟨S1x256x1792, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let c4_i32 : BitVec 32 := 4#32
  let c0_i32 : BitVec 32 := 0#32
  let c0_i32_0 : BitVec 32 := 0#32
  let c0_i32_1 : BitVec 32 := 0#32
  let c0_i32_2 : BitVec 32 := 0#32
  ![c2_i32.toNat, c4_i32.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let c4_i32 : BitVec 32 := 4#32
  let c1_i32 : BitVec 32 := 1#32
  let c0_i32 : BitVec 32 := 0#32
  let c0_i32_0 : BitVec 32 := 0#32
  let c0_i32_1 : BitVec 32 := 0#32
  ![c2_i32.toNat, c4_i32.toNat, c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjCtxRef2Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S1x1x6144 : Shape := ⟨3, ![1, 1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x1792 : Shape := ⟨3, ![1, 1024, 1792]⟩
abbrev S1024x1792 : Shape := ⟨2, ![1024, 1792]⟩
abbrev S4x256x1792 : Shape := ⟨3, ![4, 256, 1792]⟩

abbrev nBuf : Space → Nat
  | .hbm => 42
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S1x1x6144, .f32⟩
  | .hbm, ⟨5, _⟩ => ⟨S6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S4x256x1024, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S4x256x1, .f32⟩
  | .hbm, ⟨25, _⟩ => ⟨S4x256x1024, .f32⟩
  | .hbm, ⟨26, _⟩ => ⟨S4x256x1024, .f32⟩
  | .hbm, ⟨27, _⟩ => ⟨S1x1x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1x1024, .f32⟩
  | .hbm, ⟨34, _⟩ => ⟨S4x256x1024, .f32⟩
  | .hbm, ⟨35, _⟩ => ⟨S4x256x1024, .f32⟩
  | .hbm, ⟨36, _⟩ => ⟨S1x1x1024, .f32⟩
  | .hbm, ⟨37, _⟩ => ⟨S4x256x1024, .f32⟩
  | .hbm, ⟨38, _⟩ => ⟨S4x256x1024, .f32⟩
  | .hbm, ⟨39, _⟩ => ⟨S1x1024x1792, .f32⟩
  | .hbm, ⟨40, _⟩ => ⟨S1024x1792, .f32⟩
  | .hbm, ⟨41, _⟩ => ⟨S4x256x1792, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== InProjCtx3.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S4x8x6x1x1024 : Shape := ⟨5, ![4, 8, 6, 1, 1024]⟩
abbrev S4x1x1024 : Shape := ⟨3, ![4, 1, 1024]⟩
abbrev S4x256x1792 : Shape := ⟨3, ![4, 256, 1792]⟩
abbrev S1x256x1024 : Shape := ⟨3, ![1, 256, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1x256x1792 : Shape := ⟨3, ![1, 256, 1792]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S4x8x6x1x1024, .f32⟩
  | .hbm, ⟨5, _⟩ => ⟨S4x1024x1792, .bf16⟩
  | .hbm, ⟨6, _⟩ => ⟨S4x1x1024, .f32⟩
  | .hbm, ⟨7, _⟩ => ⟨S4x256x1792, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1024x1792, .bf16⟩
  | .local _ .vmem, ⟨6, _⟩ => ⟨S1x256x1792, .f32⟩
  | .local _ .vmem, ⟨7, _⟩ => ⟨S1x256x1792, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c3_i32 : BitVec 32 := 3#32
  let c4_i32 : BitVec 32 := 4#32
  let c0_i32 : BitVec 32 := 0#32
  let c0_i32_0 : BitVec 32 := 0#32
  let c0_i32_1 : BitVec 32 := 0#32
  let c0_i32_2 : BitVec 32 := 0#32
  ![c3_i32.toNat, c4_i32.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c3_i32 : BitVec 32 := 3#32
  let c4_i32 : BitVec 32 := 4#32
  let c1_i32 : BitVec 32 := 1#32
  let c0_i32 : BitVec 32 := 0#32
  let c0_i32_0 : BitVec 32 := 0#32
  let c0_i32_1 : BitVec 32 := 0#32
  ![c3_i32.toNat, c4_i32.toNat, c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjCtxRef3Ideal.lean ====
abbrev S4x256x1024 : Shape := ⟨3, ![4, 256, 1024]⟩
abbrev S4x8x6144 : Shape := ⟨3, ![4, 8, 6144]⟩
abbrev S4x1024 : Shape := ⟨2, ![4, 1024]⟩
abbrev S4x1024x1792 : Shape := ⟨3, ![4, 1024, 1792]⟩
abbrev S1x1x6144 : Shape := ⟨3, ![1, 1, 6144]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x1792 : Shape := ⟨3, ![1, 1024, 1792]⟩
abbrev S1024x1792 : Shape := ⟨2, ![1024, 1792]⟩
abbrev S4x256x1792 : Shape := ⟨3, ![4, 256, 1792]⟩

abbrev nBuf : Space → Nat
  | .hbm => 42
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x8x6144, .f32⟩
  | .hbm, ⟨2, _⟩ => ⟨S4x1024, .f32⟩
  | .hbm, ⟨3, _⟩ => ⟨S4x1024x1792, .f32⟩
  | .hbm, ⟨4, _⟩ => ⟨S1x1x6144, .f32⟩
  | .hbm, ⟨5, _⟩ => ⟨S6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S4x256x1024, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S4x256x1, .f32⟩
  | .hbm, ⟨25, _⟩ => ⟨S4x256x1024, .f32⟩
  | .hbm, ⟨26, _⟩ => ⟨S4x256x1024, .f32⟩
  | .hbm, ⟨27, _⟩ => ⟨S1x1x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1x1024, .f32⟩
  | .hbm, ⟨34, _⟩ => ⟨S4x256x1024, .f32⟩
  | .hbm, ⟨35, _⟩ => ⟨S4x256x1024, .f32⟩
  | .hbm, ⟨36, _⟩ => ⟨S1x1x1024, .f32⟩
  | .hbm, ⟨37, _⟩ => ⟨S4x256x1024, .f32⟩
  | .hbm, ⟨38, _⟩ => ⟨S4x256x1024, .f32⟩
  | .hbm, ⟨39, _⟩ => ⟨S1x1024x1792, .f32⟩
  | .hbm, ⟨40, _⟩ => ⟨S1024x1792, .f32⟩
  | .hbm, ⟨41, _⟩ => ⟨S4x256x1792, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Mod.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S8x1024 : Shape := ⟨2, ![8, 1024]⟩
abbrev S1 : Shape := ⟨1, ![1]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S4x1x6144, .f32⟩
  | .hbm, ⟨13, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x4x6144 : Shape := ⟨3, ![8, 4, 6144]⟩
abbrev S4x8x6144 : Shape := ⟨3, ![4, 8, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x4x6144, .f32⟩
  | .hbm, ⟨18, _⟩ => ⟨S4x8x6144, .f32⟩
  | .hbm, ⟨19, _⟩ => ⟨S4x1x6144, .f32⟩
  | .hbm, ⟨20, _⟩ => ⟨S4x8x6144, .f32⟩
  | .hbm, ⟨21, _⟩ => ⟨S4x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Pos.lean ====
abbrev S4x4096x1024 : Shape := ⟨3, ![4, 4096, 1024]⟩
abbrev S64x512 : Shape := ⟨2, ![64, 512]⟩
abbrev S1x512x1024 : Shape := ⟨3, ![1, 512, 1024]⟩
abbrev S512x512 : Shape := ⟨2, ![512, 512]⟩
abbrev S1x512 : Shape := ⟨2, ![1, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S64x512, .f32⟩
  | .hbm, ⟨2, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S64x512, .f32⟩
  | .local _ .vmem, ⟨3, _⟩ => ⟨S1x512x1024, .f32⟩
  | .local _ .vmem, ⟨4, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def k0_off1 (i : grid0.Coords) (c0_i32 : BitVec 32) : Fin 2 → Nat :=
  let arg1 : BitVec 32 := BitVec.ofNat 32 (i 1).val
  let c8_i32 : BitVec 32 := 8#32
  let v2 : BitVec 32 := Scalar.muli arg1 c8_i32
  let v3 : BitVec 32 := Scalar.addi v2 c0_i32
  let v4 : Index := Scalar.indexCast v3
  let c0_1 : Index := 0#32
  ![v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PosRefIdeal.lean ====
abbrev S4x4096x1024 : Shape := ⟨3, ![4, 4096, 1024]⟩
abbrev S64x512 : Shape := ⟨2, ![64, 512]⟩
abbrev S64x1x512 : Shape := ⟨3, ![64, 1, 512]⟩
abbrev S64x64x512 : Shape := ⟨3, ![64, 64, 512]⟩
abbrev S4096x512 : Shape := ⟨2, ![4096, 512]⟩
abbrev S1x64x512 : Shape := ⟨3, ![1, 64, 512]⟩
abbrev S4096x1024 : Shape := ⟨2, ![4096, 1024]⟩
abbrev S1x4096x1024 : Shape := ⟨3, ![1, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S64x512, .f32⟩
  | .hbm, ⟨2, _⟩ => ⟨S64x1x512, .f32⟩
  | .hbm, ⟨3, _⟩ => ⟨S64x64x512, .f32⟩
  | .hbm, ⟨4, _⟩ => ⟨S4096x512, .f32⟩
  | .hbm, ⟨5, _⟩ => ⟨S1x64x512, .f32⟩
  | .hbm, ⟨6, _⟩ => ⟨S64x64x512, .f32⟩
  | .hbm, ⟨7, _⟩ => ⟨S4096x512, .f32⟩
  | .hbm, ⟨8, _⟩ => ⟨S4096x1024, .f32⟩
  | .hbm, ⟨9, _⟩ => ⟨S1x4096x1024, .f32⟩
  | .hbm, ⟨10, _⟩ => ⟨S4x4096x1024, .f32⟩
  | .hbm, ⟨11, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Proof.MlpValue.lean ====
module

public import proofs.«01_k».proof.Defs
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Mlp

open Idealize.ShloMosaic Idealize.ShloMosaic.TcCoe Idealize.SL.Sem
open Cert.KernelIdeal Cert.KernelIdeal.Gen

/-- The blocks of grid point `t`: batch `t / 8`, row tile `t % 8`; layer 3 of the weights and of the modulation, whose rows 3, 4, 5 are the
    shift, scale and gate of the feed-forward. -/
theorem idx : ∀ t : Fin cfg0.N, win0_0.index t = ![t.val / 8, t.val % 8, 0] ∧ win0_1.index t = ![3, 0, 0]
    ∧ win0_2.index t = ![3, t.val / 8, 3, 0, 0] ∧ win0_3.index t = ![3, t.val / 8, 4, 0, 0]
    ∧ win0_4.index t = ![3, t.val / 8, 5, 0, 0] ∧ win0_5.index t = ![3, 0, 0] ∧ win0_6.index t = ![3, 0, 0]
    ∧ win0_7.index t = ![0, 0] ∧ win0_8.index t = ![t.val / 8, t.val % 8, 0] :=
  (by decide +kernel : ∀ t : Fin grid0.N, win0_0.index t = ![t.val / 8, t.val % 8, 0] ∧ win0_1.index t = ![3, 0, 0]
    ∧ win0_2.index t = ![3, t.val / 8, 3, 0, 0] ∧ win0_3.index t = ![3, t.val / 8, 4, 0, 0]
    ∧ win0_4.index t = ![3, t.val / 8, 5, 0, 0] ∧ win0_5.index t = ![3, 0, 0] ∧ win0_6.index t = ![3, 0, 0]
    ∧ win0_7.index t = ![0, 0] ∧ win0_8.index t = ![t.val / 8, t.val % 8, 0])

/-- The root-mean-square normalization of a row, times its weights. -/
def norm (x g : Fin 1024 → EReal) (k : Fin 1024) : EReal :=
  x k * Ideal.rsqrt (Ideal.div (∑ j, x j * x j) (Ideal.ofBits FTy.f32 1149239296#32) + Ideal.ofBits FTy.f32 897988541#32) * g k

/-- The normalized row scaled and shifted by the modulation. -/
def hidden (x g sc sh : Fin 1024 → EReal) (k : Fin 1024) : EReal := norm x g k * (1 + sc k) + sh k

/-- One hidden feature of the feed-forward: the row against a column of the first weights, its negative part dropped, squared. -/
def feature (h w : Fin 1024 → EReal) : EReal := max (∑ k, h k * w k) 0 * max (∑ k, h k * w k) 0

/-- The payload stored to the output is the normalization of the residual row. -/
theorem p1 (v0 : Vec Ideal S1x512x1024 .f32) v145 v147 v161 (r : Fin 512) (d : Fin 1024) :
    k0_pay1 (k0_pay17 (k0_pay2 v0) v145 v147) (k0_pay18 (k0_pay2 v0) v145 v147) v161 (ix3 0 r d)
      = norm (fun e => v0 (ix3 0 r e) + v145 (ix5 0 0 0 0 e) * v147 (ix2 r e)) (fun e => v161 (ix2 0 e)) d := by
  unfold norm
  pointwise [k0_pay1, k0_pay17, k0_pay18, k0_pay2]

/-- The normalized and modulated row. -/
theorem p3 (v0 : Vec Ideal S1x512x1024 .f32) v2 v4 v6 (r : Fin 512) (k : Fin 1024) :
    k0_pay3 v0 v2 v4 v6 (ix2 r k)
      = hidden (fun e => v0 (ix3 0 r e)) (fun e => v2 (ix3 0 0 e)) (fun e => v6 (ix5 0 0 0 0 e)) (fun e => v4 (ix5 0 0 0 0 e)) k := by
  unfold hidden norm
  pointwise [k0_pay3, k0_pay2]

/-- The share of one chunk of 512 hidden features in an output element. -/
def chunk (h : Fin 1024 → EReal) (w1 : Vec Ideal S1x1024x512 .bf16) (w2 : Vec Ideal S1x512x1024 .bf16) (d : Fin 1024) : EReal :=
  ∑ f : Fin 512, feature h (fun k => w1 (ix3 0 k f)) * w2 (ix3 0 f d)

theorem p5 (v0 : Vec Ideal S1x512x1024 .f32) v2 v4 v6 v27 v34 (r : Fin 512) (d : Fin 1024) :
    k0_pay5 (k0_pay4 v0 v2 v4 v6 v27) v34 (ix2 r d) = chunk (fun k => k0_pay3 v0 v2 v4 v6 (ix2 r k)) v27 v34 d := by
  unfold chunk feature
  pointwise [k0_pay5, k0_pay4]

theorem p6 (v26 : FVec Ideal S512x1024 .bf16) v40 v47 v50 (r : Fin 512) (d : Fin 1024) :
    k0_pay6 v26 v40 v47 v50 (ix2 r d) = v50 (ix2 r d) + chunk (fun k => v26 (ix2 r k)) v40 v47 d := by
  unfold chunk feature
  pointwise [k0_pay6]

theorem p9 (v26 : FVec Ideal S512x1024 .bf16) v40 v47 v50 (r : Fin 512) (d : Fin 1024) :
    k0_pay9 (k0_pay7 v26 v40) (k0_pay8 v47) v50 (ix2 r d) = v50 (ix2 r d) + chunk (fun k => v26 (ix2 r k)) v40 v47 d := by
  unfold chunk feature
  pointwise [k0_pay9, k0_pay7, k0_pay8]

theorem p10 (v26 : FVec Ideal S512x1024 .bf16) v40 v47 v50 (r : Fin 512) (d : Fin 1024) :
    k0_pay10 v26 v40 v47 v50 (ix2 r d) = v50 (ix2 r d) + chunk (fun k => v26 (ix2 r k)) v40 v47 d := by
  unfold chunk feature
  pointwise [k0_pay10]

theorem p12 (v26 : FVec Ideal S512x1024 .bf16) v40 v47 v50 (r : Fin 512) (d : Fin 1024) :
    k0_pay12 (k0_pay11 v26 v40 v47) v50 (ix2 r d) = v50 (ix2 r d) + chunk (fun k => v26 (ix2 r k)) v40 v47 d := by
  unfold chunk feature
  pointwise [k0_pay12, k0_pay11]

theorem p13 (v26 : FVec Ideal S512x1024 .bf16) v40 v47 v50 (r : Fin 512) (d : Fin 1024) :
    k0_pay13 v26 v40 v47 v50 (ix2 r d) = v50 (ix2 r d) + chunk (fun k => v26 (ix2 r k)) v40 v47 d := by
  unfold chunk feature
  pointwise [k0_pay13]

theorem p15 (v26 : FVec Ideal S512x1024 .bf16) v40 v47 v50 (r : Fin 512) (d : Fin 1024) :
    k0_pay15 (k0_pay14 v26 v40 v47) v50 (ix2 r d) = v50 (ix2 r d) + chunk (fun k => v26 (ix2 r k)) v40 v47 d := by
  unfold chunk feature
  pointwise [k0_pay15, k0_pay14]

theorem p16 (v26 : FVec Ideal S512x1024 .bf16) v40 v47 v50 (r : Fin 512) (d : Fin 1024) :
    k0_pay16 v26 v40 v47 v50 (ix2 r d) = v50 (ix2 r d) + chunk (fun k => v26 (ix2 r k)) v40 v47 d := by
  unfold chunk feature
  pointwise [k0_pay16]

/-- The result of the layer's feed-forward at an index, as a function of the arguments. -/
def out (x : Vec Ideal S4x4096x1024 .f32) (mod : Vec Ideal S4x8x6144 .f32) (g2 : Vec Ideal S4x1024 .f32) (w1 : Vec Ideal S4x1024x4096 .f32)
    (w2 : Vec Ideal S4x4096x1024 .f32) (gf : Vec Ideal S1024 .f32) (b : Fin 4) (r : Fin 4096) (d : Fin 1024) : EReal :=
  norm (fun e => x (ix3 b r e) + mod (ix3 3 ⟨b.val, by omega⟩ ⟨5120 + e.val, by omega⟩) *
      ∑ f, feature (hidden (fun k => x (ix3 b r k)) (fun k => g2 (ix2 3 k)) (fun k => mod (ix3 3 ⟨b.val, by omega⟩ ⟨4096 + k.val, by omega⟩))
        (fun k => mod (ix3 3 ⟨b.val, by omega⟩ ⟨3072 + k.val, by omega⟩))) (fun k => w1 (ix3 3 k f)) * w2 (ix3 3 f e))
    (fun e => gf (ix1 e)) d

/-- The reference's result at an index. -/
theorem ref (m' : (ℓ : Loc ReferenceIdeal.nD ReferenceIdeal.τ ReferenceIdeal.sig) → Buf (Elt Ideal) ℓ) (c : Dev ReferenceIdeal.nD) (b : Fin 4) (r : Fin 4096) (d : Fin 1024) :
    ReferenceIdeal.Value.res_main_v53 m' c (ix3 b r d) = out (m' (c.tc.loc ReferenceIdeal.main_arg0)) (m' (c.tc.loc ReferenceIdeal.main_arg1))
      (m' (c.tc.loc ReferenceIdeal.main_arg2)) (m' (c.tc.loc ReferenceIdeal.main_arg3)) (m' (c.tc.loc ReferenceIdeal.main_arg4)) (m' (c.tc.loc ReferenceIdeal.main_arg5)) b r d := by
  unfold out feature hidden norm
  pointwise [ReferenceIdeal.Value.res_main_v53]

/-- A chunk of the whole weights' columns (rows) `o … o + 511`. -/
theorem chunk_ld (h : Fin 1024 → EReal) (w1 : Vec Ideal S1x1024x4096 .bf16) (w2 : Vec Ideal S1x4096x1024 .bf16) (d : Fin 1024)
    (o : ℕ) (ho : o + 512 ≤ 4096) (h1) (h2) :
    chunk h (View.ld w1 (Rect.unit ![0, 0, o] ![1, 1024, 512] h1)) (View.ld w2 (Rect.unit ![0, o, 0] ![1, 512, 1024] h2)) d
      = ∑ f : Fin 512, feature h (fun k => w1 (ix3 0 k ⟨o + f.val, by omega⟩)) * w2 (ix3 0 ⟨o + f.val, by omega⟩ d) := by
  unfold chunk
  refine Finset.sum_congr rfl fun f _ => ?_
  have e1 : ∀ k : Fin 1024, View.ld w1 (Rect.unit ![0, 0, o] ![1, 1024, 512] h1) (ix3 0 k f) = w1 (ix3 0 k ⟨o + f.val, by omega⟩) := fun k =>
    View.ld_unit_apply_of w1 _ _ h1 _ _ fun a => by fin_cases a <;> simp
  have e2 : View.ld w2 (Rect.unit ![0, o, 0] ![1, 512, 1024] h2) (ix3 0 f d) = w2 (ix3 0 ⟨o + f.val, by omega⟩ d) :=
    View.ld_unit_apply_of w2 _ _ h2 _ _ fun a => by fin_cases a <;> simp
  simp only [e1, e2]

/-- The eight chunks of 512 features together are the sum over all 4096. -/
theorem eight (h : Fin 1024 → EReal) (w1 : Vec Ideal S1x1024x4096 .bf16) (w2 : Vec Ideal S1x4096x1024 .bf16) (d : Fin 1024) :
    chunk h (View.ld w1 (Rect.unit ![0, 0, 0] ![1, 1024, 512] inb_S1x1024x4096_S1x1024x512_0_0_0)) (View.ld w2 (Rect.unit ![0, 0, 0] ![1, 512, 1024] inb_S1x4096x1024_S1x512x1024_0_0_0)) d
      + chunk h (View.ld w1 (Rect.unit ![0, 0, 512] ![1, 1024, 512] inb_S1x1024x4096_S1x1024x512_0_0_512)) (View.ld w2 (Rect.unit ![0, 512, 0] ![1, 512, 1024] inb_S1x4096x1024_S1x512x1024_0_512_0)) d
      + chunk h (View.ld w1 (Rect.unit ![0, 0, 1024] ![1, 1024, 512] inb_S1x1024x4096_S1x1024x512_0_0_1024)) (View.ld w2 (Rect.unit ![0, 1024, 0] ![1, 512, 1024] inb_S1x4096x1024_S1x512x1024_0_1024_0)) d
      + chunk h (View.ld w1 (Rect.unit ![0, 0, 1536] ![1, 1024, 512] inb_S1x1024x4096_S1x1024x512_0_0_1536)) (View.ld w2 (Rect.unit ![0, 1536, 0] ![1, 512, 1024] inb_S1x4096x1024_S1x512x1024_0_1536_0)) d
      + chunk h (View.ld w1 (Rect.unit ![0, 0, 2048] ![1, 1024, 512] inb_S1x1024x4096_S1x1024x512_0_0_2048)) (View.ld w2 (Rect.unit ![0, 2048, 0] ![1, 512, 1024] inb_S1x4096x1024_S1x512x1024_0_2048_0)) d
      + chunk h (View.ld w1 (Rect.unit ![0, 0, 2560] ![1, 1024, 512] inb_S1x1024x4096_S1x1024x512_0_0_2560)) (View.ld w2 (Rect.unit ![0, 2560, 0] ![1, 512, 1024] inb_S1x4096x1024_S1x512x1024_0_2560_0)) d
      + chunk h (View.ld w1 (Rect.unit ![0, 0, 3072] ![1, 1024, 512] inb_S1x1024x4096_S1x1024x512_0_0_3072)) (View.ld w2 (Rect.unit ![0, 3072, 0] ![1, 512, 1024] inb_S1x4096x1024_S1x512x1024_0_3072_0)) d
      + chunk h (View.ld w1 (Rect.unit ![0, 0, 3584] ![1, 1024, 512] inb_S1x1024x4096_S1x1024x512_0_0_3584)) (View.ld w2 (Rect.unit ![0, 3584, 0] ![1, 512, 1024] inb_S1x4096x1024_S1x512x1024_0_3584_0)) d
    = ∑ f : Fin 4096, feature h (fun k => w1 (ix3 0 k f)) * w2 (ix3 0 f d) := by
  rw [chunk_ld _ _ _ _ 0 (by decide), chunk_ld _ _ _ _ 512 (by decide), chunk_ld _ _ _ _ 1024 (by decide), chunk_ld _ _ _ _ 1536 (by decide),
    chunk_ld _ _ _ _ 2048 (by decide), chunk_ld _ _ _ _ 2560 (by decide), chunk_ld _ _ _ _ 3072 (by decide), chunk_ld _ _ _ _ 3584 (by decide),
    Fin.sum_univ_tiles 8 512 rfl, Fin.sum_univ_eight]
  rfl

/-- The eight chunks accumulated one after the other: the layer's product of the hidden features with the second weights. -/
theorem acc (x : Vec Ideal S1x512x1024 .f32) (g : Vec Ideal S1x1x1024 .f32) (sh sc : Vec Ideal S1x1x1x1x1024 .f32) (w1 : Vec Ideal S1x1024x4096 .bf16)
    (w2 : Vec Ideal S1x4096x1024 .bf16) (r : Fin 512) (d : Fin 1024) :
    k0_pay16 (k0_pay3 x g sh sc) (View.ld w1 (Rect.unit ![0, 0, 3584] ![1, 1024, 512] inb_S1x1024x4096_S1x1024x512_0_0_3584))
      (View.ld w2 (Rect.unit ![0, 3584, 0] ![1, 512, 1024] inb_S1x4096x1024_S1x512x1024_0_3584_0)) (k0_pay15 (k0_pay14 (k0_pay3 x g sh sc) (View.ld w1 (Rect.unit ![0, 0, 3072] ![1, 1024, 512] inb_S1x1024x4096_S1x1024x512_0_0_3072))
      (View.ld w2 (Rect.unit ![0, 3072, 0] ![1, 512, 1024] inb_S1x4096x1024_S1x512x1024_0_3072_0))) (k0_pay13 (k0_pay3 x g sh sc) (View.ld w1 (Rect.unit ![0, 0, 2560] ![1, 1024, 512] inb_S1x1024x4096_S1x1024x512_0_0_2560))
      (View.ld w2 (Rect.unit ![0, 2560, 0] ![1, 512, 1024] inb_S1x4096x1024_S1x512x1024_0_2560_0)) (k0_pay12 (k0_pay11 (k0_pay3 x g sh sc) (View.ld w1 (Rect.unit ![0, 0, 2048] ![1, 1024, 512] inb_S1x1024x4096_S1x1024x512_0_0_2048))
      (View.ld w2 (Rect.unit ![0, 2048, 0] ![1, 512, 1024] inb_S1x4096x1024_S1x512x1024_0_2048_0))) (k0_pay10 (k0_pay3 x g sh sc) (View.ld w1 (Rect.unit ![0, 0, 1536] ![1, 1024, 512] inb_S1x1024x4096_S1x1024x512_0_0_1536))
      (View.ld w2 (Rect.unit ![0, 1536, 0] ![1, 512, 1024] inb_S1x4096x1024_S1x512x1024_0_1536_0)) (k0_pay9 (k0_pay7 (k0_pay3 x g sh sc) (View.ld w1 (Rect.unit ![0, 0, 1024] ![1, 1024, 512] inb_S1x1024x4096_S1x1024x512_0_0_1024)))
      (k0_pay8 (View.ld w2 (Rect.unit ![0, 1024, 0] ![1, 512, 1024] inb_S1x4096x1024_S1x512x1024_0_1024_0))) (k0_pay6 (k0_pay3 x g sh sc) (View.ld w1 (Rect.unit ![0, 0, 512] ![1, 1024, 512] inb_S1x1024x4096_S1x1024x512_0_0_512))
      (View.ld w2 (Rect.unit ![0, 512, 0] ![1, 512, 1024] inb_S1x4096x1024_S1x512x1024_0_512_0)) (k0_pay5 (k0_pay4 x g sh sc (View.ld w1 (Rect.unit ![0, 0, 0] ![1, 1024, 512] inb_S1x1024x4096_S1x1024x512_0_0_0)))
      (View.ld w2 (Rect.unit ![0, 0, 0] ![1, 512, 1024] inb_S1x4096x1024_S1x512x1024_0_0_0))))))))) (ix2 r d)
      = ∑ f : Fin 4096, feature (hidden (fun e => x (ix3 0 r e)) (fun e => g (ix3 0 0 e)) (fun e => sc (ix5 0 0 0 0 e)) (fun e => sh (ix5 0 0 0 0 e)))
          (fun k => w1 (ix3 0 k f)) * w2 (ix3 0 f d) := by
  simp only [p16, p15, p13, p12, p10, p9, p6, p5]
  rw [eight]
  simp only [p3]

/-- The feed-forward call of the last layer, idealized, computes the reference's result. -/
theorem algebraic : Cert.algebraic_KernelIdeal_ReferenceIdeal (hKernelIdeal := Cert.KernelIdeal.Gen.facts) (hReferenceIdeal := Cert.ReferenceIdeal.Gen.facts) := by
  pair_intro
  · run_from Cert.KernelIdeal.Value.run_blocks m g
  · run_from Cert.ReferenceIdeal.Value.run m' g'
    symm
    refine (dats m 0 c).arrAt_eq_of_covers 8 _ (by decide +kernel) fun t hf y => ?_
    blk_simp
    rw [after0_8, outsAt0]
    frame_out
    idx_vars y
    obtain rfl : y0 = 0 := Subsingleton.elim _ _
    rw [p1]
    simp only [acc]
    have hr : ∀ i : S4x4096x1024.Idx, ReferenceIdeal.Value.res_main_v53 m' c i = out (m (c.tc.loc main_arg0)) (m (c.tc.loc main_arg1))
        (m (c.tc.loc main_arg2)) (m (c.tc.loc main_arg3)) (m (c.tc.loc main_arg4)) (m (c.tc.loc main_arg5)) (i 0) (i 1) (i 2) := fun i => by
      idx_vars i
      rw [ref]
      simp only [hagree c]
    rw [hr]
    unfold out
    blk_point [iblk, V, idx t]

end Cert.Proof.Mlp
-- ==== Proof.InProjValue.lean ====
/- The input projection: the tiled kernel and the whole-array reference compute the same array. -/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.InProj

open Idealize.ShloMosaic Idealize.ShloMosaic.TcCoe Idealize.SL.Sem
open Cert.InProjIdeal Cert.InProjIdeal.Gen

/-- Where the blocks of a grid point lie: batch `t / 8`, rows `512 * (t % 8) ..`, the last layer's weights, and the
    modulation's shift (row 0) and scale (row 1) of that batch. -/
theorem idx : ∀ t : Fin cfg0.N, win0_0.index t = ![t.val / 8, t.val % 8, 0] ∧ win0_1.index t = ![3, 0, 0]
    ∧ win0_2.index t = ![3, t.val / 8, 0, 0, 0] ∧ win0_3.index t = ![3, t.val / 8, 1, 0, 0]
    ∧ win0_4.index t = ![3, 0, 0] ∧ win0_5.index t = ![t.val / 8, t.val % 8, 0] :=
  (by decide +kernel : ∀ t : Fin grid0.N, win0_0.index t = ![t.val / 8, t.val % 8, 0] ∧ win0_1.index t = ![3, 0, 0]
    ∧ win0_2.index t = ![3, t.val / 8, 0, 0, 0] ∧ win0_3.index t = ![3, t.val / 8, 1, 0, 0]
    ∧ win0_4.index t = ![3, 0, 0] ∧ win0_5.index t = ![t.val / 8, t.val % 8, 0])

/-- The in-projection call, idealized, computes the reference's result. -/
theorem algebraic : Cert.algebraic_InProjIdeal_InProjRefIdeal (hInProjIdeal := Cert.InProjIdeal.Gen.facts) (hInProjRefIdeal := Cert.InProjRefIdeal.Gen.facts) := by
  pair_intro
  · run_from Cert.InProjIdeal.Value.run_blocks m g
  · run_from Cert.InProjRefIdeal.Value.run m' g'
    symm
    refine (dats m 0 c).arrAt_eq_of_covers 5 _ (by decide +kernel) fun t hf y => ?_
    blk_simp
    rw [after0_5]
    frame_out
    idx_vars y
    pointwise [k0_pay1, k0_pay2]
    blk_point [iblk, V, idx t]

end Cert.Proof.InProj
-- ==== Proof.Mlp0Value.lean ====
/- The feed-forward of layer 0, which ends with the residual row (only the last layer's is normalized): the tiled kernel and the whole-array
   reference compute the same array. The elements read from a block, and the sum over the eight chunks, are those of the last layer's call. -/
module

public import proofs.«01_k».proof.Defs
public import proofs.«01_k».proof.Proof.MlpValue
public import proofs.«01_k».proof.Proof.Gen.Mlp0Ideal.Value
public import proofs.«01_k».proof.Proof.Gen.MlpRef0Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Mlp0

open Idealize.ShloMosaic Idealize.ShloMosaic.TcCoe Idealize.SL.Sem
open Cert.Mlp0Ideal Cert.Mlp0Ideal.Gen
open Cert.Proof.Mlp (feature)

/-- The blocks of grid point `t`: batch `t / 8`, row tile `t % 8`; layer 0 of the weights and of the modulation, whose rows 3, 4, 5 are the
    shift, scale and gate of the feed-forward. -/
theorem idx : ∀ t : Fin cfg0.N, win0_0.index t = ![t.val / 8, t.val % 8, 0] ∧ win0_1.index t = ![0, 0, 0]
    ∧ win0_2.index t = ![0, t.val / 8, 3, 0, 0] ∧ win0_3.index t = ![0, t.val / 8, 4, 0, 0]
    ∧ win0_4.index t = ![0, t.val / 8, 5, 0, 0] ∧ win0_5.index t = ![0, 0, 0] ∧ win0_6.index t = ![0, 0, 0]
    ∧ win0_7.index t = ![0, 0] ∧ win0_8.index t = ![t.val / 8, t.val % 8, 0] :=
  (by decide +kernel : ∀ t : Fin grid0.N, win0_0.index t = ![t.val / 8, t.val % 8, 0] ∧ win0_1.index t = ![0, 0, 0]
    ∧ win0_2.index t = ![0, t.val / 8, 3, 0, 0] ∧ win0_3.index t = ![0, t.val / 8, 4, 0, 0]
    ∧ win0_4.index t = ![0, t.val / 8, 5, 0, 0] ∧ win0_5.index t = ![0, 0, 0] ∧ win0_6.index t = ![0, 0, 0]
    ∧ win0_7.index t = ![0, 0] ∧ win0_8.index t = ![t.val / 8, t.val % 8, 0])

/-- The payload stored to the output is the residual row plus the gated value accumulated. -/
theorem p16 (v0 : Vec Ideal S1x512x1024 .f32) (v145 : Vec Ideal S1x1x1x1x1024 .f32) (v147 : Vec Ideal S512x1024 .f32) (r : Fin 512) (d : Fin 1024)
    (s : EReal) (h : v147 (ix2 r d) = s) :
    k0_pay16 (k0_pay1 v0) v145 v147 (ix3 0 r d) = v0 (ix3 0 r d) + v145 (ix5 0 0 0 0 d) * s := by
  subst h
  pointwise [k0_pay16, k0_pay1]

/-- The result of the layer's feed-forward at an index, as a function of the arguments. -/
def out (x : Vec Ideal S4x4096x1024 .f32) (mod : Vec Ideal S4x8x6144 .f32) (g2 : Vec Ideal S4x1024 .f32) (w1 : Vec Ideal S4x1024x4096 .f32)
    (w2 : Vec Ideal S4x4096x1024 .f32) (b : Fin 4) (r : Fin 4096) (e : Fin 1024) : EReal :=
  x (ix3 b r e) + mod (ix3 0 ⟨b.val, by omega⟩ ⟨5120 + e.val, by omega⟩) *
      ∑ f, feature (Mlp.hidden (fun k => x (ix3 b r k)) (fun k => g2 (ix2 0 k)) (fun k => mod (ix3 0 ⟨b.val, by omega⟩ ⟨4096 + k.val, by omega⟩))
        (fun k => mod (ix3 0 ⟨b.val, by omega⟩ ⟨3072 + k.val, by omega⟩))) (fun k => w1 (ix3 0 k f)) * w2 (ix3 0 f e)

/-- The reference's result at an index. -/
theorem ref (m' : (ℓ : Loc MlpRef0Ideal.nD MlpRef0Ideal.τ MlpRef0Ideal.sig) → Buf (Elt Ideal) ℓ) (c : Dev MlpRef0Ideal.nD) (b : Fin 4) (r : Fin 4096) (d : Fin 1024) :
    MlpRef0Ideal.Value.res_main_v40 m' c (ix3 b r d) = out (m' (c.tc.loc MlpRef0Ideal.main_arg0)) (m' (c.tc.loc MlpRef0Ideal.main_arg1))
      (m' (c.tc.loc MlpRef0Ideal.main_arg2)) (m' (c.tc.loc MlpRef0Ideal.main_arg3)) (m' (c.tc.loc MlpRef0Ideal.main_arg4)) b r d := by
  unfold out feature Mlp.hidden Mlp.norm
  pointwise [MlpRef0Ideal.Value.res_main_v40]

/-- The feed-forward call of layer 0, idealized, computes the reference's result. -/
theorem algebraic : Cert.algebraic_Mlp0Ideal_MlpRef0Ideal (hMlp0Ideal := Cert.Mlp0Ideal.Gen.facts) (hMlpRef0Ideal := Cert.MlpRef0Ideal.Gen.facts) := by
  pair_intro
  · run_from Cert.Mlp0Ideal.Value.run_blocks m g
  · run_from Cert.MlpRef0Ideal.Value.run m' g'
    symm
    refine (dats m 0 c).arrAt_eq_of_covers 8 _ (by decide +kernel) fun t hf y => ?_
    blk_simp
    rw [after0_8, outsAt0]
    frame_out
    idx_vars y
    obtain rfl : y0 = 0 := Subsingleton.elim _ _
    refine (p16 _ _ _ _ _ _
      (Mlp.acc (iblk m c 0 t) (iblk m c 1 t) (iblk m c 2 t) (iblk m c 3 t) (iblk m c 5 t) (iblk m c 6 t) y1 y2)).trans ?_
    have hr : ∀ i : S4x4096x1024.Idx, MlpRef0Ideal.Value.res_main_v40 m' c i = out (m (c.tc.loc main_arg0)) (m (c.tc.loc main_arg1))
        (m (c.tc.loc main_arg2)) (m (c.tc.loc main_arg3)) (m (c.tc.loc main_arg4)) (i 0) (i 1) (i 2) := fun i => by
      idx_vars i
      rw [ref]
      simp only [hagree c]
    rw [hr]
    unfold out
    blk_point [iblk, V, idx t]

end Cert.Proof.Mlp0
-- ==== Proof.Mlp1Value.lean ====
/- The feed-forward of layer 1, which ends with the residual row (only the last layer's is normalized): the tiled kernel and the whole-array
   reference compute the same array. The elements read from a block, and the sum over the eight chunks, are those of the last layer's call. -/
module

public import proofs.«01_k».proof.Defs
public import proofs.«01_k».proof.Proof.MlpValue
public import proofs.«01_k».proof.Proof.Gen.Mlp1Ideal.Value
public import proofs.«01_k».proof.Proof.Gen.MlpRef1Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Mlp1

open Idealize.ShloMosaic Idealize.ShloMosaic.TcCoe Idealize.SL.Sem
open Cert.Mlp1Ideal Cert.Mlp1Ideal.Gen
open Cert.Proof.Mlp (feature)

/-- The blocks of grid point `t`: batch `t / 8`, row tile `t % 8`; layer 1 of the weights and of the modulation, whose rows 3, 4, 5 are the
    shift, scale and gate of the feed-forward. -/
theorem idx : ∀ t : Fin cfg0.N, win0_0.index t = ![t.val / 8, t.val % 8, 0] ∧ win0_1.index t = ![1, 0, 0]
    ∧ win0_2.index t = ![1, t.val / 8, 3, 0, 0] ∧ win0_3.index t = ![1, t.val / 8, 4, 0, 0]
    ∧ win0_4.index t = ![1, t.val / 8, 5, 0, 0] ∧ win0_5.index t = ![1, 0, 0] ∧ win0_6.index t = ![1, 0, 0]
    ∧ win0_7.index t = ![0, 0] ∧ win0_8.index t = ![t.val / 8, t.val % 8, 0] :=
  (by decide +kernel : ∀ t : Fin grid0.N, win0_0.index t = ![t.val / 8, t.val % 8, 0] ∧ win0_1.index t = ![1, 0, 0]
    ∧ win0_2.index t = ![1, t.val / 8, 3, 0, 0] ∧ win0_3.index t = ![1, t.val / 8, 4, 0, 0]
    ∧ win0_4.index t = ![1, t.val / 8, 5, 0, 0] ∧ win0_5.index t = ![1, 0, 0] ∧ win0_6.index t = ![1, 0, 0]
    ∧ win0_7.index t = ![0, 0] ∧ win0_8.index t = ![t.val / 8, t.val % 8, 0])

/-- The payload stored to the output is the residual row plus the gated value accumulated. -/
theorem p16 (v0 : Vec Ideal S1x512x1024 .f32) (v145 : Vec Ideal S1x1x1x1x1024 .f32) (v147 : Vec Ideal S512x1024 .f32) (r : Fin 512) (d : Fin 1024)
    (s : EReal) (h : v147 (ix2 r d) = s) :
    k0_pay16 (k0_pay1 v0) v145 v147 (ix3 0 r d) = v0 (ix3 0 r d) + v145 (ix5 0 0 0 0 d) * s := by
  subst h
  pointwise [k0_pay16, k0_pay1]

/-- The result of the layer's feed-forward at an index, as a function of the arguments. -/
def out (x : Vec Ideal S4x4096x1024 .f32) (mod : Vec Ideal S4x8x6144 .f32) (g2 : Vec Ideal S4x1024 .f32) (w1 : Vec Ideal S4x1024x4096 .f32)
    (w2 : Vec Ideal S4x4096x1024 .f32) (b : Fin 4) (r : Fin 4096) (e : Fin 1024) : EReal :=
  x (ix3 b r e) + mod (ix3 1 ⟨b.val, by omega⟩ ⟨5120 + e.val, by omega⟩) *
      ∑ f, feature (Mlp.hidden (fun k => x (ix3 b r k)) (fun k => g2 (ix2 1 k)) (fun k => mod (ix3 1 ⟨b.val, by omega⟩ ⟨4096 + k.val, by omega⟩))
        (fun k => mod (ix3 1 ⟨b.val, by omega⟩ ⟨3072 + k.val, by omega⟩))) (fun k => w1 (ix3 1 k f)) * w2 (ix3 1 f e)

/-- The reference's result at an index. -/
theorem ref (m' : (ℓ : Loc MlpRef1Ideal.nD MlpRef1Ideal.τ MlpRef1Ideal.sig) → Buf (Elt Ideal) ℓ) (c : Dev MlpRef1Ideal.nD) (b : Fin 4) (r : Fin 4096) (d : Fin 1024) :
    MlpRef1Ideal.Value.res_main_v40 m' c (ix3 b r d) = out (m' (c.tc.loc MlpRef1Ideal.main_arg0)) (m' (c.tc.loc MlpRef1Ideal.main_arg1))
      (m' (c.tc.loc MlpRef1Ideal.main_arg2)) (m' (c.tc.loc MlpRef1Ideal.main_arg3)) (m' (c.tc.loc MlpRef1Ideal.main_arg4)) b r d := by
  unfold out feature Mlp.hidden Mlp.norm
  pointwise [MlpRef1Ideal.Value.res_main_v40]

/-- The feed-forward call of layer 1, idealized, computes the reference's result. -/
theorem algebraic : Cert.algebraic_Mlp1Ideal_MlpRef1Ideal (hMlp1Ideal := Cert.Mlp1Ideal.Gen.facts) (hMlpRef1Ideal := Cert.MlpRef1Ideal.Gen.facts) := by
  pair_intro
  · run_from Cert.Mlp1Ideal.Value.run_blocks m g
  · run_from Cert.MlpRef1Ideal.Value.run m' g'
    symm
    refine (dats m 0 c).arrAt_eq_of_covers 8 _ (by decide +kernel) fun t hf y => ?_
    blk_simp
    rw [after0_8, outsAt0]
    frame_out
    idx_vars y
    obtain rfl : y0 = 0 := Subsingleton.elim _ _
    refine (p16 _ _ _ _ _ _
      (Mlp.acc (iblk m c 0 t) (iblk m c 1 t) (iblk m c 2 t) (iblk m c 3 t) (iblk m c 5 t) (iblk m c 6 t) y1 y2)).trans ?_
    have hr : ∀ i : S4x4096x1024.Idx, MlpRef1Ideal.Value.res_main_v40 m' c i = out (m (c.tc.loc main_arg0)) (m (c.tc.loc main_arg1))
        (m (c.tc.loc main_arg2)) (m (c.tc.loc main_arg3)) (m (c.tc.loc main_arg4)) (i 0) (i 1) (i 2) := fun i => by
      idx_vars i
      rw [ref]
      simp only [hagree c]
    rw [hr]
    unfold out
    blk_point [iblk, V, idx t]

end Cert.Proof.Mlp1
-- ==== Proof.Mlp2Value.lean ====
/- The feed-forward of layer 2, which ends with the residual row (only the last layer's is normalized): the tiled kernel and the whole-array
   reference compute the same array. The elements read from a block, and the sum over the eight chunks, are those of the last layer's call. -/
module

public import proofs.«01_k».proof.Defs
public import proofs.«01_k».proof.Proof.MlpValue
public import proofs.«01_k».proof.Proof.Gen.Mlp2Ideal.Value
public import proofs.«01_k».proof.Proof.Gen.MlpRef2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.Mlp2

open Idealize.ShloMosaic Idealize.ShloMosaic.TcCoe Idealize.SL.Sem
open Cert.Mlp2Ideal Cert.Mlp2Ideal.Gen
open Cert.Proof.Mlp (feature)

/-- The blocks of grid point `t`: batch `t / 8`, row tile `t % 8`; layer 2 of the weights and of the modulation, whose rows 3, 4, 5 are the
    shift, scale and gate of the feed-forward. -/
theorem idx : ∀ t : Fin cfg0.N, win0_0.index t = ![t.val / 8, t.val % 8, 0] ∧ win0_1.index t = ![2, 0, 0]
    ∧ win0_2.index t = ![2, t.val / 8, 3, 0, 0] ∧ win0_3.index t = ![2, t.val / 8, 4, 0, 0]
    ∧ win0_4.index t = ![2, t.val / 8, 5, 0, 0] ∧ win0_5.index t = ![2, 0, 0] ∧ win0_6.index t = ![2, 0, 0]
    ∧ win0_7.index t = ![0, 0] ∧ win0_8.index t = ![t.val / 8, t.val % 8, 0] :=
  (by decide +kernel : ∀ t : Fin grid0.N, win0_0.index t = ![t.val / 8, t.val % 8, 0] ∧ win0_1.index t = ![2, 0, 0]
    ∧ win0_2.index t = ![2, t.val / 8, 3, 0, 0] ∧ win0_3.index t = ![2, t.val / 8, 4, 0, 0]
    ∧ win0_4.index t = ![2, t.val / 8, 5, 0, 0] ∧ win0_5.index t = ![2, 0, 0] ∧ win0_6.index t = ![2, 0, 0]
    ∧ win0_7.index t = ![0, 0] ∧ win0_8.index t = ![t.val / 8, t.val % 8, 0])

/-- The payload stored to the output is the residual row plus the gated value accumulated. -/
theorem p16 (v0 : Vec Ideal S1x512x1024 .f32) (v145 : Vec Ideal S1x1x1x1x1024 .f32) (v147 : Vec Ideal S512x1024 .f32) (r : Fin 512) (d : Fin 1024)
    (s : EReal) (h : v147 (ix2 r d) = s) :
    k0_pay16 (k0_pay1 v0) v145 v147 (ix3 0 r d) = v0 (ix3 0 r d) + v145 (ix5 0 0 0 0 d) * s := by
  subst h
  pointwise [k0_pay16, k0_pay1]

/-- The result of the layer's feed-forward at an index, as a function of the arguments. -/
def out (x : Vec Ideal S4x4096x1024 .f32) (mod : Vec Ideal S4x8x6144 .f32) (g2 : Vec Ideal S4x1024 .f32) (w1 : Vec Ideal S4x1024x4096 .f32)
    (w2 : Vec Ideal S4x4096x1024 .f32) (b : Fin 4) (r : Fin 4096) (e : Fin 1024) : EReal :=
  x (ix3 b r e) + mod (ix3 2 ⟨b.val, by omega⟩ ⟨5120 + e.val, by omega⟩) *
      ∑ f, feature (Mlp.hidden (fun k => x (ix3 b r k)) (fun k => g2 (ix2 2 k)) (fun k => mod (ix3 2 ⟨b.val, by omega⟩ ⟨4096 + k.val, by omega⟩))
        (fun k => mod (ix3 2 ⟨b.val, by omega⟩ ⟨3072 + k.val, by omega⟩))) (fun k => w1 (ix3 2 k f)) * w2 (ix3 2 f e)

/-- The reference's result at an index. -/
theorem ref (m' : (ℓ : Loc MlpRef2Ideal.nD MlpRef2Ideal.τ MlpRef2Ideal.sig) → Buf (Elt Ideal) ℓ) (c : Dev MlpRef2Ideal.nD) (b : Fin 4) (r : Fin 4096) (d : Fin 1024) :
    MlpRef2Ideal.Value.res_main_v40 m' c (ix3 b r d) = out (m' (c.tc.loc MlpRef2Ideal.main_arg0)) (m' (c.tc.loc MlpRef2Ideal.main_arg1))
      (m' (c.tc.loc MlpRef2Ideal.main_arg2)) (m' (c.tc.loc MlpRef2Ideal.main_arg3)) (m' (c.tc.loc MlpRef2Ideal.main_arg4)) b r d := by
  unfold out feature Mlp.hidden Mlp.norm
  pointwise [MlpRef2Ideal.Value.res_main_v40]

/-- The feed-forward call of layer 2, idealized, computes the reference's result. -/
theorem algebraic : Cert.algebraic_Mlp2Ideal_MlpRef2Ideal (hMlp2Ideal := Cert.Mlp2Ideal.Gen.facts) (hMlpRef2Ideal := Cert.MlpRef2Ideal.Gen.facts) := by
  pair_intro
  · run_from Cert.Mlp2Ideal.Value.run_blocks m g
  · run_from Cert.MlpRef2Ideal.Value.run m' g'
    symm
    refine (dats m 0 c).arrAt_eq_of_covers 8 _ (by decide +kernel) fun t hf y => ?_
    blk_simp
    rw [after0_8, outsAt0]
    frame_out
    idx_vars y
    obtain rfl : y0 = 0 := Subsingleton.elim _ _
    refine (p16 _ _ _ _ _ _
      (Mlp.acc (iblk m c 0 t) (iblk m c 1 t) (iblk m c 2 t) (iblk m c 3 t) (iblk m c 5 t) (iblk m c 6 t) y1 y2)).trans ?_
    have hr : ∀ i : S4x4096x1024.Idx, MlpRef2Ideal.Value.res_main_v40 m' c i = out (m (c.tc.loc main_arg0)) (m (c.tc.loc main_arg1))
        (m (c.tc.loc main_arg2)) (m (c.tc.loc main_arg3)) (m (c.tc.loc main_arg4)) (i 0) (i 1) (i 2) := fun i => by
      idx_vars i
      rw [ref]
      simp only [hagree c]
    rw [hr]
    unfold out
    blk_point [iblk, V, idx t]

end Cert.Proof.Mlp2
-- ==== Proof.InProj0Value.lean ====
/- The input projection of layer 0: the tiled kernel and the whole-array reference compute the same array. -/
module

public import proofs.«01_k».proof.Defs
public import proofs.«01_k».proof.Proof.Gen.InProj0Ideal.Value
public import proofs.«01_k».proof.Proof.Gen.InProjRef0Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.InProj0

open Idealize.ShloMosaic Idealize.ShloMosaic.TcCoe Idealize.SL.Sem
open Cert.InProj0Ideal Cert.InProj0Ideal.Gen

/-- Where the blocks of a grid point lie: batch `t / 8`, rows `512 * (t % 8) ..`, layer 0's weights, and the
    modulation's shift (row 0) and scale (row 1) of that batch. -/
theorem idx : ∀ t : Fin cfg0.N, win0_0.index t = ![t.val / 8, t.val % 8, 0] ∧ win0_1.index t = ![0, 0, 0]
    ∧ win0_2.index t = ![0, t.val / 8, 0, 0, 0] ∧ win0_3.index t = ![0, t.val / 8, 1, 0, 0]
    ∧ win0_4.index t = ![0, 0, 0] ∧ win0_5.index t = ![t.val / 8, t.val % 8, 0] :=
  (by decide +kernel : ∀ t : Fin grid0.N, win0_0.index t = ![t.val / 8, t.val % 8, 0] ∧ win0_1.index t = ![0, 0, 0]
    ∧ win0_2.index t = ![0, t.val / 8, 0, 0, 0] ∧ win0_3.index t = ![0, t.val / 8, 1, 0, 0]
    ∧ win0_4.index t = ![0, 0, 0] ∧ win0_5.index t = ![t.val / 8, t.val % 8, 0])

/-- The in-projection call of layer 0, idealized, computes the reference's result. -/
theorem algebraic : Cert.algebraic_InProj0Ideal_InProjRef0Ideal (hInProj0Ideal := Cert.InProj0Ideal.Gen.facts) (hInProjRef0Ideal := Cert.InProjRef0Ideal.Gen.facts) := by
  pair_intro
  · run_from Cert.InProj0Ideal.Value.run_blocks m g
  · run_from Cert.InProjRef0Ideal.Value.run m' g'
    symm
    refine (dats m 0 c).arrAt_eq_of_covers 5 _ (by decide +kernel) fun t hf y => ?_
    blk_simp
    rw [after0_5]
    frame_out
    idx_vars y
    pointwise [k0_pay1, k0_pay2]
    blk_point [iblk, V, idx t]

end Cert.Proof.InProj0
-- ==== Proof.InProj1Value.lean ====
/- The input projection of layer 1: the tiled kernel and the whole-array reference compute the same array. -/
module

public import proofs.«01_k».proof.Defs
public import proofs.«01_k».proof.Proof.Gen.InProj1Ideal.Value
public import proofs.«01_k».proof.Proof.Gen.InProjRef1Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.InProj1

open Idealize.ShloMosaic Idealize.ShloMosaic.TcCoe Idealize.SL.Sem
open Cert.InProj1Ideal Cert.InProj1Ideal.Gen

/-- Where the blocks of a grid point lie: batch `t / 8`, rows `512 * (t % 8) ..`, layer 1's weights, and the
    modulation's shift (row 0) and scale (row 1) of that batch. -/
theorem idx : ∀ t : Fin cfg0.N, win0_0.index t = ![t.val / 8, t.val % 8, 0] ∧ win0_1.index t = ![1, 0, 0]
    ∧ win0_2.index t = ![1, t.val / 8, 0, 0, 0] ∧ win0_3.index t = ![1, t.val / 8, 1, 0, 0]
    ∧ win0_4.index t = ![1, 0, 0] ∧ win0_5.index t = ![t.val / 8, t.val % 8, 0] :=
  (by decide +kernel : ∀ t : Fin grid0.N, win0_0.index t = ![t.val / 8, t.val % 8, 0] ∧ win0_1.index t = ![1, 0, 0]
    ∧ win0_2.index t = ![1, t.val / 8, 0, 0, 0] ∧ win0_3.index t = ![1, t.val / 8, 1, 0, 0]
    ∧ win0_4.index t = ![1, 0, 0] ∧ win0_5.index t = ![t.val / 8, t.val % 8, 0])

/-- The in-projection call of layer 1, idealized, computes the reference's result. -/
theorem algebraic : Cert.algebraic_InProj1Ideal_InProjRef1Ideal (hInProj1Ideal := Cert.InProj1Ideal.Gen.facts) (hInProjRef1Ideal := Cert.InProjRef1Ideal.Gen.facts) := by
  pair_intro
  · run_from Cert.InProj1Ideal.Value.run_blocks m g
  · run_from Cert.InProjRef1Ideal.Value.run m' g'
    symm
    refine (dats m 0 c).arrAt_eq_of_covers 5 _ (by decide +kernel) fun t hf y => ?_
    blk_simp
    rw [after0_5]
    frame_out
    idx_vars y
    pointwise [k0_pay1, k0_pay2]
    blk_point [iblk, V, idx t]

end Cert.Proof.InProj1
-- ==== Proof.InProj2Value.lean ====
/- The input projection of layer 2: the tiled kernel and the whole-array reference compute the same array. -/
module

public import proofs.«01_k».proof.Defs
public import proofs.«01_k».proof.Proof.Gen.InProj2Ideal.Value
public import proofs.«01_k».proof.Proof.Gen.InProjRef2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.InProj2

open Idealize.ShloMosaic Idealize.ShloMosaic.TcCoe Idealize.SL.Sem
open Cert.InProj2Ideal Cert.InProj2Ideal.Gen

/-- Where the blocks of a grid point lie: batch `t / 8`, rows `512 * (t % 8) ..`, layer 2's weights, and the
    modulation's shift (row 0) and scale (row 1) of that batch. -/
theorem idx : ∀ t : Fin cfg0.N, win0_0.index t = ![t.val / 8, t.val % 8, 0] ∧ win0_1.index t = ![2, 0, 0]
    ∧ win0_2.index t = ![2, t.val / 8, 0, 0, 0] ∧ win0_3.index t = ![2, t.val / 8, 1, 0, 0]
    ∧ win0_4.index t = ![2, 0, 0] ∧ win0_5.index t = ![t.val / 8, t.val % 8, 0] :=
  (by decide +kernel : ∀ t : Fin grid0.N, win0_0.index t = ![t.val / 8, t.val % 8, 0] ∧ win0_1.index t = ![2, 0, 0]
    ∧ win0_2.index t = ![2, t.val / 8, 0, 0, 0] ∧ win0_3.index t = ![2, t.val / 8, 1, 0, 0]
    ∧ win0_4.index t = ![2, 0, 0] ∧ win0_5.index t = ![t.val / 8, t.val % 8, 0])

/-- The in-projection call of layer 2, idealized, computes the reference's result. -/
theorem algebraic : Cert.algebraic_InProj2Ideal_InProjRef2Ideal (hInProj2Ideal := Cert.InProj2Ideal.Gen.facts) (hInProjRef2Ideal := Cert.InProjRef2Ideal.Gen.facts) := by
  pair_intro
  · run_from Cert.InProj2Ideal.Value.run_blocks m g
  · run_from Cert.InProjRef2Ideal.Value.run m' g'
    symm
    refine (dats m 0 c).arrAt_eq_of_covers 5 _ (by decide +kernel) fun t hf y => ?_
    blk_simp
    rw [after0_5]
    frame_out
    idx_vars y
    pointwise [k0_pay1, k0_pay2]
    blk_point [iblk, V, idx t]

end Cert.Proof.InProj2
-- ==== Proof.MlpCtx0Value.lean ====
/- The feed-forward of layer 0 on the context stream, which ends with the residual row (only the last layer's is normalized): the tiled kernel and the whole-array
   reference compute the same array. The elements read from a block, and the sum over the eight chunks, are those of the last layer's call. -/
module

public import proofs.«01_k».proof.Defs
public import proofs.«01_k».proof.Proof.MlpValue
public import proofs.«01_k».proof.Proof.Gen.MlpCtx0Ideal.Value
public import proofs.«01_k».proof.Proof.Gen.MlpCtxRef0Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.MlpCtx0

open Idealize.ShloMosaic Idealize.ShloMosaic.TcCoe Idealize.SL.Sem
open Cert.MlpCtx0Ideal Cert.MlpCtx0Ideal.Gen
open Cert.Proof.Mlp (feature chunk eight)

/-- The blocks of grid point `t`: batch `t`, all its rows; layer 0 of the weights and of the modulation, whose row for the context stream is 4 and
    whose parts 3, 4, 5 are the shift, scale and gate of the feed-forward. -/
theorem idx : ∀ t : Fin cfg0.N, win0_0.index t = ![t.val, 0, 0] ∧ win0_1.index t = ![0, 0, 0]
    ∧ win0_2.index t = ![0, 4, 3, 0, 0] ∧ win0_3.index t = ![0, 4, 4, 0, 0]
    ∧ win0_4.index t = ![0, 4, 5, 0, 0] ∧ win0_5.index t = ![0, 0, 0] ∧ win0_6.index t = ![0, 0, 0]
    ∧ win0_7.index t = ![0, 0] ∧ win0_8.index t = ![t.val, 0, 0] :=
  (by decide +kernel : ∀ t : Fin grid0.N, win0_0.index t = ![t.val, 0, 0] ∧ win0_1.index t = ![0, 0, 0]
    ∧ win0_2.index t = ![0, 4, 3, 0, 0] ∧ win0_3.index t = ![0, 4, 4, 0, 0]
    ∧ win0_4.index t = ![0, 4, 5, 0, 0] ∧ win0_5.index t = ![0, 0, 0] ∧ win0_6.index t = ![0, 0, 0]
    ∧ win0_7.index t = ![0, 0] ∧ win0_8.index t = ![t.val, 0, 0])

/-- The normalized and modulated row. -/
theorem p2 (v0 : Vec Ideal S1x256x1024 .f32) v2 v4 v6 (r : Fin 256) (k : Fin 1024) :
    k0_pay2 v0 v2 v4 v6 (ix2 r k)
      = Mlp.hidden (fun e => v0 (ix3 0 r e)) (fun e => v2 (ix3 0 0 e)) (fun e => v6 (ix5 0 0 0 0 e)) (fun e => v4 (ix5 0 0 0 0 e)) k := by
  unfold Mlp.hidden Mlp.norm
  pointwise [k0_pay2, k0_pay1]

theorem p4 (v0 : Vec Ideal S1x256x1024 .f32) v2 v4 v6 v27 v34 (r : Fin 256) (d : Fin 1024) :
    k0_pay4 (k0_pay3 v0 v2 v4 v6 v27) v34 (ix2 r d) = chunk (fun k => k0_pay2 v0 v2 v4 v6 (ix2 r k)) v27 v34 d := by
  unfold chunk feature
  pointwise [k0_pay4, k0_pay3]

theorem p5 (v26 : FVec Ideal S256x1024 .bf16) v40 v47 v50 (r : Fin 256) (d : Fin 1024) :
    k0_pay5 v26 v40 v47 v50 (ix2 r d) = v50 (ix2 r d) + chunk (fun k => v26 (ix2 r k)) v40 v47 d := by
  unfold chunk feature
  pointwise [k0_pay5]

theorem p8 (v26 : FVec Ideal S256x1024 .bf16) v40 v47 v50 (r : Fin 256) (d : Fin 1024) :
    k0_pay8 (k0_pay6 v26 v40) (k0_pay7 v47) v50 (ix2 r d) = v50 (ix2 r d) + chunk (fun k => v26 (ix2 r k)) v40 v47 d := by
  unfold chunk feature
  pointwise [k0_pay8, k0_pay6, k0_pay7]

theorem p9 (v26 : FVec Ideal S256x1024 .bf16) v40 v47 v50 (r : Fin 256) (d : Fin 1024) :
    k0_pay9 v26 v40 v47 v50 (ix2 r d) = v50 (ix2 r d) + chunk (fun k => v26 (ix2 r k)) v40 v47 d := by
  unfold chunk feature
  pointwise [k0_pay9]

theorem p11 (v26 : FVec Ideal S256x1024 .bf16) v40 v47 v50 (r : Fin 256) (d : Fin 1024) :
    k0_pay11 (k0_pay10 v26 v40 v47) v50 (ix2 r d) = v50 (ix2 r d) + chunk (fun k => v26 (ix2 r k)) v40 v47 d := by
  unfold chunk feature
  pointwise [k0_pay11, k0_pay10]

theorem p12 (v26 : FVec Ideal S256x1024 .bf16) v40 v47 v50 (r : Fin 256) (d : Fin 1024) :
    k0_pay12 v26 v40 v47 v50 (ix2 r d) = v50 (ix2 r d) + chunk (fun k => v26 (ix2 r k)) v40 v47 d := by
  unfold chunk feature
  pointwise [k0_pay12]

theorem p14 (v26 : FVec Ideal S256x1024 .bf16) v40 v47 v50 (r : Fin 256) (d : Fin 1024) :
    k0_pay14 (k0_pay13 v26 v40 v47) v50 (ix2 r d) = v50 (ix2 r d) + chunk (fun k => v26 (ix2 r k)) v40 v47 d := by
  unfold chunk feature
  pointwise [k0_pay14, k0_pay13]

theorem p15 (v26 : FVec Ideal S256x1024 .bf16) v40 v47 v50 (r : Fin 256) (d : Fin 1024) :
    k0_pay15 v26 v40 v47 v50 (ix2 r d) = v50 (ix2 r d) + chunk (fun k => v26 (ix2 r k)) v40 v47 d := by
  unfold chunk feature
  pointwise [k0_pay15]

/-- The eight chunks accumulated one after the other: the layer's product of the hidden features with the second weights. -/
theorem acc (x : Vec Ideal S1x256x1024 .f32) (g : Vec Ideal S1x1x1024 .f32) (sh sc : Vec Ideal S1x1x1x1x1024 .f32) (w1 : Vec Ideal S1x1024x4096 .bf16)
    (w2 : Vec Ideal S1x4096x1024 .bf16) (r : Fin 256) (d : Fin 1024) :
    k0_pay15 (k0_pay2 x g sh sc) (View.ld w1 (Rect.unit ![0, 0, 3584] ![1, 1024, 512] inb_S1x1024x4096_S1x1024x512_0_0_3584))
      (View.ld w2 (Rect.unit ![0, 3584, 0] ![1, 512, 1024] inb_S1x4096x1024_S1x512x1024_0_3584_0)) (k0_pay14 (k0_pay13 (k0_pay2 x g sh sc) (View.ld w1 (Rect.unit ![0, 0, 3072] ![1, 1024, 512] inb_S1x1024x4096_S1x1024x512_0_0_3072))
      (View.ld w2 (Rect.unit ![0, 3072, 0] ![1, 512, 1024] inb_S1x4096x1024_S1x512x1024_0_3072_0))) (k0_pay12 (k0_pay2 x g sh sc) (View.ld w1 (Rect.unit ![0, 0, 2560] ![1, 1024, 512] inb_S1x1024x4096_S1x1024x512_0_0_2560))
      (View.ld w2 (Rect.unit ![0, 2560, 0] ![1, 512, 1024] inb_S1x4096x1024_S1x512x1024_0_2560_0)) (k0_pay11 (k0_pay10 (k0_pay2 x g sh sc) (View.ld w1 (Rect.unit ![0, 0, 2048] ![1, 1024, 512] inb_S1x1024x4096_S1x1024x512_0_0_2048))
      (View.ld w2 (Rect.unit ![0, 2048, 0] ![1, 512, 1024] inb_S1x4096x1024_S1x512x1024_0_2048_0))) (k0_pay9 (k0_pay2 x g sh sc) (View.ld w1 (Rect.unit ![0, 0, 1536] ![1, 1024, 512] inb_S1x1024x4096_S1x1024x512_0_0_1536))
      (View.ld w2 (Rect.unit ![0, 1536, 0] ![1, 512, 1024] inb_S1x4096x1024_S1x512x1024_0_1536_0)) (k0_pay8 (k0_pay6 (k0_pay2 x g sh sc) (View.ld w1 (Rect.unit ![0, 0, 1024] ![1, 1024, 512] inb_S1x1024x4096_S1x1024x512_0_0_1024)))
      (k0_pay7 (View.ld w2 (Rect.unit ![0, 1024, 0] ![1, 512, 1024] inb_S1x4096x1024_S1x512x1024_0_1024_0))) (k0_pay5 (k0_pay2 x g sh sc) (View.ld w1 (Rect.unit ![0, 0, 512] ![1, 1024, 512] inb_S1x1024x4096_S1x1024x512_0_0_512))
      (View.ld w2 (Rect.unit ![0, 512, 0] ![1, 512, 1024] inb_S1x4096x1024_S1x512x1024_0_512_0)) (k0_pay4 (k0_pay3 x g sh sc (View.ld w1 (Rect.unit ![0, 0, 0] ![1, 1024, 512] inb_S1x1024x4096_S1x1024x512_0_0_0)))
      (View.ld w2 (Rect.unit ![0, 0, 0] ![1, 512, 1024] inb_S1x4096x1024_S1x512x1024_0_0_0))))))))) (ix2 r d)
      = ∑ f : Fin 4096, feature (Mlp.hidden (fun e => x (ix3 0 r e)) (fun e => g (ix3 0 0 e)) (fun e => sc (ix5 0 0 0 0 e)) (fun e => sh (ix5 0 0 0 0 e)))
          (fun k => w1 (ix3 0 k f)) * w2 (ix3 0 f d) := by
  simp only [p15, p14, p12, p11, p9, p8, p5, p4]
  rw [eight]
  simp only [p2]

/-- The payload stored to the output is the residual row plus the gated value accumulated. -/
theorem p_out (v0 : Vec Ideal S1x256x1024 .f32) (v145 : Vec Ideal S1x1x1x1x1024 .f32) (v147 : Vec Ideal S256x1024 .f32) (r : Fin 256) (d : Fin 1024)
    (s : EReal) (h : v147 (ix2 r d) = s) :
    k0_pay16 (k0_pay1 v0) v145 v147 (ix3 0 r d) = v0 (ix3 0 r d) + v145 (ix5 0 0 0 0 d) * s := by
  subst h
  pointwise [k0_pay16, k0_pay1]

/-- The result of the layer's feed-forward at an index, as a function of the arguments. -/
def out (x : Vec Ideal S4x256x1024 .f32) (mod : Vec Ideal S4x8x6144 .f32) (g2 : Vec Ideal S4x1024 .f32) (w1 : Vec Ideal S4x1024x4096 .f32)
    (w2 : Vec Ideal S4x4096x1024 .f32) (b : Fin 4) (r : Fin 256) (e : Fin 1024) : EReal :=
  x (ix3 b r e) + mod (ix3 0 4 ⟨5120 + e.val, by omega⟩) *
      ∑ f, feature (Mlp.hidden (fun k => x (ix3 b r k)) (fun k => g2 (ix2 0 k)) (fun k => mod (ix3 0 4 ⟨4096 + k.val, by omega⟩))
        (fun k => mod (ix3 0 4 ⟨3072 + k.val, by omega⟩))) (fun k => w1 (ix3 0 k f)) * w2 (ix3 0 f e)

/-- The reference's result at an index. -/
theorem ref (m' : (ℓ : Loc MlpCtxRef0Ideal.nD MlpCtxRef0Ideal.τ MlpCtxRef0Ideal.sig) → Buf (Elt Ideal) ℓ) (c : Dev MlpCtxRef0Ideal.nD) (b : Fin 4) (r : Fin 256) (d : Fin 1024) :
    MlpCtxRef0Ideal.Value.res_main_v42 m' c (ix3 b r d) = out (m' (c.tc.loc MlpCtxRef0Ideal.main_arg0)) (m' (c.tc.loc MlpCtxRef0Ideal.main_arg1))
      (m' (c.tc.loc MlpCtxRef0Ideal.main_arg2)) (m' (c.tc.loc MlpCtxRef0Ideal.main_arg3)) (m' (c.tc.loc MlpCtxRef0Ideal.main_arg4)) b r d := by
  unfold out feature Mlp.hidden Mlp.norm
  pointwise [MlpCtxRef0Ideal.Value.res_main_v42]

/-- The context feed-forward call of layer 0, idealized, computes the reference's result. -/
theorem algebraic : Cert.algebraic_MlpCtx0Ideal_MlpCtxRef0Ideal (hMlpCtx0Ideal := Cert.MlpCtx0Ideal.Gen.facts) (hMlpCtxRef0Ideal := Cert.MlpCtxRef0Ideal.Gen.facts) := by
  pair_intro
  · run_from Cert.MlpCtx0Ideal.Value.run_blocks m g
  · run_from Cert.MlpCtxRef0Ideal.Value.run m' g'
    symm
    refine (dats m 0 c).arrAt_eq_of_covers 8 _ (by decide +kernel) fun t hf y => ?_
    blk_simp
    rw [after0_8, outsAt0]
    frame_out
    idx_vars y
    obtain rfl : y0 = 0 := Subsingleton.elim _ _
    refine (p_out _ _ _ _ _ _
      (acc (iblk m c 0 t) (iblk m c 1 t) (iblk m c 2 t) (iblk m c 3 t) (iblk m c 5 t) (iblk m c 6 t) y1 y2)).trans ?_
    have hr : ∀ i : S4x256x1024.Idx, MlpCtxRef0Ideal.Value.res_main_v42 m' c i = out (m (c.tc.loc main_arg0)) (m (c.tc.loc main_arg1))
        (m (c.tc.loc main_arg2)) (m (c.tc.loc main_arg3)) (m (c.tc.loc main_arg4)) (i 0) (i 1) (i 2) := fun i => by
      idx_vars i
      rw [ref]
      simp only [hagree c]
    rw [hr]
    unfold out
    blk_point [iblk, V, idx t]

end Cert.Proof.MlpCtx0
-- ==== Proof.MlpCtx1Value.lean ====
/- The feed-forward of layer 1 on the context stream, which ends with the residual row (only the last layer's is normalized): the tiled kernel and the whole-array
   reference compute the same array. The elements read from a block, and the sum over the eight chunks, are those of the last layer's call. -/
module

public import proofs.«01_k».proof.Defs
public import proofs.«01_k».proof.Proof.MlpCtx0Value
public import proofs.«01_k».proof.Proof.Gen.MlpCtx1Ideal.Value
public import proofs.«01_k».proof.Proof.Gen.MlpCtxRef1Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.MlpCtx1

open Idealize.ShloMosaic Idealize.ShloMosaic.TcCoe Idealize.SL.Sem
open Cert.MlpCtx1Ideal Cert.MlpCtx1Ideal.Gen
open Cert.Proof.Mlp (feature)

/-- The blocks of grid point `t`: batch `t`, all its rows; layer 1 of the weights and of the modulation, whose row for the context stream is 4 and
    whose parts 3, 4, 5 are the shift, scale and gate of the feed-forward. -/
theorem idx : ∀ t : Fin cfg0.N, win0_0.index t = ![t.val, 0, 0] ∧ win0_1.index t = ![1, 0, 0]
    ∧ win0_2.index t = ![1, 4, 3, 0, 0] ∧ win0_3.index t = ![1, 4, 4, 0, 0]
    ∧ win0_4.index t = ![1, 4, 5, 0, 0] ∧ win0_5.index t = ![1, 0, 0] ∧ win0_6.index t = ![1, 0, 0]
    ∧ win0_7.index t = ![0, 0] ∧ win0_8.index t = ![t.val, 0, 0] :=
  (by decide +kernel : ∀ t : Fin grid0.N, win0_0.index t = ![t.val, 0, 0] ∧ win0_1.index t = ![1, 0, 0]
    ∧ win0_2.index t = ![1, 4, 3, 0, 0] ∧ win0_3.index t = ![1, 4, 4, 0, 0]
    ∧ win0_4.index t = ![1, 4, 5, 0, 0] ∧ win0_5.index t = ![1, 0, 0] ∧ win0_6.index t = ![1, 0, 0]
    ∧ win0_7.index t = ![0, 0] ∧ win0_8.index t = ![t.val, 0, 0])

/-- The payload stored to the output is the residual row plus the gated value accumulated. -/
theorem p_out (v0 : Vec Ideal S1x256x1024 .f32) (v145 : Vec Ideal S1x1x1x1x1024 .f32) (v147 : Vec Ideal S256x1024 .f32) (r : Fin 256) (d : Fin 1024)
    (s : EReal) (h : v147 (ix2 r d) = s) :
    k0_pay16 (k0_pay1 v0) v145 v147 (ix3 0 r d) = v0 (ix3 0 r d) + v145 (ix5 0 0 0 0 d) * s := by
  subst h
  pointwise [k0_pay16, k0_pay1]

/-- The result of the layer's feed-forward at an index, as a function of the arguments. -/
def out (x : Vec Ideal S4x256x1024 .f32) (mod : Vec Ideal S4x8x6144 .f32) (g2 : Vec Ideal S4x1024 .f32) (w1 : Vec Ideal S4x1024x4096 .f32)
    (w2 : Vec Ideal S4x4096x1024 .f32) (b : Fin 4) (r : Fin 256) (e : Fin 1024) : EReal :=
  x (ix3 b r e) + mod (ix3 1 4 ⟨5120 + e.val, by omega⟩) *
      ∑ f, feature (Mlp.hidden (fun k => x (ix3 b r k)) (fun k => g2 (ix2 1 k)) (fun k => mod (ix3 1 4 ⟨4096 + k.val, by omega⟩))
        (fun k => mod (ix3 1 4 ⟨3072 + k.val, by omega⟩))) (fun k => w1 (ix3 1 k f)) * w2 (ix3 1 f e)

/-- The reference's result at an index. -/
theorem ref (m' : (ℓ : Loc MlpCtxRef1Ideal.nD MlpCtxRef1Ideal.τ MlpCtxRef1Ideal.sig) → Buf (Elt Ideal) ℓ) (c : Dev MlpCtxRef1Ideal.nD) (b : Fin 4) (r : Fin 256) (d : Fin 1024) :
    MlpCtxRef1Ideal.Value.res_main_v42 m' c (ix3 b r d) = out (m' (c.tc.loc MlpCtxRef1Ideal.main_arg0)) (m' (c.tc.loc MlpCtxRef1Ideal.main_arg1))
      (m' (c.tc.loc MlpCtxRef1Ideal.main_arg2)) (m' (c.tc.loc MlpCtxRef1Ideal.main_arg3)) (m' (c.tc.loc MlpCtxRef1Ideal.main_arg4)) b r d := by
  unfold out feature Mlp.hidden Mlp.norm
  pointwise [MlpCtxRef1Ideal.Value.res_main_v42]

/-- The context feed-forward call of layer 1, idealized, computes the reference's result. -/
theorem algebraic : Cert.algebraic_MlpCtx1Ideal_MlpCtxRef1Ideal (hMlpCtx1Ideal := Cert.MlpCtx1Ideal.Gen.facts) (hMlpCtxRef1Ideal := Cert.MlpCtxRef1Ideal.Gen.facts) := by
  pair_intro
  · run_from Cert.MlpCtx1Ideal.Value.run_blocks m g
  · run_from Cert.MlpCtxRef1Ideal.Value.run m' g'
    symm
    refine (dats m 0 c).arrAt_eq_of_covers 8 _ (by decide +kernel) fun t hf y => ?_
    blk_simp
    rw [after0_8, outsAt0]
    frame_out
    idx_vars y
    obtain rfl : y0 = 0 := Subsingleton.elim _ _
    refine (p_out _ _ _ _ _ _
      (MlpCtx0.acc (iblk m c 0 t) (iblk m c 1 t) (iblk m c 2 t) (iblk m c 3 t) (iblk m c 5 t) (iblk m c 6 t) y1 y2)).trans ?_
    have hr : ∀ i : S4x256x1024.Idx, MlpCtxRef1Ideal.Value.res_main_v42 m' c i = out (m (c.tc.loc main_arg0)) (m (c.tc.loc main_arg1))
        (m (c.tc.loc main_arg2)) (m (c.tc.loc main_arg3)) (m (c.tc.loc main_arg4)) (i 0) (i 1) (i 2) := fun i => by
      idx_vars i
      rw [ref]
      simp only [hagree c]
    rw [hr]
    unfold out
    blk_point [iblk, V, idx t]

end Cert.Proof.MlpCtx1
-- ==== Proof.MlpCtx2Value.lean ====
/- The feed-forward of layer 2 on the context stream, which ends with the residual row (only the last layer's is normalized): the tiled kernel and the whole-array
   reference compute the same array. The elements read from a block, and the sum over the eight chunks, are those of the last layer's call. -/
module

public import proofs.«01_k».proof.Defs
public import proofs.«01_k».proof.Proof.MlpCtx0Value
public import proofs.«01_k».proof.Proof.Gen.MlpCtx2Ideal.Value
public import proofs.«01_k».proof.Proof.Gen.MlpCtxRef2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.MlpCtx2

open Idealize.ShloMosaic Idealize.ShloMosaic.TcCoe Idealize.SL.Sem
open Cert.MlpCtx2Ideal Cert.MlpCtx2Ideal.Gen
open Cert.Proof.Mlp (feature)

/-- The blocks of grid point `t`: batch `t`, all its rows; layer 2 of the weights and of the modulation, whose row for the context stream is 4 and
    whose parts 3, 4, 5 are the shift, scale and gate of the feed-forward. -/
theorem idx : ∀ t : Fin cfg0.N, win0_0.index t = ![t.val, 0, 0] ∧ win0_1.index t = ![2, 0, 0]
    ∧ win0_2.index t = ![2, 4, 3, 0, 0] ∧ win0_3.index t = ![2, 4, 4, 0, 0]
    ∧ win0_4.index t = ![2, 4, 5, 0, 0] ∧ win0_5.index t = ![2, 0, 0] ∧ win0_6.index t = ![2, 0, 0]
    ∧ win0_7.index t = ![0, 0] ∧ win0_8.index t = ![t.val, 0, 0] :=
  (by decide +kernel : ∀ t : Fin grid0.N, win0_0.index t = ![t.val, 0, 0] ∧ win0_1.index t = ![2, 0, 0]
    ∧ win0_2.index t = ![2, 4, 3, 0, 0] ∧ win0_3.index t = ![2, 4, 4, 0, 0]
    ∧ win0_4.index t = ![2, 4, 5, 0, 0] ∧ win0_5.index t = ![2, 0, 0] ∧ win0_6.index t = ![2, 0, 0]
    ∧ win0_7.index t = ![0, 0] ∧ win0_8.index t = ![t.val, 0, 0])

/-- The payload stored to the output is the residual row plus the gated value accumulated. -/
theorem p_out (v0 : Vec Ideal S1x256x1024 .f32) (v145 : Vec Ideal S1x1x1x1x1024 .f32) (v147 : Vec Ideal S256x1024 .f32) (r : Fin 256) (d : Fin 1024)
    (s : EReal) (h : v147 (ix2 r d) = s) :
    k0_pay16 (k0_pay1 v0) v145 v147 (ix3 0 r d) = v0 (ix3 0 r d) + v145 (ix5 0 0 0 0 d) * s := by
  subst h
  pointwise [k0_pay16, k0_pay1]

/-- The result of the layer's feed-forward at an index, as a function of the arguments. -/
def out (x : Vec Ideal S4x256x1024 .f32) (mod : Vec Ideal S4x8x6144 .f32) (g2 : Vec Ideal S4x1024 .f32) (w1 : Vec Ideal S4x1024x4096 .f32)
    (w2 : Vec Ideal S4x4096x1024 .f32) (b : Fin 4) (r : Fin 256) (e : Fin 1024) : EReal :=
  x (ix3 b r e) + mod (ix3 2 4 ⟨5120 + e.val, by omega⟩) *
      ∑ f, feature (Mlp.hidden (fun k => x (ix3 b r k)) (fun k => g2 (ix2 2 k)) (fun k => mod (ix3 2 4 ⟨4096 + k.val, by omega⟩))
        (fun k => mod (ix3 2 4 ⟨3072 + k.val, by omega⟩))) (fun k => w1 (ix3 2 k f)) * w2 (ix3 2 f e)

/-- The reference's result at an index. -/
theorem ref (m' : (ℓ : Loc MlpCtxRef2Ideal.nD MlpCtxRef2Ideal.τ MlpCtxRef2Ideal.sig) → Buf (Elt Ideal) ℓ) (c : Dev MlpCtxRef2Ideal.nD) (b : Fin 4) (r : Fin 256) (d : Fin 1024) :
    MlpCtxRef2Ideal.Value.res_main_v42 m' c (ix3 b r d) = out (m' (c.tc.loc MlpCtxRef2Ideal.main_arg0)) (m' (c.tc.loc MlpCtxRef2Ideal.main_arg1))
      (m' (c.tc.loc MlpCtxRef2Ideal.main_arg2)) (m' (c.tc.loc MlpCtxRef2Ideal.main_arg3)) (m' (c.tc.loc MlpCtxRef2Ideal.main_arg4)) b r d := by
  unfold out feature Mlp.hidden Mlp.norm
  pointwise [MlpCtxRef2Ideal.Value.res_main_v42]

/-- The context feed-forward call of layer 2, idealized, computes the reference's result. -/
theorem algebraic : Cert.algebraic_MlpCtx2Ideal_MlpCtxRef2Ideal (hMlpCtx2Ideal := Cert.MlpCtx2Ideal.Gen.facts) (hMlpCtxRef2Ideal := Cert.MlpCtxRef2Ideal.Gen.facts) := by
  pair_intro
  · run_from Cert.MlpCtx2Ideal.Value.run_blocks m g
  · run_from Cert.MlpCtxRef2Ideal.Value.run m' g'
    symm
    refine (dats m 0 c).arrAt_eq_of_covers 8 _ (by decide +kernel) fun t hf y => ?_
    blk_simp
    rw [after0_8, outsAt0]
    frame_out
    idx_vars y
    obtain rfl : y0 = 0 := Subsingleton.elim _ _
    refine (p_out _ _ _ _ _ _
      (MlpCtx0.acc (iblk m c 0 t) (iblk m c 1 t) (iblk m c 2 t) (iblk m c 3 t) (iblk m c 5 t) (iblk m c 6 t) y1 y2)).trans ?_
    have hr : ∀ i : S4x256x1024.Idx, MlpCtxRef2Ideal.Value.res_main_v42 m' c i = out (m (c.tc.loc main_arg0)) (m (c.tc.loc main_arg1))
        (m (c.tc.loc main_arg2)) (m (c.tc.loc main_arg3)) (m (c.tc.loc main_arg4)) (i 0) (i 1) (i 2) := fun i => by
      idx_vars i
      rw [ref]
      simp only [hagree c]
    rw [hr]
    unfold out
    blk_point [iblk, V, idx t]

end Cert.Proof.MlpCtx2
-- ==== Proof.InProjCtx0Value.lean ====
/- The input projection of the context stream in layer 0: the tiled kernel and the whole-array reference compute the same array. -/
module

public import proofs.«01_k».proof.Defs
public import proofs.«01_k».proof.Proof.Gen.InProjCtx0Ideal.Value
public import proofs.«01_k».proof.Proof.Gen.InProjCtxRef0Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.InProjCtx0

open Idealize.ShloMosaic Idealize.ShloMosaic.TcCoe Idealize.SL.Sem
open Cert.InProjCtx0Ideal Cert.InProjCtx0Ideal.Gen

/-- Where the blocks of a grid point lie: batch `t`, all its rows, layer 0's weights, and the
    modulation's shift and scale (parts 0 and 1) in the row of the context stream (4). -/
theorem idx : ∀ t : Fin cfg0.N, win0_0.index t = ![t.val, 0, 0] ∧ win0_1.index t = ![0, 0, 0]
    ∧ win0_2.index t = ![0, 4, 0, 0, 0] ∧ win0_3.index t = ![0, 4, 1, 0, 0]
    ∧ win0_4.index t = ![0, 0, 0] ∧ win0_5.index t = ![t.val, 0, 0] :=
  (by decide +kernel : ∀ t : Fin grid0.N, win0_0.index t = ![t.val, 0, 0] ∧ win0_1.index t = ![0, 0, 0]
    ∧ win0_2.index t = ![0, 4, 0, 0, 0] ∧ win0_3.index t = ![0, 4, 1, 0, 0]
    ∧ win0_4.index t = ![0, 0, 0] ∧ win0_5.index t = ![t.val, 0, 0])

/-- The context in-projection call of layer 0, idealized, computes the reference's result. -/
theorem algebraic : Cert.algebraic_InProjCtx0Ideal_InProjCtxRef0Ideal (hInProjCtx0Ideal := Cert.InProjCtx0Ideal.Gen.facts) (hInProjCtxRef0Ideal := Cert.InProjCtxRef0Ideal.Gen.facts) := by
  pair_intro
  · run_from Cert.InProjCtx0Ideal.Value.run_blocks m g
  · run_from Cert.InProjCtxRef0Ideal.Value.run m' g'
    symm
    refine (dats m 0 c).arrAt_eq_of_covers 5 _ (by decide +kernel) fun t hf y => ?_
    blk_simp
    rw [after0_5]
    frame_out
    idx_vars y
    pointwise [k0_pay1, k0_pay2]
    blk_point [iblk, V, idx t]

end Cert.Proof.InProjCtx0
-- ==== Proof.InProjCtx1Value.lean ====
/- The input projection of the context stream in layer 1: the tiled kernel and the whole-array reference compute the same array. -/
module

public import proofs.«01_k».proof.Defs
public import proofs.«01_k».proof.Proof.Gen.InProjCtx1Ideal.Value
public import proofs.«01_k».proof.Proof.Gen.InProjCtxRef1Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.InProjCtx1

open Idealize.ShloMosaic Idealize.ShloMosaic.TcCoe Idealize.SL.Sem
open Cert.InProjCtx1Ideal Cert.InProjCtx1Ideal.Gen

/-- Where the blocks of a grid point lie: batch `t`, all its rows, layer 1's weights, and the
    modulation's shift and scale (parts 0 and 1) in the row of the context stream (4). -/
theorem idx : ∀ t : Fin cfg0.N, win0_0.index t = ![t.val, 0, 0] ∧ win0_1.index t = ![1, 0, 0]
    ∧ win0_2.index t = ![1, 4, 0, 0, 0] ∧ win0_3.index t = ![1, 4, 1, 0, 0]
    ∧ win0_4.index t = ![1, 0, 0] ∧ win0_5.index t = ![t.val, 0, 0] :=
  (by decide +kernel : ∀ t : Fin grid0.N, win0_0.index t = ![t.val, 0, 0] ∧ win0_1.index t = ![1, 0, 0]
    ∧ win0_2.index t = ![1, 4, 0, 0, 0] ∧ win0_3.index t = ![1, 4, 1, 0, 0]
    ∧ win0_4.index t = ![1, 0, 0] ∧ win0_5.index t = ![t.val, 0, 0])

/-- The context in-projection call of layer 1, idealized, computes the reference's result. -/
theorem algebraic : Cert.algebraic_InProjCtx1Ideal_InProjCtxRef1Ideal (hInProjCtx1Ideal := Cert.InProjCtx1Ideal.Gen.facts) (hInProjCtxRef1Ideal := Cert.InProjCtxRef1Ideal.Gen.facts) := by
  pair_intro
  · run_from Cert.InProjCtx1Ideal.Value.run_blocks m g
  · run_from Cert.InProjCtxRef1Ideal.Value.run m' g'
    symm
    refine (dats m 0 c).arrAt_eq_of_covers 5 _ (by decide +kernel) fun t hf y => ?_
    blk_simp
    rw [after0_5]
    frame_out
    idx_vars y
    pointwise [k0_pay1, k0_pay2]
    blk_point [iblk, V, idx t]

end Cert.Proof.InProjCtx1
-- ==== Proof.InProjCtx2Value.lean ====
/- The input projection of the context stream in layer 2: the tiled kernel and the whole-array reference compute the same array. -/
module

public import proofs.«01_k».proof.Defs
public import proofs.«01_k».proof.Proof.Gen.InProjCtx2Ideal.Value
public import proofs.«01_k».proof.Proof.Gen.InProjCtxRef2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.InProjCtx2

open Idealize.ShloMosaic Idealize.ShloMosaic.TcCoe Idealize.SL.Sem
open Cert.InProjCtx2Ideal Cert.InProjCtx2Ideal.Gen

/-- Where the blocks of a grid point lie: batch `t`, all its rows, layer 2's weights, and the
    modulation's shift and scale (parts 0 and 1) in the row of the context stream (4). -/
theorem idx : ∀ t : Fin cfg0.N, win0_0.index t = ![t.val, 0, 0] ∧ win0_1.index t = ![2, 0, 0]
    ∧ win0_2.index t = ![2, 4, 0, 0, 0] ∧ win0_3.index t = ![2, 4, 1, 0, 0]
    ∧ win0_4.index t = ![2, 0, 0] ∧ win0_5.index t = ![t.val, 0, 0] :=
  (by decide +kernel : ∀ t : Fin grid0.N, win0_0.index t = ![t.val, 0, 0] ∧ win0_1.index t = ![2, 0, 0]
    ∧ win0_2.index t = ![2, 4, 0, 0, 0] ∧ win0_3.index t = ![2, 4, 1, 0, 0]
    ∧ win0_4.index t = ![2, 0, 0] ∧ win0_5.index t = ![t.val, 0, 0])

/-- The context in-projection call of layer 2, idealized, computes the reference's result. -/
theorem algebraic : Cert.algebraic_InProjCtx2Ideal_InProjCtxRef2Ideal (hInProjCtx2Ideal := Cert.InProjCtx2Ideal.Gen.facts) (hInProjCtxRef2Ideal := Cert.InProjCtxRef2Ideal.Gen.facts) := by
  pair_intro
  · run_from Cert.InProjCtx2Ideal.Value.run_blocks m g
  · run_from Cert.InProjCtxRef2Ideal.Value.run m' g'
    symm
    refine (dats m 0 c).arrAt_eq_of_covers 5 _ (by decide +kernel) fun t hf y => ?_
    blk_simp
    rw [after0_5]
    frame_out
    idx_vars y
    pointwise [k0_pay1, k0_pay2]
    blk_point [iblk, V, idx t]

end Cert.Proof.InProjCtx2
-- ==== Proof.InProjCtx3Value.lean ====
/- The input projection of the context stream in layer 3: the tiled kernel and the whole-array reference compute the same array. -/
module

public import proofs.«01_k».proof.Defs
public import proofs.«01_k».proof.Proof.Gen.InProjCtx3Ideal.Value
public import proofs.«01_k».proof.Proof.Gen.InProjCtxRef3Ideal.Run
public import Idealize.ShloMosaic.Lib.Pipeline.ValueKit
public import Idealize.ShloMosaic.Lib.Pointwise
public import Idealize.ShloMosaic.Lib.Claim

@[expose] public section

set_option maxRecDepth 16384

noncomputable section

namespace Cert.Proof.InProjCtx3

open Idealize.ShloMosaic Idealize.ShloMosaic.TcCoe Idealize.SL.Sem
open Cert.InProjCtx3Ideal Cert.InProjCtx3Ideal.Gen

/-- Where the blocks of a grid point lie: batch `t`, all its rows, layer 3's weights, and the
    modulation's shift and scale (parts 0 and 1) in the row of the context stream (4). -/
theorem idx : ∀ t : Fin cfg0.N, win0_0.index t = ![t.val, 0, 0] ∧ win0_1.index t = ![3, 0, 0]
    ∧ win0_2.index t = ![3, 4, 0, 0, 0] ∧ win0_3.index t = ![3, 4, 1, 0, 0]
    ∧ win0_4.index t = ![3, 0, 0] ∧ win0_5.index t = ![t.val, 0, 0] :=
  (by decide +kernel : ∀ t : Fin grid0.N, win0_0.index t = ![t.val, 0, 0] ∧ win0_1.index t = ![3, 0, 0]
    ∧ win0_2.index t = ![3, 4, 0, 0, 0] ∧ win0_3.index t = ![3, 4, 1, 0, 0]
    ∧ win0_4.index t = ![3, 0, 0] ∧ win0_5.index t = ![t.val, 0, 0])

/-- The context in-projection call of layer 3, idealized, computes the reference's result. -/
theorem algebraic : Cert.algebraic_InProjCtx3Ideal_InProjCtxRef3Ideal (hInProjCtx3Ideal := Cert.InProjCtx3Ideal.Gen.facts) (hInProjCtxRef3Ideal := Cert.InProjCtxRef3Ideal.Gen.facts) := by
  pair_intro
  · run_from Cert.InProjCtx3Ideal.Value.run_blocks m g
  · run_from Cert.InProjCtxRef3Ideal.Value.run m' g'
    symm
    refine (dats m 0 c).arrAt_eq_of_covers 5 _ (by decide +kernel) fun t hf y => ?_
    blk_simp
    rw [after0_5]
    frame_out
    idx_vars y
    pointwise [k0_pay1, k0_pay2]
    blk_point [iblk, V, idx t]

end Cert.Proof.InProjCtx3
-- ==== Proof.ModValue.lean ====
/- The modulation of every layer: the tiled kernel and the whole-array reference compute the same array. -/
module

public import proofs.«01_k».proof.Defs
public import proofs.«01_k».proof.Proof.Gen.ModIdeal.Value
public import proofs.«01_k».proof.Proof.Gen.ModRefIdeal.Run
public import Idealize.ShloMosaic.Lib.Pipeline.ValueKit
public import Idealize.ShloMosaic.Lib.Pointwise
public import Idealize.ShloMosaic.Lib.Claim
public import Idealize.ShloMosaic.Lib.Routing.OpsSet

@[expose] public section

set_option maxRecDepth 16384

noncomputable section

namespace Cert.Proof.Mod

open Idealize.ShloMosaic Idealize.ShloMosaic.TcCoe Idealize.SL.Sem
open Cert.ModIdeal Cert.ModIdeal.Gen

/-- Where the blocks of a grid point lie: layer `t / 4`, columns `1536 * (t % 4) ..`. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, win0_0.index t = ![0, 0] ∧ win0_1.index t = ![t.val / 4, 0, t.val % 4]
    ∧ win0_2.index t = ![t.val / 4, 0, t.val % 4] ∧ win0_3.index t = ![t.val / 4, 0, t.val % 4])

/-- Element `(r, k)` of the four rows set from row 0 lands at `(R, K)` when the places are the same. -/
theorem lands4 (idx : IVec S1 32) (h : idx (ix1 0) = 0#32) (r : Fin 4) (k : Fin 1024) (R : Fin 8) (K : Fin 1024) :
    scatter_S8x1024_S1_S4x1024_01_n_0_0.resultIdx? (ix2 r k) idx = some (ix2 R K) ↔ r.val = R.val ∧ k = K := by
  have w0 : scatter_S8x1024_S1_S4x1024_01_n_0_0.window (ix2 r k) 0 = r.val := rfl
  have w1 : scatter_S8x1024_S1_S4x1024_01_n_0_0.window (ix2 r k) 1 = k.val := rfl
  have s0 : scatter_S8x1024_S1_S4x1024_01_n_0_0.start (ix2 r k) idx 0 = 0 := by
    have e : scatter_S8x1024_S1_S4x1024_01_n_0_0.start (ix2 r k) idx 0 = (idx (ix1 0)).toInt := by
      unfold ScatterDims.start
      refine (dif_pos (show (0 : Fin 2) ∈ [0] from List.mem_singleton.2 rfl)).trans ?_
      exact congrArg (fun j => (idx j).toInt) (funext fun a => by fin_cases a; exact Subsingleton.elim (α := Fin 1) _ _)
    rw [e, h]; rfl
  have s1 : scatter_S8x1024_S1_S4x1024_01_n_0_0.start (ix2 r k) idx 1 = 0 := rfl
  refine (Routing.resultIdx?_ix2 _ _ _ _ _).trans ?_
  rw [s0, w0, s1, w1, Fin.ext_iff]
  omega

/-- Element `k` of the row set at row 4 lands at `(4, k)`. -/
theorem lands1 (idx : IVec S1 32) (h : idx (ix1 0) = 4#32) (k : Fin 1024) (R : Fin 8) (K : Fin 1024) :
    scatter_S8x1024_S1_S1024_0_0_0_0.resultIdx? (ix1 k) idx = some (ix2 R K) ↔ R.val = 4 ∧ k = K := by
  have w0 : scatter_S8x1024_S1_S1024_0_0_0_0.window (ix1 k) 0 = 0 := rfl
  have w1 : scatter_S8x1024_S1_S1024_0_0_0_0.window (ix1 k) 1 = k.val := rfl
  have s0 : scatter_S8x1024_S1_S1024_0_0_0_0.start (ix1 k) idx 0 = 4 := by
    have e : scatter_S8x1024_S1_S1024_0_0_0_0.start (ix1 k) idx 0 = (idx (ix1 0)).toInt := by
      unfold ScatterDims.start
      refine (dif_pos (show (0 : Fin 2) ∈ [0] from List.mem_singleton.2 rfl)).trans ?_
      exact congrArg (fun j => (idx j).toInt) (funext fun a => by fin_cases a; exact Subsingleton.elim (α := Fin 1) _ _)
    rw [e, h]; rfl
  have s1 : scatter_S8x1024_S1_S1024_0_0_0_0.start (ix1 k) idx 1 = 0 := rfl
  refine (Routing.resultIdx?_ix2 _ _ _ _ _).trans ?_
  rw [s0, w0, s1, w1, Fin.ext_iff]
  omega

/-- Four rows set from row 0 of an array, at an element. -/
theorem set4 (x0 : FVec Ideal S8x1024 .f32) (idx : IVec S1 32) (h : idx (ix1 0) = 0#32) (u : FVec Ideal S4x1024 .f32) (R : Fin 8) (K : Fin 1024) :
    Host.scatter scatter_S8x1024_S1_S4x1024_01_n_0_0 (fun _ b => b) x0 idx u (ix2 R K)
      = if hR : R.val < 4 then u (ix2 ⟨R.val, hR⟩ K) else x0 (ix2 R K) := by
  have hj : ∀ j : S4x1024.Idx, ∃ (r : Fin 4) (k : Fin 1024), j = ix2 r k := fun j => ⟨j 0, j 1, by funext a; fin_cases a <;> rfl⟩
  by_cases hR : R.val < 4
  · rw [dif_pos hR]
    refine Routing.scatter_set_hit _ _ _ _ _ _ (fun j e => ?_) (ix2 ⟨R.val, hR⟩ K) ((lands4 idx h _ _ R K).mpr ⟨rfl, rfl⟩)
    obtain ⟨r, k, rfl⟩ := hj j
    obtain ⟨e0, rfl⟩ := (lands4 idx h r k R K).mp e
    rw [show r = ⟨R.val, hR⟩ from Fin.ext e0]
  · rw [dif_neg hR]
    refine Routing.scatter_set_miss _ _ _ _ _ fun j e => hR ?_
    obtain ⟨r, k, rfl⟩ := hj j
    have e0 := ((lands4 idx h r k R K).mp e).1
    omega

/-- One row set at row 4 of an array, at an element. -/
theorem set1 (x0 : FVec Ideal S8x1024 .f32) (idx : IVec S1 32) (h : idx (ix1 0) = 4#32) (u : FVec Ideal S1024 .f32) (R : Fin 8) (K : Fin 1024) :
    Host.scatter scatter_S8x1024_S1_S1024_0_0_0_0 (fun _ b => b) x0 idx u (ix2 R K) = if R.val = 4 then u (ix1 K) else x0 (ix2 R K) := by
  have hj : ∀ j : S1024.Idx, ∃ k : Fin 1024, j = ix1 k := fun j => ⟨j 0, by funext a; fin_cases a; rfl⟩
  by_cases hR : R.val = 4
  · rw [if_pos hR]
    refine Routing.scatter_set_hit _ _ _ _ _ _ (fun j e => ?_) (ix1 K) ((lands1 idx h _ R K).mpr ⟨hR, rfl⟩)
    obtain ⟨k, rfl⟩ := hj j
    rw [((lands1 idx h k R K).mp e).2]
  · rw [if_neg hR]
    refine Routing.scatter_set_miss _ _ _ _ _ fun j e => hR ?_
    obtain ⟨k, rfl⟩ := hj j
    exact ((lands1 idx h k R K).mp e).1

variable (m : (ℓ : Loc nD τ sig) → Buf (Elt Ideal) ℓ) (c : Dev nD)

/-- The conditioning rows: rows 0 to 3 are `c`, row 4 is `c_ctx`, the rest zero. -/
def rows (x : Vec Ideal S4x1024 .f32) (y : Vec Ideal S1024 .f32) (r : Fin 8) (k : Fin 1024) : EReal :=
  if h : r.val < 4 then x (ix2 ⟨r.val, h⟩ k) else if r.val = 4 then y (ix1 k) else 0

/-- What the call finds in its first operand: the rows, set into an array of zeros. -/
theorem V_rows (r : Fin 8) (k : Fin 1024) :
    V m c main_v4 (ix2 r k) = rows (m (c.tc.loc main_arg0)) (m (c.tc.loc main_arg1)) r k := by
  unfold V
  after_reads_simp
  refine (set1 _ _ rfl _ r k).trans ?_
  unfold rows
  by_cases h4 : r.val = 4
  · rw [if_pos h4, dif_neg (by omega), if_pos h4]
  · rw [if_neg h4, set4 _ _ rfl]
    by_cases h : r.val < 4
    · rw [dif_pos h, dif_pos h]
    · rw [dif_neg h, dif_neg h, if_neg h4]
      exact Ideal.ofBits_zero .f32

/-- The rows as pieces one below the other. -/
theorem rows_eq (x : Vec Ideal S4x1024 .f32) (y : Vec Ideal S1024 .f32) (r : Fin 8) (k : Fin 1024) :
    rows x y r k = if h : r.val < 4 then x (ix2 ⟨r.val, h⟩ k) else if h : r.val - 4 < 1 then y (ix1 k) else 0 := by
  unfold rows
  by_cases h : r.val < 4
  · rw [dif_pos h, dif_pos h]
  · rw [dif_neg h, dif_neg h]
    by_cases h4 : r.val = 4
    · rw [if_pos h4, dif_pos (by omega)]
    · rw [if_neg h4, dif_neg (by omega)]

/-- The modulation call, idealized, computes the reference's result. -/
theorem algebraic : Cert.algebraic_ModIdeal_ModRefIdeal (hModIdeal := Cert.ModIdeal.Gen.facts) (hModRefIdeal := Cert.ModRefIdeal.Gen.facts) := by
  pair_intro
  · run_from Cert.ModIdeal.Value.run_blocks m g
  · run_from Cert.ModRefIdeal.Value.run m' g'
    symm
    refine (dats m 0 c).arrAt_eq_of_covers 3 _ (by decide +kernel) fun t hf y => ?_
    blk_simp
    rw [after0_3]
    frame_out
    idx_vars y
    have hx : ∀ k, iblk m c 0 t (ix2 y1 k) = rows (m (c.tc.loc main_arg0)) (m (c.tc.loc main_arg1)) y1 k := fun k => by
      rw [← V_rows]
      blk_point [iblk, idx t]
    pointwise [k0_pay1]
    have e1 : ((((View.whole main_v6).slice (win0_3.rect t)).emb (ix3 y0 y1 y2)) 1).val = y1.val := by
      blk_simp [idx t]
    simp only [hx, zero_sub, rows_eq, e1]
    blk_point [iblk, V, idx t]

end Cert.Proof.Mod
-- ==== Proof.PosValue.lean ====
/- The addition of the position table: the tiled kernel and the whole-array reference compute the same array. -/
module

public import proofs.«01_k».proof.Defs
public import proofs.«01_k».proof.Proof.Gen.PosIdeal.Value
public import proofs.«01_k».proof.Proof.Gen.PosRefIdeal.Run
public import Idealize.ShloMosaic.Lib.Pipeline.ValueKit
public import Idealize.ShloMosaic.Lib.Pointwise
public import Idealize.ShloMosaic.Lib.Claim
public import Idealize.ShloMosaic.Lib.Routing.OpsSet

@[expose] public section

set_option maxRecDepth 16384

noncomputable section

namespace Cert.Proof.Pos

open Idealize.ShloMosaic Idealize.ShloMosaic.TcCoe Idealize.SL.Sem
open Cert.PosIdeal Cert.PosIdeal.Gen

/-- Where the blocks of a grid point lie: sample `t / 8`, rows `512 * (t % 8) ..`; the whole table at every point. -/
theorem idx : ∀ t : Fin cfg0.N, win0_0.index t = ![t.val / 8, t.val % 8, 0] ∧ win0_1.index t = ![0, 0]
    ∧ win0_2.index t = ![t.val / 8, t.val % 8, 0] :=
  (by decide +kernel : ∀ t : Fin grid0.N, win0_0.index t = ![t.val / 8, t.val % 8, 0] ∧ win0_1.index t = ![0, 0]
    ∧ win0_2.index t = ![t.val / 8, t.val % 8, 0])

/-- The row of the table that a grid point reads for its `k`-th grid row. -/
theorem off (t : Fin cfg0.N) (k : Fin 8) : k0_off1 (grid0.coords t) (BitVec.ofNat 32 k.val) = ![t.val % 8 * 8 + k.val, 0] := by
  revert t k
  exact (by decide +kernel : ∀ (t : Fin grid0.N) (k : Fin 8), k0_off1 (grid0.coords t) (BitVec.ofNat 32 k.val) = ![t.val % 8 * 8 + k.val, 0])

/-- What a tile holds at an element: the input's, plus the table's row of the grid row left of the middle and of the grid column right of it. -/
theorem tile (e : Vec Ideal S64x512 .f32) (v : Fin 8 → Vec Ideal S1x512 .f32) (x : Vec Ideal S1x512x1024 .f32) (r : Fin 512) (q : Fin 1024) :
    k0_pay1 (k0_pay2 e) (k0_pay3 (v 0)) (k0_pay4 (v 1)) (k0_pay5 (v 2)) (k0_pay6 (v 3)) (k0_pay7 (v 4)) (k0_pay8 (v 5)) (k0_pay9 (v 6)) (v 7) x (ix3 0 r q)
      = x (ix3 0 r q) + if h : q.val < 512 then v ⟨r.val / 64, by omega⟩ (ix2 0 ⟨q.val, h⟩)
          else e (ix2 ⟨r.val % 64, by omega⟩ ⟨q.val - 512, by omega⟩) := by
  pointwise [k0_pay1, k0_pay2, k0_pay3, k0_pay4, k0_pay5, k0_pay6, k0_pay7, k0_pay8, k0_pay9]
  congr 1
  by_cases hq : q.val < 512
  · rw [dif_pos hq, dif_pos hq]
    split_ifs <;> exact congrArg (fun k => v k (ix2 0 ⟨q.val, hq⟩)) (Fin.ext (by dsimp only; omega))
  · rw [dif_neg hq, dif_neg hq]
    split_ifs <;> exact congrArg (fun k => e (ix2 k ⟨q.val - 512, by omega⟩)) (Fin.ext (by dsimp only; omega))

variable (m : (ℓ : Loc nD τ sig) → Buf (Elt Ideal) ℓ) (c : Dev nD)

/-- The addition of the position table, idealized, computes the reference's result. -/
theorem algebraic : Cert.algebraic_PosIdeal_PosRefIdeal (hPosIdeal := Cert.PosIdeal.Gen.facts) (hPosRefIdeal := Cert.PosRefIdeal.Gen.facts) := by
  pair_intro
  · run_from Cert.PosIdeal.Value.run_blocks m g
  · run_from Cert.PosRefIdeal.Value.run m' g'
    symm
    refine (dats m 0 c).arrAt_eq_of_covers 2 _ (by decide +kernel) fun t hf y => ?_
    blk_simp
    rw [after0_2, outsAt0]
    frame_out
    idx_vars y
    obtain rfl : y0 = 0 := Subsingleton.elim _ _
    refine (tile (iblk m c 1 t) (fun k => View.ld (iblk m c 1 t) (Rect.unit (k0_off1 (grid0.coords t) (BitVec.ofNat 32 k.val)) ![1, 512] (k0_off1_inb (grid0.coords t) k)))
      (iblk m c 0 t) y1 y2).trans ?_
    pointwise []
    have e1 : ((((View.whole main_v0).slice (win0_2.rect t)).emb (ix3 0 y1 y2)) 1).val = t.val % 8 * 512 + y1.val := by
      blk_simp [idx t]
    have e2 : ((((View.whole main_v0).slice (win0_2.rect t)).emb (ix3 0 y1 y2)) 2).val = y2.val := by
      blk_simp [idx t]
    have o0 : k0_off1 (grid0.coords t) (BitVec.ofNat 32 (y1.val / 64)) 0 = t.val % 8 * 8 + y1.val / 64 := congrFun (off t ⟨y1.val / 64, by omega⟩) 0
    have o1 : k0_off1 (grid0.coords t) (BitVec.ofNat 32 (y1.val / 64)) 1 = 0 := congrFun (off t ⟨y1.val / 64, by omega⟩) 1
    simp only [e1, e2, o0, o1]
    blk_point [iblk, V, idx t]

end Cert.Proof.Pos
-- ==== Proof.LruIdealRun.lean ====
/-
  The runs of the body of the forward recurrence call (the kernel read over the extended reals): the first tile of a sequence,
  which loads the carried row from the initial state, and the later tiles, which find it as the tile before left it.
-/
module

public import proofs.«01_k».proof.Proof.Gen.LruIdeal.Frame
public import proofs.«01_k».proof.Proof.Gen.LruIdeal.Skeleton
public import proofs.«01_k».proof.Proof.Gen.LruIdeal.Loops

@[expose] public section

-- the rectangles of the stores have long axes, which the membership check walks
set_option maxRecDepth 16384

noncomputable section

namespace Cert.Proof.LruIdealFrame

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The test the body makes on its second grid coordinate: is this the first tile of a sequence? -/
abbrev cond0_0 (i : grid0.Coords) : Prop := (Scalar.cmpi .ne (Scalar.extui (Scalar.cmpi .eq (BitVec.ofNat 32 (i 1).val) 0#32)) 0#32) = 1#1
/-- The test holds exactly at the points divisible by eight. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-! ## The kernel body on any staging memrefs: a subtype the run finds -/

/-- One staging buffer of output window 9; the contents of that window are stated through it. -/
abbrev VO0_9 : View sig .tc .vmem S1x512x256 .f32 := (Memref.whole cc0_stg9_0 : Memref sig .tc .vmem S1x512x256 .f32).view
/-- One staging buffer of output window 10; the contents of that window are stated through it. -/
abbrev VO0_10 : View sig .tc .vmem S1x512x512 .f32 := (Memref.whole cc0_stg10_0 : Memref sig .tc .vmem S1x512x512 .f32).view
/-- One staging buffer of output window 11; the contents of that window are stated through it. -/
abbrev VO0_11 : View sig .tc .vmem S1x1x256 .f32 := (Memref.whole cc0_stg11_0 : Memref sig .tc .vmem S1x1x256 .f32).view
/-- The staging buffer of each window at a point, and that it is a whole buffer. -/
abbrev ms0_0 (t : Fin cfg0.N) : Memref sig .tc .vmem S1x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x256 .f32 := win0_11.stage (cfg0.slots t 11)
abbrev hs0_11 (t : Fin cfg0.N) : (ms0_11 t).IsWhole := hstage0_11 ((cfg0.slots t 11).cast nbuf0_11)
/-- The four scratch buffers: the extended tile, the decay, the input and the carried row. -/
abbrev scM0_0 : Memref sig .tc .vmem S528x256 .f32 := Memref.whole cc0_scratch0
abbrev scM0_1 : Memref sig .tc .vmem S512x256 .f32 := Memref.whole cc0_scratch1
abbrev scM0_2 : Memref sig .tc .vmem S512x256 .f32 := Memref.whole cc0_scratch2
abbrev scM0_3 : Memref sig .tc .vmem S1x256 .f32 := Memref.whole cc0_scratch3
/-- The carried row, as a view. -/
abbrev VS0_3 : View sig .tc .vmem S1x256 .f32 := scM0_3.view

/-- The launch invariant spelled with the four scratch buffers, each at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 1000000 in
/-- One run of the body at the first tile of a sequence, on any whole buffers: the pieces it stores into the three
    outputs, into the carried row and into the extended tile, with the proof that the run ends with them written, the
    inputs as they were and the other scratch at some contents. -/
noncomputable def kernelRun0_A (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) :
    Σ' (L9 : List (View.Piece (Elt F) S1x512x256 .f32)), Σ' (L10 : List (View.Piece (Elt F) S1x512x512 .f32)), Σ' (L11 : List (View.Piece (Elt F) S1x1x256 .f32)), Σ' (LS3 : List (View.Piece (Elt F) S1x256 .f32)), { LT0 : List (View.Piece (Elt F) S528x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS3)) -∗ K ⟨⟩))
          ⊢ wp frame (wpE (defs₀ (F := F)) Variants.none c none) E (cc0_lru_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_lru_fwd_eq_skeleton]; unfold cc0_lru_fwd_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

set_option maxHeartbeats 1000000 in
/-- One run of the body at any other tile: as above, the carried row holding `xs3` at its start. -/
noncomputable def kernelRun0_B (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : ¬cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (xs3 : Vec F S1x256 .f32) :
    Σ' (L9 : List (View.Piece (Elt F) S1x512x256 .f32)), Σ' (L10 : List (View.Piece (Elt F) S1x512x512 .f32)), Σ' (L11 : List (View.Piece (Elt F) S1x1x256 .f32)), Σ' (LS3 : List (View.Piece (Elt F) S1x256 .f32)), { LT0 : List (View.Piece (Elt F) S528x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LT0) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS3)) -∗ K ⟨⟩))
          ⊢ wp frame (wpE (defs₀ (F := F)) Variants.none c none) E (cc0_lru_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_lru_fwd_eq_skeleton]; unfold cc0_lru_fwd_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg17.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

end Cert.Proof.LruIdealFrame

end
-- ==== Proof.LruIdealFrame.lean ====
/-
  The frame of the forward recurrence call (the kernel read over the extended reals): what its outputs and the carried row hold after
  each point, and the run of the whole call.
-/
module

public import proofs.«01_k».proof.Proof.LruIdealRun
public import Idealize.ShloMosaic.Lib.Claim

@[expose] public section

-- the rectangles of the stores have long axes, which the membership check walks
set_option maxRecDepth 16384

noncomputable section

namespace Cert.Proof.LruIdealFrame

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored into output 9 cover its block (first tile). -/
theorem cover0_A_9 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).1 S1x8x256.size (by sl_kernel_rfl) y

/-- What the first tile of a batch leaves in output 9's staging buffer: its stores read back. -/
def out0_A_9 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) : Vec F S1x512x256 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).1)

/-- The pieces stored into output 10 cover its block (first tile). -/
theorem cover0_A_10 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.1 S1x512x256.size (by sl_kernel_rfl) y

/-- What the first tile of a batch leaves in output 10's staging buffer: its stores read back. -/
def out0_A_10 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) : Vec F S1x512x512 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.1)

/-- The pieces stored into output 11 cover its block (first tile). -/
theorem cover0_A_11 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.1 S1x1x256.size (by sl_kernel_rfl) y

/-- What the first tile of a batch leaves in output 11's staging buffer: its stores read back. -/
def out0_A_11 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) : Vec F S1x1x256 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.1)

/-- The pieces stored into the carried row cover it (first tile). -/
theorem scover0_A_3 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (y : S1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.2.1 S1x256.size (by sl_kernel_rfl) y

/-- What the first tile of a batch leaves in scratch `arg17`: its stores read back. -/
def sout0_A_3 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) : Vec F S1x256 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.2.1)

/-- The pieces stored into output 9 cover its block (later tile). -/
theorem cover0_B_9 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : ¬cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (xs3 : Vec F S1x256 .f32) (y : S1x512x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).1 S1x8x256.size (by sl_kernel_rfl) y

/-- What a later tile leaves in output 9's staging buffer: its stores read back. -/
def out0_B_9 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : ¬cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (xs3 : Vec F S1x256 .f32) : Vec F S1x512x256 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).1)

/-- The pieces stored into output 10 cover its block (later tile). -/
theorem cover0_B_10 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : ¬cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (xs3 : Vec F S1x256 .f32) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).2.1 S1x512x256.size (by sl_kernel_rfl) y

/-- What a later tile leaves in output 10's staging buffer: its stores read back. -/
def out0_B_10 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : ¬cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (xs3 : Vec F S1x256 .f32) : Vec F S1x512x512 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).2.1)

/-- The pieces stored into output 11 cover its block (later tile). -/
theorem cover0_B_11 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : ¬cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (xs3 : Vec F S1x256 .f32) (y : S1x1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).2.2.1 S1x1x256.size (by sl_kernel_rfl) y

/-- What a later tile leaves in output 11's staging buffer: its stores read back. -/
def out0_B_11 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : ¬cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (xs3 : Vec F S1x256 .f32) : Vec F S1x1x256 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).2.2.1)

/-- The pieces stored into the carried row cover it (later tile). -/
theorem scover0_B_3 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : ¬cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (xs3 : Vec F S1x256 .f32) (y : S1x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).2.2.2.1 S1x256.size (by sl_kernel_rfl) y

/-- What a later tile leaves in scratch `arg17`: its stores read back. -/
def sout0_B_3 (c : Dev nD) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole) (hc0 : ¬cond0_0 i)
    (x0 : Vec F S1x512x256 .f32) (x1 : Vec F S1x8x256 .f32) (x2 : Vec F S1x8x256 .f32) (x3 : Vec F S1x4x256 .f32) (x4 : Vec F S1x1x256 .f32) (x5 : Vec F S1x256x1024 .bf16) (x6 : Vec F S1x1x1024 .f32) (x7 : Vec F S1x1x512 .f32) (x8 : Vec F S1x1x256 .f32) (xs3 : Vec F S1x256 .f32) : Vec F S1x256 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs3).2.2.2.1)

/-! ## What the outputs hold after each point -/

/-- What the three outputs and the carried row hold after each point, by recursion on the point: the first tile of a
    sequence starts afresh, a later tile starts from the row the point before left. -/
def outsAt0 (c : Dev nD) : (n : ℕ) → n < cfg0.N → Vec F S1x512x256 .f32 × Vec F S1x512x512 .f32 × Vec F S1x1x256 .f32 × Vec F S1x256 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 8 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2)

/-- `outsAt0` at the first tile of a sequence. -/
theorem outsAt0_A (c : Dev nD) (t : Fin cfg0.N) (h0 : t.val % 8 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- `outsAt0` at a later tile, over what the point before left. -/
theorem outsAt0_B (c : Dev nD) (t : Fin cfg0.N) (h0 : ¬t.val % 8 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The invariant before each point: at the start every scratch holds anything; afterwards the carried row holds what
    the point before left, the other scratch anything. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).2.2.2)) ∗ (∃ r, prngReg c r)) := by
  cases n with
  | zero => exact absurd rfl hz
  | succ n => rfl

/-! ## The pipeline's proof data -/

/-- The data of the pipeline: arrays as the call finds them, inputs left in place, outputs at `outsAt0`, the invariant
    `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
  Φ t := PhiS m c t.val (Nat.le_of_lt_succ t.isLt)
  q w := Pipeline.shareOf spec0 w
  owed _ := 0

/-- The arrays of the data are those the call finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 12800000 in
/-- The body at any point takes the invariant and the windows before it to those after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases hz : t.val = 0
    · rw [PhiS_castSucc m c t, PhiS_zero m c _ _ hz, PhiA0_eq]
      rw [outsAt0_A m c t h0]
      unfold out0_A_9 out0_A_10 out0_A_11 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, ⟨%e9, H9⟩, ⟨%e10, H10⟩, ⟨%e11, H11⟩, ⟨%fT0, HS0⟩, HS1, HS2, ⟨%es3, HS3⟩⟩
      isplitl [HS0 HS1 HS2 HS3 Hg]
      · isplitl [HS0 HS1 HS2 HS3]
        · isplitl [HS0]
          · iexists _; unfold owns; iexists _; isplitr
            swap; · iexact HS0
            ipureintro; rfl
          isplitl [HS1]
          · iexact HS1
          isplitl [HS2]
          · iexact HS2
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_9 out0_A_10 out0_A_11 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      isplitl [HS3]; · iexists _; iexact HS3
      iintro ⟨H0, H1, H2, H3, H4, H5, H6, H7, H8, ⟨%e9, H9⟩, ⟨%e10, H10⟩, ⟨%e11, H11⟩, ⟨%fT0, HS0⟩, HS1, HS2, ⟨%es3, HS3⟩⟩
      isplitl [HS0 HS1 HS2 HS3 Hg]
      · isplitl [HS0 HS1 HS2 HS3]
        · isplitl [HS0]
          · iexists _; unfold owns; iexists _; isplitr
            swap; · iexact HS0
            ipureintro; rfl
          isplitl [HS1]
          · iexact HS1
          isplitl [HS2]
          · iexact HS2
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _ _ _ _ _)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_9 out0_B_10 out0_B_11 sout0_B_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, ⟨%e9, H9⟩, ⟨%e10, H10⟩, ⟨%e11, H11⟩, ⟨%fT0, HS0⟩, HS1, HS2, ⟨%es3, HS3⟩⟩
      isplitl [HS0 HS1 HS2 HS3 Hg]
      · isplitl [HS0 HS1 HS2 HS3]
        · isplitl [HS0]
          · iexists _; unfold owns; iexists _; isplitr
            swap; · iexact HS0
            ipureintro; rfl
          isplitl [HS1]
          · iexact HS1
          isplitl [HS2]
          · iexact HS2
          unfold owns; iexists _; isplitr
          swap; · iexact HS3
          ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The obligation of the launch for the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- The launch ends with every array as the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch ends with every array as the data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The call ends, its arguments unchanged and every counter at zero, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Proof.LruIdealFrame

end
-- ==== Proof.LruMath.lean ====
/- The recurrence's arithmetic over the extended reals: the gate functions, the step's coefficients, and the scan of a
   group of eight rows by doubling. -/
module

public import Idealize.ShloMosaic.PureOps.Ideal
public import Mathlib.Analysis.SpecialFunctions.Trigonometric.DerivHyp

@[expose] public section

noncomputable section

namespace Cert.Proof.LruMath

open Idealize.ShloMosaic

/-- The constant minus eight. -/
theorem bits_neg_eight : Ideal.ofBits .f32 0xC1000000#32 = ((-8 : ℝ) : EReal) := by
  simp [Ideal.ofBits, Ideal.ieee, -EReal.coe_mul, -EReal.coe_neg]; norm_num

/-- The constant minus two. -/
theorem bits_neg_two : Ideal.ofBits .f32 0xC0000000#32 = ((-2 : ℝ) : EReal) := by
  simp [Ideal.ofBits, Ideal.ieee, -EReal.coe_mul, -EReal.coe_neg]; norm_num

/-- The constant two. -/
theorem bits_two : Ideal.ofBits .f32 0x40000000#32 = ((2 : ℝ) : EReal) := by
  simp [Ideal.ofBits, Ideal.ieee, -EReal.coe_mul, -EReal.coe_neg]; norm_num

/-- The logistic function, `1 / (1 + e^(-x))`. -/
def sigm (x : EReal) : EReal := Ideal.div 1 (1 + Ideal.exp (-x))

/-- `log (1 + e^x)`, as `max x 0 + log (1 + e^(-|x|))`. -/
def softp (x : EReal) : EReal := max x 0 + Ideal.log1p (Ideal.exp (-(max x (-x))))

theorem exp_nonneg (x : EReal) : 0 ≤ Ideal.exp x := by
  induction x with
  | bot => simp
  | top => simp
  | coe r => rw [Ideal.exp_coe]; exact_mod_cast (Real.exp_pos r).le

theorem exp_ne_top {x : EReal} (h : x ≤ 0) : Ideal.exp x ≠ ⊤ := by
  induction x with
  | bot => simp
  | top => simp at h
  | coe r => rw [Ideal.exp_coe]; exact EReal.coe_ne_top _

theorem sigm_nonneg (x : EReal) : 0 ≤ sigm x := by
  have h : (1 : EReal) ≤ 1 + Ideal.exp (-x) := le_add_of_nonneg_right (exp_nonneg _)
  have h0 : (1 : EReal) + Ideal.exp (-x) ≠ 0 := (lt_of_lt_of_le one_pos h).ne'
  rw [sigm, Ideal.div, if_neg h0, one_mul]
  exact EReal.inv_nonneg_of_nonneg (zero_le_one.trans h)

theorem log1p_nonneg {x : EReal} (h : 0 ≤ x) : 0 ≤ Ideal.log1p x := by
  unfold Ideal.log1p
  induction x with
  | bot => simp at h
  | top => rw [show (1 : EReal) + ⊤ = ⊤ from rfl]; exact le_top
  | coe r =>
    have hr : (0 : ℝ) ≤ r := by exact_mod_cast h
    rw [show (1 : EReal) + (r : EReal) = ((1 + r : ℝ) : EReal) by push_cast; rfl]
    show (0 : EReal) ≤ (if 1 + r ≤ 0 then ⊥ else (Real.log (1 + r) : EReal))
    rw [if_neg (by linarith)]
    exact_mod_cast Real.log_nonneg (by linarith)

theorem softp_nonneg (x : EReal) : 0 ≤ softp x :=
  add_nonneg (le_max_right _ _) (log1p_nonneg (exp_nonneg _))

/-- The logarithm of the decay: `-8 * r * softplus (-lambda)`, from the gate and the parameter. -/
def logA (g lam : EReal) : EReal := ((-8 : ℝ) : EReal) * sigm g * softp (-lam)

theorem logA_nonpos (g lam : EReal) : logA g lam ≤ 0 := by
  have h1 : ((-8 : ℝ) : EReal) * sigm g ≤ 0 :=
    EReal.mul_nonpos_iff.mpr (.inr ⟨by exact_mod_cast (by norm_num : (-8 : ℝ) ≤ 0), sigm_nonneg g⟩)
  exact EReal.mul_nonpos_iff.mpr (.inr ⟨h1, softp_nonneg _⟩)

/-- The decay. -/
def decay (g lam : EReal) : EReal := Ideal.exp (logA g lam)

/-- What a step adds: `sqrt (1 - e^(2 log a)) * (i * x)`. -/
def drive (g lam gi x : EReal) : EReal :=
  Ideal.sqrt (-(Ideal.exp (((2 : ℝ) : EReal) * logA g lam) - 1)) * (sigm gi * x)

theorem decay_nonneg (g lam : EReal) : 0 ≤ decay g lam := exp_nonneg _
theorem decay_ne_top (g lam : EReal) : decay g lam ≠ ⊤ := exp_ne_top (logA_nonpos g lam)

/-- `-2 t / (1 - t)` at `t = tanh x` is `1 - e^(2x)`, for `x ≤ 0`. -/
theorem tanh_ratio {x : EReal} (h : x ≤ 0) :
    Ideal.div (((-2 : ℝ) : EReal) * Ideal.tanh x) (1 - Ideal.tanh x) = -(Ideal.exp (((2 : ℝ) : EReal) * x) - 1) := by
  induction x with
  | top => simp at h
  | bot =>
    rw [Ideal.tanh_bot, EReal.coe_mul_bot_of_pos (by norm_num), Ideal.exp_bot]
    have e1 : (1 : EReal) - -1 = ((2 : ℝ) : EReal) := by
      rw [show (1 : EReal) - -1 = (((1 : ℝ) - -1 : ℝ) : EReal) by push_cast; rfl]; norm_num
    have e2 : ((-2 : ℝ) : EReal) * -1 = ((2 : ℝ) : EReal) := by
      rw [show ((-2 : ℝ) : EReal) * -1 = (((-2 : ℝ) * -1 : ℝ) : EReal) by push_cast; rfl]; norm_num
    rw [e1, e2, Ideal.div_coe (by norm_num), ← EReal.coe_mul]
    rw [show -((0 : EReal) - 1) = ((-(0 - 1) : ℝ) : EReal) by push_cast; rfl]
    norm_num
  | coe r =>
    rw [Ideal.tanh_coe, ← EReal.coe_mul, ← EReal.coe_mul, Ideal.exp_coe]
    have hp : 0 < Real.exp (2 * r) := Real.exp_pos _
    have ht : Real.tanh r = (Real.exp (2 * r) - 1) / (Real.exp (2 * r) + 1) := by
      have he : Real.exp (2 * r) = Real.exp r * Real.exp r := by rw [← Real.exp_add]; ring_nf
      have hr := Real.exp_pos r
      rw [Real.tanh_eq_sinh_div_cosh, Real.sinh_eq, Real.cosh_eq, Real.exp_neg, he]
      field_simp
    have e1 : (1 : EReal) - (Real.tanh r : EReal) = ((1 - Real.tanh r : ℝ) : EReal) := by push_cast; rfl
    have e2 : 1 - Real.tanh r = 2 / (Real.exp (2 * r) + 1) := by rw [ht]; field_simp; ring
    rw [e1, Ideal.div_coe (by rw [e2]; positivity), ← EReal.coe_mul]
    rw [show -((Real.exp (2 * r) : EReal) - 1) = ((-(Real.exp (2 * r) - 1) : ℝ) : EReal) by push_cast; rfl]
    rw [e2, ht]
    congr 1
    field_simp

/-- The state after `n` steps of `h ← a h + b`. -/
def hseq (a b : ℕ → EReal) (h0 : EReal) : ℕ → EReal
  | 0 => h0
  | n + 1 => a n * hseq a b h0 n + b n

/-- Steps in two stretches: `k` steps, then `n` more from the state they reach. -/
theorem hseq_add (a b : ℕ → EReal) (h0 : EReal) (k : ℕ) : ∀ n,
    hseq a b h0 (k + n) = hseq (fun i => a (k + i)) (fun i => b (k + i)) (hseq a b h0 k) n
  | 0 => rfl
  | n + 1 => by
    show a (k + n) * hseq a b h0 (k + n) + b (k + n) = _
    rw [hseq_add a b h0 k n]
    rfl

/-- The states depend only on the coefficients of the steps made. -/
theorem hseq_congr {a a' b b' : ℕ → EReal} (h0 : EReal) : ∀ {n : ℕ}, (∀ i < n, a i = a' i ∧ b i = b' i) →
    hseq a b h0 n = hseq a' b' h0 n
  | 0, _ => rfl
  | n + 1, h => by
    show a n * hseq a b h0 n + b n = a' n * hseq a' b' h0 n + b' n
    rw [hseq_congr h0 (n := n) (fun i hi => h i (Nat.lt_succ_of_lt hi)), (h n (Nat.lt_succ_self n)).1,
      (h n (Nat.lt_succ_self n)).2]

/-- Rows moved down by `s`, the rows that become free at `z`. -/
def down (s : ℕ) (z : EReal) (f : Fin 8 → EReal) (r : Fin 8) : EReal :=
  if s ≤ r.val then f ⟨r.val - s, by omega⟩ else z

/-- The offsets after one doubling. -/
def dblB (s : ℕ) (a b : Fin 8 → EReal) (r : Fin 8) : EReal := b r + a r * down s 0 b r

/-- The factors after one doubling. -/
def dblA (s : ℕ) (a : Fin 8 → EReal) (r : Fin 8) : EReal := a r * down s 1 a r

/-- The group's states by three doublings and the state before the group. -/
def grp (a b : Fin 8 → EReal) (c : EReal) (r : Fin 8) : EReal :=
  dblB 4 (dblA 2 (dblA 1 a)) (dblB 2 (dblA 1 a) (dblB 1 a b)) r + dblA 4 (dblA 2 (dblA 1 a)) r * c

/-- Three doublings give the states the eight steps give, for factors that are nonnegative and finite. -/
theorem grp_eq (a b : ℕ → EReal) (c : EReal) (ha : ∀ n, 0 ≤ a n ∧ a n ≠ ⊤) (r : Fin 8) :
    grp (fun r => a r.val) (fun r => b r.val) c r = hseq a b c (r.val + 1) := by
  have hd : ∀ n (x y : EReal), a n * (x + y) = a n * x + a n * y := fun n x y =>
    EReal.left_distrib_of_nonneg_of_ne_top (ha n).1 (ha n).2 x y
  fin_cases r <;>
  · simp only [grp, dblA, dblB, down, hseq]
    norm_num [mul_assoc, hd]
    try abel

end Cert.Proof.LruMath

end
-- ==== Proof.LruSpec.lean ====
/- The last layer's recurrence as a function of the call's arguments, element by element. -/
module

public import proofs.«01_k».proof.Proof.Gen.LruIdeal.Skeleton
public import proofs.«01_k».proof.Proof.LruMath
public import Idealize.ShloMosaic.Lib.Pointwise

@[expose] public section

noncomputable section

namespace Cert.Proof.LruSpec

open Idealize.ShloMosaic Idealize.ShloMosaic.TcCoe
open Cert.LruIdeal
open Cert.Proof.LruMath

/-- The arguments of the call: the projected rows, the convolution's weights and bias, the weights and biases of the
    two gates, the decay parameter and the first state. -/
structure Args where
  px : Vec Ideal S4x4096x1792 .f32
  cw : Vec Ideal S4x4x256 .f32
  cb : Vec Ideal S4x256 .f32
  wa : Vec Ideal S4x2x4x64x64 .f32
  ba : Vec Ideal S4x2x256 .f32
  wx : Vec Ideal S4x2x4x64x64 .f32
  bx : Vec Ideal S4x2x256 .f32
  lam : Vec Ideal S4x2x256 .f32
  h0 : Vec Ideal S4x1x256 .f32

variable (A : Args)

/-- Row `n` of a sequence with two rows of zeros before it and zeros after it. -/
def tap (b : Fin 4) (d : Fin 256) (n : ℕ) : EReal :=
  if h : 2 ≤ n ∧ n < 4098 then A.px (ix3 b ⟨n - 2, by omega⟩ ⟨d.val, by omega⟩) else 0

/-- The convolution over four neighbouring rows. -/
def conv (b : Fin 4) (t : ℕ) (d : Fin 256) : EReal :=
  A.cb (ix2 3 d) + A.cw (ix3 3 0 d) * tap A b d t + A.cw (ix3 3 1 d) * tap A b d (t + 1)
    + A.cw (ix3 3 2 d) * tap A b d (t + 2) + A.cw (ix3 3 3 d) * tap A b d (t + 3)

/-- A gate before the logistic function: a block of 64 features against the block's weights, and the bias. -/
def pre (w : Vec Ideal S4x2x4x64x64 .f32) (bias : Vec Ideal S4x2x256 .f32) (dir : Fin 2) (row : Fin 256 → EReal) (d : Fin 256) : EReal :=
  (∑ k : Fin 64, row ⟨64 * (d.val / 64) + k.val, by omega⟩ * w (ix5 3 dir ⟨d.val / 64, by omega⟩ k ⟨d.val % 64, by omega⟩))
    + bias (ix3 3 dir d)

/-- The decay of step `t`. -/
def ca (dir : Fin 2) (b : Fin 4) (d : Fin 256) (t : ℕ) : EReal :=
  decay (pre A.wa A.ba dir (conv A b t) d) (A.lam (ix3 3 dir d))

/-- What step `t` adds. -/
def cb (dir : Fin 2) (b : Fin 4) (d : Fin 256) (t : ℕ) : EReal :=
  drive (pre A.wa A.ba dir (conv A b t) d) (A.lam (ix3 3 dir d)) (pre A.wx A.bx dir (conv A b t) d) (conv A b t d)

/-- The forward state after `n` steps. -/
def state (b : Fin 4) (d : Fin 256) (n : ℕ) : EReal := hseq (ca A 0 b d) (cb A 0 b d) (A.h0 (ix3 b 0 d)) n

/-- The backward coefficients, the decays before the additions. -/
def coef (b : Fin 4) (t : ℕ) (n : Fin 512) : EReal :=
  if h : n.val < 256 then ca A 1 b ⟨n.val, h⟩ t else cb A 1 b ⟨n.val - 256, by omega⟩ t

end Cert.Proof.LruSpec

end
-- ==== Proof.LruHost.lean ====
/- The operands the host prepares for the recurrence call, element by element: the joined gate weights and biases, the
   decay parameters and the convolution's bias. -/
module

public import proofs.«01_k».proof.Proof.LruIdealFrame
public import proofs.«01_k».proof.Proof.LruSpec
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Proof.LruHost

open Idealize.ShloMosaic Idealize.ShloMosaic.TcCoe Idealize.SL.Sem
open Cert.LruIdeal Cert.LruIdeal.Gen
open Cert.Proof.LruSpec

variable (m : (ℓ : Loc nD τ sig) → Buf (Elt Ideal) ℓ) (c : Dev nD)

/-- The call's arguments as launched. -/
def args : Args where
  px := m ((c : Thread nD τ).loc main_arg0)
  cw := m ((c : Thread nD τ).loc main_arg1)
  cb := m ((c : Thread nD τ).loc main_arg2)
  wa := m ((c : Thread nD τ).loc main_arg3)
  ba := m ((c : Thread nD τ).loc main_arg4)
  wx := m ((c : Thread nD τ).loc main_arg5)
  bx := m ((c : Thread nD τ).loc main_arg6)
  lam := m ((c : Thread nD τ).loc main_arg7)
  h0 := m ((c : Thread nD τ).loc main_arg8)

/-- The gate weights laid out as a block-diagonal matrix: zero off the blocks. -/
def diag (w : Vec Ideal S4x2x4x64x64 .f32) (dir : Fin 2) (k d : Fin 256) : EReal :=
  w (ix5 3 dir ⟨k.val / 64, by omega⟩ ⟨k.val % 64, by omega⟩ ⟨d.val % 64, by omega⟩) * if k.val / 64 = d.val / 64 then 1 else 0

/-- A row against a column of the block-diagonal matrix is the row's block against the block's column. -/
theorem diag_sum (w : Vec Ideal S4x2x4x64x64 .f32) (dir : Fin 2) (row : Fin 256 → EReal) (d : Fin 256) :
    ∑ k, row k * diag w dir k d
      = ∑ k : Fin 64, row ⟨64 * (d.val / 64) + k.val, by omega⟩ * w (ix5 3 dir ⟨d.val / 64, by omega⟩ k ⟨d.val % 64, by omega⟩) := by
  rw [Fin.sum_univ_tiles 4 64 rfl, Finset.sum_eq_single ⟨d.val / 64, by omega⟩]
  · refine Finset.sum_congr rfl fun k _ => ?_
    have h1 : (64 * (d.val / 64) + k.val) / 64 = d.val / 64 := by omega
    have h2 : (64 * (d.val / 64) + k.val) % 64 = k.val := by omega
    have h3 : d.val / 64 * 64 + k.val = 64 * (d.val / 64) + k.val := by omega
    simp only [diag, h1, h2, if_true, mul_one, h3]
  · intro j _ hj
    refine Finset.sum_eq_zero fun k _ => ?_
    have h1 : (j.val * 64 + k.val) / 64 = j.val := by omega
    have h2 : j.val ≠ d.val / 64 := fun h => hj (Fin.ext h)
    simp only [diag, h1, h2, if_false, mul_zero]
  · exact fun h => absurd (Finset.mem_univ _) h

/-- The comparison of two block numbers, as a bit. -/
theorem same_bit : ∀ a b : Fin 4, IntOp.cmpi .eq (IntOp.addi (BitVec.ofNat 32 a.val) 0#32) (BitVec.ofNat 32 b.val) = BitVec.ofBool (decide (a.val = b.val)) := by
  decide

/-- The comparison of two block numbers, as a number. -/
theorem same (a b : Fin 4) : FloatOps.uitofp (F := Ideal) .f32 (IntOp.cmpi .eq (IntOp.addi (BitVec.ofNat 32 a.val) 0#32) (BitVec.ofNat 32 b.val))
    = if a.val = b.val then (1 : EReal) else 0 := by
  rw [same_bit]
  by_cases h : a.val = b.val
  · simp only [h, decide_true, BitVec.ofBool_true, if_true]
    show (((1#1).toNat : ℝ) : EReal) = 1
    simp
  · simp only [h, decide_false, BitVec.ofBool_false, if_false]
    show (((0#1).toNat : ℝ) : EReal) = 0
    simp

/-- The convolution's bias. -/
theorem v47 (d : Fin 256) : V m c main_v47 (ix3 3 0 d) = (args m c).cb (ix2 3 d) := by
  unfold V args
  after_reads_simp
  pointwise []

/-- The decay parameters of the forward direction. -/
theorem v46_f (d : Fin 256) : V m c main_v46 (ix3 3 0 ⟨d.val, by omega⟩) = (args m c).lam (ix3 3 0 d) := by
  unfold V args
  after_reads_simp
  pointwise []
  have h1 : d.val / 256 = 0 := by omega
  have h2 : d.val % 256 = d.val := by omega
  simp only [h1, h2]
  rfl

/-- The decay parameters of the backward direction. -/
theorem v46_b (d : Fin 256) : V m c main_v46 (ix3 3 0 ⟨256 + d.val, by omega⟩) = (args m c).lam (ix3 3 1 d) := by
  unfold V args
  after_reads_simp
  pointwise []
  have h1 : (256 + d.val) / 256 = 1 := by omega
  simp only [h1]
  rfl

/-- The joined biases at the forward decay gate. -/
theorem v45_rf (d : Fin 256) : V m c main_v45 (ix3 3 0 ⟨d.val, by omega⟩) = (args m c).ba (ix3 3 0 d) := by
  unfold V args
  after_reads_simp
  pointwise []
  after_reads_simp
  pointwise []

/-- The joined weights at the forward decay gate. -/
theorem v35_rf (k d : Fin 256) : V m c main_v35 (ix3 3 k ⟨d.val, by omega⟩) = diag (args m c).wa 0 k d := by
  unfold V args diag
  after_reads_simp
  pointwise []
  after_reads_simp
  pointwise []
  exact congrArg _ (same ⟨k.val / 64, by omega⟩ ⟨d.val / 64, by omega⟩)

/-- The joined biases at the forward input gate. -/
theorem v45_if (d : Fin 256) : V m c main_v45 (ix3 3 0 ⟨256 + d.val, by omega⟩) = (args m c).bx (ix3 3 0 d) := by
  unfold V args
  after_reads_simp
  pointwise []
  after_reads_simp
  pointwise []

/-- The joined weights at the forward input gate. -/
theorem v35_if (k d : Fin 256) : V m c main_v35 (ix3 3 k ⟨256 + d.val, by omega⟩) = diag (args m c).wx 0 k d := by
  unfold V args diag
  after_reads_simp
  pointwise []
  after_reads_simp
  pointwise []
  exact congrArg _ (same ⟨k.val / 64, by omega⟩ ⟨d.val / 64, by omega⟩)

/-- The joined biases at the backward decay gate. -/
theorem v45_rb (d : Fin 256) : V m c main_v45 (ix3 3 0 ⟨512 + d.val, by omega⟩) = (args m c).ba (ix3 3 1 d) := by
  unfold V args
  after_reads_simp
  pointwise []
  after_reads_simp
  pointwise []
  rw [dif_neg (by omega), dif_neg (by omega), dif_pos (by omega)]
  simp only [show 512 + d.val - 256 - 256 = d.val by omega]

/-- The joined weights at the backward decay gate. -/
theorem v35_rb (k d : Fin 256) : V m c main_v35 (ix3 3 k ⟨512 + d.val, by omega⟩) = diag (args m c).wa 1 k d := by
  unfold V args diag
  after_reads_simp
  pointwise []
  after_reads_simp
  pointwise []
  rw [dif_neg (by omega), dif_neg (by omega), dif_pos (by omega)]
  simp only [show 512 + d.val - 256 - 256 = d.val by omega]
  exact congrArg _ (same ⟨k.val / 64, by omega⟩ ⟨d.val / 64, by omega⟩)

/-- The joined biases at the backward input gate. -/
theorem v45_ib (d : Fin 256) : V m c main_v45 (ix3 3 0 ⟨768 + d.val, by omega⟩) = (args m c).bx (ix3 3 1 d) := by
  unfold V args
  after_reads_simp
  pointwise []
  after_reads_simp
  pointwise []
  rw [dif_neg (by omega), dif_neg (by omega), dif_neg (by omega)]
  simp only [show 768 + d.val - 256 - 256 - 256 = d.val by omega]

/-- The joined weights at the backward input gate. -/
theorem v35_ib (k d : Fin 256) : V m c main_v35 (ix3 3 k ⟨768 + d.val, by omega⟩) = diag (args m c).wx 1 k d := by
  unfold V args diag
  after_reads_simp
  pointwise []
  after_reads_simp
  pointwise []
  rw [dif_neg (by omega), dif_neg (by omega), dif_neg (by omega)]
  simp only [show 768 + d.val - 256 - 256 - 256 = d.val by omega]
  exact congrArg _ (same ⟨k.val / 64, by omega⟩ ⟨d.val / 64, by omega⟩)

end Cert.Proof.LruHost

end
-- ==== Proof.LruTile.lean ====
/- What the recurrence kernel stores, element by element. -/
module

public import proofs.«01_k».proof.Proof.Gen.LruIdeal.Skeleton
public import proofs.«01_k».proof.Proof.LruMath
public import Idealize.ShloMosaic.Lib.Pipeline.ValueKit
public import Idealize.ShloMosaic.Lib.Pointwise
public import Idealize.ShloMosaic.Lib.Claim

@[expose] public section

set_option maxRecDepth 16384

noncomputable section
namespace Cert.Proof.LruTile

open Idealize.ShloMosaic Idealize.ShloMosaic.TcCoe Idealize.SL.Sem
open Cert.LruIdeal Cert.LruIdeal.Gen
open Cert.Proof.LruMath

/-- The convolution of a tile's rows: the bias and the four taps. -/
theorem p13 (v24 w0 w1 w2 w3 : Vec Ideal S1x1x256 .f32) (e0 e1 e2 e3 : Vec Ideal S512x256 .f32) (r : Fin 512) (d : Fin 256) :
    k0_pay13 (k0_pay12 v24) w0 e0 w1 e1 w2 e2 w3 e3 (ix2 r d)
      = v24 (ix3 0 0 d) + w0 (ix3 0 0 d) * e0 (ix2 r d) + w1 (ix3 0 0 d) * e1 (ix2 r d) + w2 (ix3 0 0 d) * e2 (ix2 r d) + w3 (ix3 0 0 d) * e3 (ix2 r d) := by
  pointwise [k0_pay13, k0_pay12]

/-- The gates before the logistic function: the product with the joined weights, and the bias. -/
theorem p14 v27 w0 e0 w1 e1 w2 e2 w3 e3 (wg : Vec Ideal S1x256x1024 .bf16) (bg : Vec Ideal S1x1x1024 .f32) (r : Fin 512) (n : Fin 1024) :
    k0_pay14 v27 w0 e0 w1 e1 w2 e2 w3 e3 wg bg (ix2 r n)
      = (∑ k, k0_pay13 v27 w0 e0 w1 e1 w2 e2 w3 e3 (ix2 r k) * wg (ix3 0 k n)) + bg (ix3 0 0 n) := by
  pointwise [k0_pay14]

/-- The absolute value is the larger of the number and its negative. -/
theorem absf_def (x : EReal) : FloatOps.absf (F := Ideal) (φ := .f32) x = max x (-x) := rfl

/-- The factor `-8 * softplus (-lambda)` of the log decay. -/
theorem p15 (lam : Vec Ideal S1x1x512 .f32) (d : Fin 512) : k0_pay15 lam (ix2 0 d) = ((-8 : ℝ) : EReal) * softp (-lam (ix3 0 0 d)) := by
  pointwise [k0_pay15]
  rw [bits_neg_eight, absf_def, softp]
  simp only [zero_sub]

/-- The forward log decay. -/
theorem p16 (g : FVec Ideal S512x1024 .f32) (lam : Vec Ideal S1x1x512 .f32) (r : Fin 512) (d : Fin 256) :
    k0_pay16 g lam (ix2 r d) = logA (g (ix2 r ⟨d.val, by omega⟩)) (lam (ix3 0 0 ⟨d.val, by omega⟩)) := by
  pointwise [k0_pay16]
  rw [p15, logA, sigm, zero_sub, mul_right_comm]

/-- The forward decay, as stored for the scan. -/
theorem p18 (g : FVec Ideal S512x1024 .f32) (lam : Vec Ideal S1x1x512 .f32) (r : Fin 512) (d : Fin 256) :
    k0_pay18 g lam (ix2 r d) = decay (g (ix2 r ⟨d.val, by omega⟩)) (lam (ix3 0 0 ⟨d.val, by omega⟩)) := by
  rw [decay, ← p16]
  pointwise [k0_pay18]

/-- What a forward step adds, as stored for the scan. -/
theorem p17 v51 (g : FVec Ideal S512x1024 .f32) (lam : Vec Ideal S1x1x512 .f32) (r : Fin 512) (d : Fin 256) :
    k0_pay19 (k0_pay17 v51 g lam) (ix2 r d) = drive (g (ix2 r ⟨d.val, by omega⟩)) (lam (ix3 0 0 ⟨d.val, by omega⟩)) (g (ix2 r ⟨256 + d.val, by omega⟩)) (v51 (ix2 r d)) := by
  pointwise [k0_pay17, k0_pay19]
  rw [p16, bits_neg_two, tanh_ratio (logA_nonpos _ _), drive, sigm, zero_sub]

/-- The backward log decay. -/
theorem p20 (g : FVec Ideal S512x1024 .f32) (lam : Vec Ideal S1x1x512 .f32) (r : Fin 512) (d : Fin 256) :
    k0_pay20 g (k0_pay15 lam) (ix2 r d) = logA (g (ix2 r ⟨512 + d.val, by omega⟩)) (lam (ix3 0 0 ⟨256 + d.val, by omega⟩)) := by
  pointwise [k0_pay20]
  rw [p15, logA, sigm, zero_sub, mul_right_comm]

/-- The backward decay, as stored in the result. -/
theorem p21 (g : FVec Ideal S512x1024 .f32) (lam : Vec Ideal S1x1x512 .f32) (r : Fin 512) (d : Fin 256) :
    k0_pay21 g (k0_pay15 lam) (ix3 0 r d) = decay (g (ix2 r ⟨512 + d.val, by omega⟩)) (lam (ix3 0 0 ⟨256 + d.val, by omega⟩)) := by
  rw [decay, ← p20]
  pointwise [k0_pay21]

/-- What a backward step adds, as stored in the result. -/
theorem p22 v51 (g : FVec Ideal S512x1024 .f32) (lam : Vec Ideal S1x1x512 .f32) (r : Fin 512) (d : Fin 256) :
    k0_pay22 v51 g (k0_pay15 lam) (ix3 0 r d) = drive (g (ix2 r ⟨512 + d.val, by omega⟩)) (lam (ix3 0 0 ⟨256 + d.val, by omega⟩)) (g (ix2 r ⟨768 + d.val, by omega⟩)) (v51 (ix2 r d)) := by
  pointwise [k0_pay22]
  rw [p20, bits_neg_two, tanh_ratio (logA_nonpos _ _), drive, sigm, zero_sub]

/-- The test for a tile before this one. -/
theorem sgt : ∀ n : Fin 8, Scalar.cmpi .sgt (BitVec.ofNat 32 n.val) 0#32 = BitVec.ofBool (decide (0 < n.val)) := by decide
/-- The test for a tile after this one. -/
theorem slt : ∀ n : Fin 8, Scalar.cmpi .slt (BitVec.ofNat 32 n.val) 7#32 = BitVec.ofBool (decide (n.val < 7)) := by decide

/-- The eight rows before a tile, zero for the first one. -/
theorem p9 (i : grid0.Coords) (v : Vec Ideal S1x8x256 .f32) (r : Fin 8) (d : Fin 256) :
    k0_pay9 i v (ix2 r d) = if 0 < (i 1).val then v (ix3 0 r d) else 0 := by
  pointwise [k0_pay9]
  rw [show Scalar.cmpi .sgt (BitVec.ofNat 32 (i 1).val) 0#32 = _ from sgt (i 1)]
  by_cases h : 0 < (i 1).val <;> simp [h, Scalar.select]

/-- The eight rows after a tile, zero for the last one. -/
theorem p11 (i : grid0.Coords) (v : Vec Ideal S1x8x256 .f32) (r : Fin 8) (d : Fin 256) :
    k0_pay11 i v (ix2 r d) = if (i 1).val < 7 then v (ix3 0 r d) else 0 := by
  pointwise [k0_pay11]
  rw [show Scalar.cmpi .slt (BitVec.ofNat 32 (i 1).val) 7#32 = _ from slt (i 1)]
  by_cases h : (i 1).val < 7 <;> simp [h, Scalar.select]

/-- The rows of the tile. -/
theorem p10 (v : Vec Ideal S1x512x256 .f32) (r : Fin 512) (d : Fin 256) : k0_pay10 v (ix2 r d) = v (ix3 0 r d) := by
  pointwise [k0_pay10]

/-- The first state of a batch, as stored in the carry. -/
theorem p8 (v : Vec Ideal S1x1x256 .f32) (d : Fin 256) : k0_pay8 v (ix2 0 d) = v (ix3 0 0 d) := by
  pointwise [k0_pay8]

/-- The carry, repeated over eight rows. -/
theorem p1 (v : Vec Ideal S1x256 .f32) (r : Fin 8) (d : Fin 256) : k0_pay1 v (ix2 r d) = v (ix2 0 d) := by
  pointwise [k0_pay1]

/-- The first row of the last group, as kept in the carry. -/
theorem p5 (v : FVec Ideal S8x256 .f32) (d : Fin 256) : k0_pay5 v (ix2 0 d) = v (ix2 0 d) := by
  pointwise [k0_pay5, k0_pay4]

/-- The first row of the last group, as stored in the result. -/
theorem p6 (v : FVec Ideal S8x256 .f32) (d : Fin 256) : k0_pay6 v (ix3 0 0 d) = v (ix2 0 d) := by
  pointwise [k0_pay6, k0_pay4]
end Cert.Proof.LruTile
end
-- ==== Proof.LruScan.lean ====
module

public import proofs.«01_k».proof.Proof.Gen.LruIdeal.Loops
public import proofs.«01_k».proof.Proof.LruMath
public import Idealize.ShloMosaic.Lib.Pipeline.ValueKit
public import Idealize.ShloMosaic.Lib.Pointwise
public import Idealize.ShloMosaic.Lib.Claim

@[expose] public section

set_option maxRecDepth 16384

noncomputable section

/-! The scan of one tile by the forward recurrence call: groups of eight rows, one trip of the kernel's loop each. -/

namespace Cert.Proof.LruScan

open Idealize.ShloMosaic Idealize.ShloMosaic.TcCoe Idealize.SL.Sem
open Cert.LruIdeal Cert.LruIdeal.Gen
open Cert.Proof.LruMath

/-- The row numbers of a group. -/
abbrev V8 : IVec S8x256 32 := iota .tc S8x256 32 [0] iota_S8x256_d0_w32

/-- The scanned group, row by row. -/
theorem p7 (acc a b : FVec Ideal S8x256 .f32) (r : Fin 8) (d : Fin 256) :
    k0_pay7 V8 acc a b (ix2 r d) = grp (fun r => a (ix2 r d)) (fun r => b (ix2 r d)) (acc (ix2 r d)) r := by
  fin_cases r <;>
  · pointwise [k0_pay7]
    simp [Scalar.select, IntOp.cmpi, grp, dblA, dblB, down, mul_assoc]

/-- The group as it is stored. -/
theorem p2 (v : FVec Ideal S8x256 .f32) (r : Fin 8) (d : Fin 256) : k0_pay2 v (ix3 0 r d) = v (ix2 r d) := by
  pointwise [k0_pay2]

/-- The last row of a group, handed to every row of the next. -/
theorem p3 (v : FVec Ideal S8x256 .f32) (r : Fin 8) (d : Fin 256) : k0_pay3 v (ix2 r d) = v (ix2 7 d) := by
  pointwise [k0_pay3]

/-- The loop makes 64 trips, and trip `k` reads and writes the rows from `8 * k` on. -/
theorem off : ∀ k : Fin k0_t1_loop.trips, k.val < 64 ∧ k0_off1 k = ![8 * k.val, 0] ∧ k0_off2 k = ![0, 8 * k.val, 0] := by
  decide +kernel

/-- A column of a tile, continued by zeros. -/
def col (A : FVec Ideal S512x256 .f32) (d : Fin 256) (n : ℕ) : EReal := if h : n < 512 then A (ix2 ⟨n, h⟩ d) else 0

/-- The state after each row of a tile, entered in state `c`. -/
def states (A B : FVec Ideal S512x256 .f32) (c : Fin 256 → EReal) (n : ℕ) (d : Fin 256) : EReal :=
  hseq (col A d) (col B d) (c d) n

variable (𝒱 : Variants) (c : Dev nD) (bd : Option 𝒱.V) (i : grid0.Coords) (arg2 : Memref sig .tc .vmem S1x512x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x4x256 .f32) (harg5 : arg5.IsWhole) (arg6 : Memref sig .tc .vmem S1x1x256 .f32) (harg6 : arg6.IsWhole) (arg7 : Memref sig .tc .vmem S1x256x1024 .bf16) (harg7 : arg7.IsWhole) (arg8 : Memref sig .tc .vmem S1x1x1024 .f32) (harg8 : arg8.IsWhole) (arg9 : Memref sig .tc .vmem S1x1x512 .f32) (harg9 : arg9.IsWhole) (arg10 : Memref sig .tc .vmem S1x1x256 .f32) (harg10 : arg10.IsWhole) (arg11 : Memref sig .tc .vmem S1x512x256 .f32) (harg11 : arg11.IsWhole) (arg12 : Memref sig .tc .vmem S1x512x512 .f32) (harg12 : arg12.IsWhole) (arg13 : Memref sig .tc .vmem S1x1x256 .f32) (harg13 : arg13.IsWhole) (arg14 : Memref sig .tc .vmem S528x256 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S1x256 .f32) (harg17 : arg17.IsWhole)

/-- What a trip makes of the tile's factors and offsets. -/
theorem trip (X15 : BufTy.Contents (Elt Ideal) arg15.view.ty) (X16 : BufTy.Contents (Elt Ideal) arg16.view.ty) (A B : FVec Ideal S512x256 .f32)
    (h15 : arg15.view.read (Elt Ideal) X15 = A) (h16 : arg16.view.read (Elt Ideal) X16 = B) (k : Fin k0_t1_loop.trips) (acc : FVec Ideal S8x256 .f32) :
    ∃ G : FVec Ideal S8x256 .f32, tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 V8 X15 X16 k acc = k0_pay3 G
      ∧ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 V8 X15 X16 k acc
        = [⟨Rect.unit (k0_off2 k) ![1, 8, 256] (k0_off2_inb k), k0_pay2 G⟩]
      ∧ ∀ r d, G (ix2 r d) = grp (fun r => col A d (8 * k.val + r.val)) (fun r => col B d (8 * k.val + r.val)) (acc (ix2 r d)) r := by
  subst h15 h16
  unfold tripR_k0_t1 tripL_k0_t1 trip_k0_t1
  dsimp only
  refine ⟨_, rfl, rfl, fun r d => ?_⟩
  unfold trip_k0_t1.sl.r
  rw [p7]
  obtain ⟨hk, h1, -⟩ := off k
  have e : ∀ (m : Memref sig .tc .vmem S512x256 .f32) (X : BufTy.Contents (Elt Ideal) m.view.ty) (inb) (r : Fin 8),
      View.readAt (Elt Ideal) m.view (Rect.unit (s := S512x256) (k0_off1 k) S8x256.size inb).toLoadRect X (ix2 r d : S8x256.Idx)
        = col (m.view.read (Elt Ideal) X) d (8 * k.val + r.val) := fun m X inb r => by
    rw [View.readAt_eq_ld, col, dif_pos (by omega)]
    exact View.ld_unit_apply_of _ _ _ inb _ _ fun a => by
      fin_cases a
      · exact (congrArg (· + r.val) (congrFun h1 0)).symm
      · exact ((congrArg (· + d.val) (congrFun h1 1)).trans (Nat.zero_add _)).symm
  simp only [e]

/-- After `n` trips the loop holds the state after `8 * n` rows, and the rows it has stored are the states after each of them. -/
theorem loop (X15 : BufTy.Contents (Elt Ideal) arg15.view.ty) (X16 : BufTy.Contents (Elt Ideal) arg16.view.ty) (A B : FVec Ideal S512x256 .f32)
    (h15 : arg15.view.read (Elt Ideal) X15 = A) (h16 : arg16.view.read (Elt Ideal) X16 = B)
    (hA : ∀ r d, 0 ≤ A (ix2 r d) ∧ A (ix2 r d) ≠ ⊤) (init : FVec Ideal S8x256 .f32) (h0 : Fin 256 → EReal) (hi : ∀ r d, init (ix2 r d) = h0 d) :
    ∀ n ≤ 64, (∀ r d, (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 V8 X15 X16 init n).1 (ix2 r d) = states A B h0 (8 * n) d)
      ∧ (∀ p ∈ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 V8 X15 X16 init n).2, ∀ x, p.2 x = states A B h0 ((p.1.emb x 1).val + 1) (p.1.emb x 2))
      ∧ (∀ y : S1x512x256.Idx, (y 1).val < 8 * n → ∃ p ∈ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 V8 X15 X16 init n).2, y ∈ p.1.set) := by
  have hcol : ∀ d n, 0 ≤ col A d n ∧ col A d n ≠ ⊤ := fun d n => by
    unfold col; split
    · exact hA _ _
    · exact ⟨le_rfl, EReal.zero_ne_top⟩
  intro n
  induction n with
  | zero =>
    intro _
    refine ⟨fun r d => hi r d, fun p hp => absurd hp List.not_mem_nil, fun y hy => absurd hy (Nat.not_lt_zero _)⟩
  | succ n ih =>
    intro hn
    obtain ⟨ih1, ih2, ih3⟩ := ih (by omega)
    have ht : n < k0_t1_loop.trips := lt_of_lt_of_le (show n < 64 by omega) (by decide +kernel)
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 V8 X15 X16 init ⟨n, ht⟩
    obtain ⟨G, hR, hL, hG⟩ := trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 X16 A B h15 h16 ⟨n, ht⟩ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 V8 X15 X16 init n).1
    rw [hR, hL] at hs
    have hG' : ∀ (r : Fin 8) d, G (ix2 r d) = states A B h0 (8 * n + (r.val + 1)) d := fun r d => by
      rw [hG, ih1]
      unfold states
      rw [hseq_add]
      exact grp_eq (fun j => col A d (8 * n + j)) (fun j => col B d (8 * n + j)) _ (fun j => hcol d _) r
    obtain ⟨-, -, h2⟩ := off ⟨n, ht⟩
    rw [show (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 V8 X15 X16 init (n + 1)) = _ from hs]
    refine ⟨fun r d => ?_, fun p hp x => ?_, fun y hy => ?_⟩
    · show k0_pay3 G (ix2 r d) = _
      rw [p3, hG']
      rfl
    · rcases List.mem_append.mp hp with hp | hp
      · obtain rfl := List.mem_singleton.mp hp
        have e1 : ((Rect.unit (s := S1x512x256) (k0_off2 ⟨n, ht⟩) ![1, 8, 256] (k0_off2_inb ⟨n, ht⟩)).emb x 1).val = 8 * n + (x 1).val :=
          (Rect.idx_unit_val _ _ _ x 1).trans (congrArg (· + (x 1).val) (congrFun h2 1))
        have e2 : ((Rect.unit (s := S1x512x256) (k0_off2 ⟨n, ht⟩) ![1, 8, 256] (k0_off2_inb ⟨n, ht⟩)).emb x 2) = (x 2 : Fin 256) :=
          Fin.ext ((Rect.idx_unit_val _ _ _ x 2).trans ((congrArg (· + (x 2).val) (congrFun h2 2)).trans (Nat.zero_add _)))
        show k0_pay2 G x = states A B h0 (_ + 1) _
        rw [e1, e2]
        have hx : x = ix3 0 (x 1 : Fin 8) (x 2 : Fin 256) := by
          funext a; fin_cases a
          · exact Subsingleton.elim (α := Fin 1) _ _
          · rfl
          · rfl
        exact (congrArg (k0_pay2 G) hx).trans ((p2 G _ _).trans (hG' _ _))
      · exact ih2 p hp x
    · by_cases h : (y 1).val < 8 * n
      · obtain ⟨p, hp, hy'⟩ := ih3 y h
        exact ⟨p, List.mem_append_right _ hp, hy'⟩
      · have hm : y ∈ (Rect.unit (s := S1x512x256) (k0_off2 ⟨n, ht⟩) ![1, 8, 256] (k0_off2_inb ⟨n, ht⟩)).set := by
          rw [Rect.mem_set_unit]
          intro a
          have h0 : (y 0).val < 1 := (y 0).isLt
          have h2' : (y 2).val < 256 := (y 2).isLt
          rw [h2]
          fin_cases a
          · exact ⟨Nat.zero_le _, by show (y 0).val < 0 + 1; omega⟩
          · exact ⟨by show 8 * n ≤ (y 1).val; omega, by show (y 1).val < 8 * n + 8; omega⟩
          · exact ⟨Nat.zero_le _, by show (y 2).val < 0 + 256; omega⟩
        exact ⟨_, List.mem_append_left _ (List.mem_singleton.mpr rfl), hm⟩

/-- The loop's end: the state after the tile in every row of what it carries, and the states after the tile's rows stored. -/
theorem loop_end (X15 : BufTy.Contents (Elt Ideal) arg15.view.ty) (X16 : BufTy.Contents (Elt Ideal) arg16.view.ty) (A B : FVec Ideal S512x256 .f32)
    (h15 : arg15.view.read (Elt Ideal) X15 = A) (h16 : arg16.view.read (Elt Ideal) X16 = B)
    (hA : ∀ r d, 0 ≤ A (ix2 r d) ∧ A (ix2 r d) ≠ ⊤) (init : FVec Ideal S8x256 .f32) (h0 : Fin 256 → EReal) (hi : ∀ r d, init (ix2 r d) = h0 d) :
    (∀ r d, (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 V8 X15 X16 init (Scf.trips (0#32) (Scalar.addi 0#32 64#32) 1#32)).1 (ix2 r d) = states A B h0 512 d)
      ∧ ∀ r d, View.canon (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 V8 X15 X16 init (Scf.trips (0#32) (Scalar.addi 0#32 64#32) 1#32)).2 (ix3 0 r d) = states A B h0 (r.val + 1) d := by
  rw [show Scf.trips (0#32) (Scalar.addi 0#32 64#32) 1#32 = 64 from by decide +kernel]
  obtain ⟨h1, h2, h3⟩ := loop 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X15 X16 A B h15 h16 hA init h0 hi 64 (Nat.le_refl _)
  exact ⟨h1, fun r d => View.canon_apply_of_pieces (Val := Elt Ideal) (e := .f32) (fun y : S1x512x256.Idx => states A B h0 ((y 1).val + 1) (y 2)) _ h2 _
    (h3 _ r.isLt)⟩

end Cert.Proof.LruScan

end
-- ==== Proof.LruPoint.lean ====
module

public import proofs.«01_k».proof.Proof.LruHost
public import proofs.«01_k».proof.Proof.LruTile
public import proofs.«01_k».proof.Proof.LruScan

@[expose] public section

set_option maxRecDepth 16384

noncomputable section

namespace Cert.Proof.LruPoint

open Idealize.ShloMosaic Idealize.ShloMosaic.TcCoe Idealize.SL.Sem
open Cert.LruIdeal Cert.LruIdeal.Gen
open Cert.Proof.LruMath Cert.Proof.LruSpec Cert.Proof.LruHost Cert.Proof.LruTile Cert.Proof.LruScan Cert.Proof.LruIdealFrame

/-- Where the blocks of a grid point lie: batch `t / 8`, tile `t % 8` of 512 rows, the eight rows before it and the eight
    after it (the sequence's own end rows at its ends), and the last layer's parameters. -/
theorem idx : ∀ t : Fin cfg0.N, win0_0.index t = ![t.val / 8, t.val % 8, 0] ∧ win0_1.index t = ![t.val / 8, 64 * (t.val % 8) - 1, 0]
    ∧ win0_2.index t = ![t.val / 8, min (64 * (t.val % 8) + 64) 511, 0] ∧ win0_3.index t = ![3, 0, 0] ∧ win0_4.index t = ![3, 0, 0]
    ∧ win0_5.index t = ![3, 0, 0] ∧ win0_6.index t = ![3, 0, 0] ∧ win0_7.index t = ![3, 0, 0] ∧ win0_8.index t = ![t.val / 8, 0, 0]
    ∧ win0_9.index t = ![t.val / 8, t.val % 8, 0] ∧ win0_10.index t = ![t.val / 8, t.val % 8, 0] ∧ win0_11.index t = ![t.val / 8, 0, 0]
    ∧ (grid0.coords t 1).val = t.val % 8 :=
  (by decide +kernel : ∀ t : Fin grid0.N, win0_0.index t = ![t.val / 8, t.val % 8, 0] ∧ win0_1.index t = ![t.val / 8, 64 * (t.val % 8) - 1, 0]
    ∧ win0_2.index t = ![t.val / 8, min (64 * (t.val % 8) + 64) 511, 0] ∧ win0_3.index t = ![3, 0, 0] ∧ win0_4.index t = ![3, 0, 0]
    ∧ win0_5.index t = ![3, 0, 0] ∧ win0_6.index t = ![3, 0, 0] ∧ win0_7.index t = ![3, 0, 0] ∧ win0_8.index t = ![t.val / 8, 0, 0]
    ∧ win0_9.index t = ![t.val / 8, t.val % 8, 0] ∧ win0_10.index t = ![t.val / 8, t.val % 8, 0] ∧ win0_11.index t = ![t.val / 8, 0, 0]
    ∧ (grid0.coords t 1).val = t.val % 8)

theorem lt32 (t : Fin cfg0.N) : t.val < 32 := lt_of_lt_of_eq t.isLt (by decide +kernel)

/-- The batch of a grid point. -/
def bat (t : Fin cfg0.N) : Fin 4 := ⟨t.val / 8, by have := lt32 t; omega⟩

variable (m : (ℓ : Loc nD τ sig) → Buf (Elt Ideal) ℓ) (c : Dev nD) (t : Fin cfg0.N)

theorem blk0 (r : Fin 512) (d : Fin 256) : iblk m c 0 t (ix3 0 r d) = (args m c).px (ix3 (bat t) ⟨512 * (t.val % 8) + r.val, by omega⟩ ⟨d.val, by omega⟩) := by
  unfold args bat
  blk_point [iblk, V, idx t]
theorem blk1 (r : Fin 8) (d : Fin 256) : iblk m c 1 t (ix3 0 r d) = (args m c).px (ix3 (bat t) ⟨8 * (64 * (t.val % 8) - 1) + r.val, by omega⟩ ⟨d.val, by omega⟩) := by
  unfold args bat
  blk_point [iblk, V, idx t]
theorem blk2 (r : Fin 8) (d : Fin 256) : iblk m c 2 t (ix3 0 r d) = (args m c).px (ix3 (bat t) ⟨8 * (min (64 * (t.val % 8) + 64) 511) + r.val, by omega⟩ ⟨d.val, by omega⟩) := by
  unfold args bat
  blk_point [iblk, V, idx t]
theorem blk3 (r : Fin 4) (d : Fin 256) : iblk m c 3 t (ix3 0 r d) = (args m c).cw (ix3 3 r d) := by
  unfold args
  blk_point [iblk, V, idx t]
theorem blk4 (d : Fin 256) : iblk m c 4 t (ix3 0 0 d) = (args m c).cb (ix2 3 d) := by
  rw [← v47]
  blk_point [iblk, idx t]
theorem blk5 (k : Fin 256) (n : Fin 1024) : iblk m c 5 t (ix3 0 k n) = V m c main_v35 (ix3 3 k n) := by
  blk_point [iblk, idx t]
theorem blk6 (n : Fin 1024) : iblk m c 6 t (ix3 0 0 n) = V m c main_v45 (ix3 3 0 n) := by
  blk_point [iblk, idx t]
theorem blk7 (n : Fin 512) : iblk m c 7 t (ix3 0 0 n) = V m c main_v46 (ix3 3 0 n) := by
  blk_point [iblk, idx t]
theorem blk8 (d : Fin 256) : iblk m c 8 t (ix3 0 0 d) = (args m c).h0 (ix3 (bat t) 0 d) := by
  unfold args bat
  blk_point [iblk, V, idx t]

end Cert.Proof.LruPoint
end
-- ==== Proof.LruRows.lean ====
module

public import proofs.«01_k».proof.Proof.LruPoint

@[expose] public section

set_option maxRecDepth 16384

noncomputable section

namespace Cert.Proof.LruPoint

open Idealize.ShloMosaic Idealize.ShloMosaic.TcCoe Idealize.SL.Sem
open Cert.LruIdeal Cert.LruIdeal.Gen
open Cert.Proof.LruMath Cert.Proof.LruSpec Cert.Proof.LruHost Cert.Proof.LruTile Cert.Proof.LruScan Cert.Proof.LruIdealFrame
variable (m : (ℓ : Loc nD τ sig) → Buf (Elt Ideal) ℓ) (c : Dev nD) (t : Fin cfg0.N)

/-- The stores that fill the extended tile: eight rows before it, its own, eight rows after it. -/
def stores : List (View.Piece (Elt Ideal) S528x256 .f32) :=
  [⟨Rect.unit ![520, 0] ![8, 256] inb_S528x256_S8x256_520_0, k0_pay11 (grid0.coords t) (iblk m c 2 t)⟩,
   ⟨Rect.unit ![8, 0] ![512, 256] inb_S528x256_S512x256_8_0, k0_pay10 (iblk m c 0 t)⟩,
   ⟨Rect.unit ![0, 0] ![8, 256] inb_S528x256_S8x256_0_0, k0_pay9 (grid0.coords t) (iblk m c 1 t)⟩]

theorem tap_in (A : Args) (b : Fin 4) (d : Fin 256) (n : ℕ) (k : Fin 4096) (h : n = k.val + 2) :
    tap A b d n = A.px (ix3 b k ⟨d.val, by omega⟩) := by
  subst h
  exact dif_pos (by omega)

theorem tap_out (A : Args) (b : Fin 4) (d : Fin 256) (n : ℕ) (h : n < 2 ∨ 4098 ≤ n) : tap A b d n = 0 :=
  dif_neg (by omega)

/-- The extended tile at a row: the sequence's row eight before, zero outside the sequence. -/
theorem canon_stores (y : S528x256.Idx) :
    View.canon (stores m c t) y = tap (args m c) (bat t) (y 1) (512 * (t.val % 8) + (y 0).val - 6) := by
  obtain ⟨-, -, -, -, -, -, -, -, -, -, -, -, ht⟩ := idx t
  refine View.canon_apply_of_pieces (Val := Elt Ideal) (e := .f32) (fun y : S528x256.Idx => tap (args m c) (bat t) (y 1) (512 * (t.val % 8) + (y 0).val - 6)) _ ?_ y ?_
  · intro p hp x
    simp only [stores, List.mem_cons, List.not_mem_nil, or_false] at hp
    rcases hp with rfl | rfl | rfl
    · have e0 : ((Rect.unit (s := S528x256) ![520, 0] ![8, 256] inb_S528x256_S8x256_520_0).idx x 0).val = 520 + (x 0).val := Rect.idx_unit_val _ _ _ _ _
      have e1 : ((Rect.unit (s := S528x256) ![520, 0] ![8, 256] inb_S528x256_S8x256_520_0).idx x 1) = x 1 := Fin.ext ((Rect.idx_unit_val _ _ _ _ _).trans (Nat.zero_add _))
      show (k0_pay11 (F := Ideal) (grid0.coords t) (iblk m c 2 t) x : EReal) = tap _ _ ((Rect.unit (s := S528x256) ![520, 0] ![8, 256] inb_S528x256_S8x256_520_0).idx x 1) (_ + ((Rect.unit (s := S528x256) ![520, 0] ![8, 256] inb_S528x256_S8x256_520_0).idx x 0).val - 6)
      rw [e0, e1]
      idx_vars x
      refine (p11 _ _ _ _).trans ?_
      rw [ht, blk2]
      split_ifs with h
      · exact (tap_in _ _ _ _ _ (by show _ = 8 * min _ _ + _ + 2; simp; omega)).symm
      · exact (tap_out _ _ _ _ (by simp; omega)).symm
    · have e0 : ((Rect.unit (s := S528x256) ![8, 0] ![512, 256] inb_S528x256_S512x256_8_0).idx x 0).val = 8 + (x 0).val := Rect.idx_unit_val _ _ _ _ _
      have e1 : ((Rect.unit (s := S528x256) ![8, 0] ![512, 256] inb_S528x256_S512x256_8_0).idx x 1) = x 1 := Fin.ext ((Rect.idx_unit_val _ _ _ _ _).trans (Nat.zero_add _))
      show (k0_pay10 (F := Ideal) (iblk m c 0 t) x : EReal) = tap _ _ ((Rect.unit (s := S528x256) ![8, 0] ![512, 256] inb_S528x256_S512x256_8_0).idx x 1) (_ + ((Rect.unit (s := S528x256) ![8, 0] ![512, 256] inb_S528x256_S512x256_8_0).idx x 0).val - 6)
      rw [e0, e1]
      idx_vars x
      refine (p10 _ _ _).trans ?_
      rw [blk0]
      exact (tap_in _ _ _ _ _ (by show _ = 512 * _ + _ + 2; simp; omega)).symm
    · have e0 : ((Rect.unit (s := S528x256) ![0, 0] ![8, 256] inb_S528x256_S8x256_0_0).idx x 0).val = 0 + (x 0).val := Rect.idx_unit_val _ _ _ _ _
      have e1 : ((Rect.unit (s := S528x256) ![0, 0] ![8, 256] inb_S528x256_S8x256_0_0).idx x 1) = x 1 := Fin.ext ((Rect.idx_unit_val _ _ _ _ _).trans (Nat.zero_add _))
      show (k0_pay9 (F := Ideal) (grid0.coords t) (iblk m c 1 t) x : EReal) = tap _ _ ((Rect.unit (s := S528x256) ![0, 0] ![8, 256] inb_S528x256_S8x256_0_0).idx x 1) (_ + ((Rect.unit (s := S528x256) ![0, 0] ![8, 256] inb_S528x256_S8x256_0_0).idx x 0).val - 6)
      rw [e0, e1]
      idx_vars x
      have hx : x0.val < 8 := x0.isLt
      refine (p9 _ _ _ _).trans ?_
      rw [ht, blk1]
      split_ifs with h
      · exact (tap_in _ _ _ _ _ (by show _ = 8 * _ + _ + 2; simp; omega)).symm
      · exact (tap_out _ _ _ _ (by simp; omega)).symm
  · have h0 : (y 0).val < 528 := (y 0).isLt
    have h1 : (y 1).val < 256 := (y 1).isLt
    rcases Nat.lt_or_ge (y 0).val 8 with h | h
    · refine ⟨_, .tail _ (.tail _ (.head _)), ?_⟩
      exact (Rect.mem_set_unit (inb := inb_S528x256_S8x256_0_0)).mpr fun a => by fin_cases a <;> constructor <;> simp <;> omega
    rcases Nat.lt_or_ge (y 0).val 520 with h' | h'
    · refine ⟨_, .tail _ (.head _), ?_⟩
      exact (Rect.mem_set_unit (inb := inb_S528x256_S512x256_8_0)).mpr fun a => by fin_cases a <;> constructor <;> simp <;> omega
    · refine ⟨_, .head _, ?_⟩
      exact (Rect.mem_set_unit (inb := inb_S528x256_S8x256_520_0)).mpr fun a => by fin_cases a <;> constructor <;> simp <;> omega

/-- The rows of the extended tile from row `o` on. -/
theorem row (o : ℕ) (ho : 6 ≤ o ∧ o ≤ 9) (inb) (r : Fin 512) (d : Fin 256) :
    (View.whole cc0_scratch0).readCov (stores m c t) (Rect.unit (s := S528x256) ![o, 0] S512x256.size inb).toLoadRect (ix2 r d)
      = tap (args m c) (bat t) d (512 * (t.val % 8) + r.val + (o - 6)) := by
  rw [View.readCov_eq_canon']
  refine (canon_stores m c t _).trans ?_
  have e0 : ((Rect.unit (s := S528x256) ![o, 0] S512x256.size inb).idx (ix2 r d) 0).val = o + r.val := Rect.idx_unit_val _ _ _ _ _
  have e1 : ((Rect.unit (s := S528x256) ![o, 0] S512x256.size inb).idx (ix2 r d) 1) = d := Fin.ext ((Rect.idx_unit_val _ _ _ _ _).trans (Nat.zero_add _))
  rw [e0, e1]
  exact congrArg (tap _ _ _) (by omega)

/-- The convolved tile. -/
def CX : FVec Ideal S512x256 .f32 :=
  k0_pay13 (k0_pay12 (iblk m c 4 t)) (View.ld (iblk m c 3 t) (Rect.unit ![0, 0, 0] ![1, 1, 256] inb_S1x4x256_S1x1x256_0_0_0))
    ((View.whole cc0_scratch0).readCov (stores m c t) (Rect.unit (s := S528x256) ![6, 0] S512x256.size inb_S528x256_S512x256_6_0).toLoadRect)
    (View.ld (iblk m c 3 t) (Rect.unit ![0, 1, 0] ![1, 1, 256] inb_S1x4x256_S1x1x256_0_1_0))
    ((View.whole cc0_scratch0).readCov (stores m c t) (Rect.unit (s := S528x256) ![7, 0] S512x256.size inb_S528x256_S512x256_7_0).toLoadRect)
    (View.ld (iblk m c 3 t) (Rect.unit ![0, 2, 0] ![1, 1, 256] inb_S1x4x256_S1x1x256_0_2_0))
    ((View.whole cc0_scratch0).readCov (stores m c t) (Rect.unit (s := S528x256) ![8, 0] S512x256.size inb_S528x256_S512x256_8_0).toLoadRect)
    (View.ld (iblk m c 3 t) (Rect.unit ![0, 3, 0] ![1, 1, 256] inb_S1x4x256_S1x1x256_0_3_0))
    ((View.whole cc0_scratch0).readCov (stores m c t) (Rect.unit (s := S528x256) ![9, 0] S512x256.size inb_S528x256_S512x256_9_0).toLoadRect)

/-- The four gates of the tile before the logistic function. -/
def GT : FVec Ideal S512x1024 .f32 :=
  k0_pay14 (k0_pay12 (iblk m c 4 t)) (View.ld (iblk m c 3 t) (Rect.unit ![0, 0, 0] ![1, 1, 256] inb_S1x4x256_S1x1x256_0_0_0))
    ((View.whole cc0_scratch0).readCov (stores m c t) (Rect.unit (s := S528x256) ![6, 0] S512x256.size inb_S528x256_S512x256_6_0).toLoadRect)
    (View.ld (iblk m c 3 t) (Rect.unit ![0, 1, 0] ![1, 1, 256] inb_S1x4x256_S1x1x256_0_1_0))
    ((View.whole cc0_scratch0).readCov (stores m c t) (Rect.unit (s := S528x256) ![7, 0] S512x256.size inb_S528x256_S512x256_7_0).toLoadRect)
    (View.ld (iblk m c 3 t) (Rect.unit ![0, 2, 0] ![1, 1, 256] inb_S1x4x256_S1x1x256_0_2_0))
    ((View.whole cc0_scratch0).readCov (stores m c t) (Rect.unit (s := S528x256) ![8, 0] S512x256.size inb_S528x256_S512x256_8_0).toLoadRect)
    (View.ld (iblk m c 3 t) (Rect.unit ![0, 3, 0] ![1, 1, 256] inb_S1x4x256_S1x1x256_0_3_0))
    ((View.whole cc0_scratch0).readCov (stores m c t) (Rect.unit (s := S528x256) ![9, 0] S512x256.size inb_S528x256_S512x256_9_0).toLoadRect)
    (iblk m c 5 t) (iblk m c 6 t)

/-- The forward decays of the tile. -/
def AT : FVec Ideal S512x256 .f32 := k0_pay18 (GT m c t) (iblk m c 7 t)

/-- What the forward steps of the tile add. -/
def BT : FVec Ideal S512x256 .f32 := k0_pay19 (k0_pay17 (CX m c t) (GT m c t) (iblk m c 7 t))

theorem CX_apply (r : Fin 512) (d : Fin 256) : CX m c t (ix2 r d) = conv (args m c) (bat t) (512 * (t.val % 8) + r.val) d := by
  have e : ∀ (o : ℕ) (ho : o < 4) (inb), View.ld (iblk m c 3 t) (Rect.unit ![0, o, 0] ![1, 1, 256] inb) (ix3 0 0 d) = (args m c).cw (ix3 3 ⟨o, ho⟩ d) := fun o ho inb =>
    (View.ld_unit_apply_of _ _ _ inb _ (ix3 0 ⟨o, ho⟩ d) fun a => by fin_cases a <;> simp).trans (blk3 m c t ⟨o, ho⟩ d)
  rw [CX, p13, e 0 (by omega), e 1 (by omega), e 2 (by omega), e 3 (by omega), row m c t 6 (by omega), row m c t 7 (by omega), row m c t 8 (by omega), row m c t 9 (by omega), blk4]
  rfl

theorem GT_apply (r : Fin 512) (n : Fin 1024) :
    GT m c t (ix2 r n) = (∑ k, conv (args m c) (bat t) (512 * (t.val % 8) + r.val) k * V m c main_v35 (ix3 3 k n)) + V m c main_v45 (ix3 3 0 n) := by
  rw [GT, p14, blk6]
  refine congrArg (· + _) (Finset.sum_congr rfl fun k _ => ?_)
  rw [blk5]
  exact congrArg (· * _) (CX_apply m c t r k)

theorem GT_rf (r : Fin 512) (d : Fin 256) : GT m c t (ix2 r ⟨d.val, by omega⟩) = pre (args m c).wa (args m c).ba 0 (conv (args m c) (bat t) (512 * (t.val % 8) + r.val)) d := by
  rw [GT_apply, pre, ← diag_sum, v45_rf]
  exact congrArg (· + _) (Finset.sum_congr rfl fun k _ => congrArg (_ * ·) (v35_rf m c k d))
theorem GT_if (r : Fin 512) (d : Fin 256) : GT m c t (ix2 r ⟨256 + d.val, by omega⟩) = pre (args m c).wx (args m c).bx 0 (conv (args m c) (bat t) (512 * (t.val % 8) + r.val)) d := by
  rw [GT_apply, pre, ← diag_sum, v45_if]
  exact congrArg (· + _) (Finset.sum_congr rfl fun k _ => congrArg (_ * ·) (v35_if m c k d))
theorem GT_rb (r : Fin 512) (d : Fin 256) : GT m c t (ix2 r ⟨512 + d.val, by omega⟩) = pre (args m c).wa (args m c).ba 1 (conv (args m c) (bat t) (512 * (t.val % 8) + r.val)) d := by
  rw [GT_apply, pre, ← diag_sum, v45_rb]
  exact congrArg (· + _) (Finset.sum_congr rfl fun k _ => congrArg (_ * ·) (v35_rb m c k d))
theorem GT_ib (r : Fin 512) (d : Fin 256) : GT m c t (ix2 r ⟨768 + d.val, by omega⟩) = pre (args m c).wx (args m c).bx 1 (conv (args m c) (bat t) (512 * (t.val % 8) + r.val)) d := by
  rw [GT_apply, pre, ← diag_sum, v45_ib]
  exact congrArg (· + _) (Finset.sum_congr rfl fun k _ => congrArg (_ * ·) (v35_ib m c k d))

theorem AT_apply (r : Fin 512) (d : Fin 256) : AT m c t (ix2 r d) = ca (args m c) 0 (bat t) d (512 * (t.val % 8) + r.val) := by
  rw [AT, p18, GT_rf, blk7, v46_f]
  rfl

theorem BT_apply (r : Fin 512) (d : Fin 256) : BT m c t (ix2 r d) = cb (args m c) 0 (bat t) d (512 * (t.val % 8) + r.val) := by
  rw [BT, p17, GT_rf, GT_if, blk7, v46_f, CX_apply]
  rfl

/-- The backward decays stored for the tile. -/
theorem AB_apply (r : Fin 512) (d : Fin 256) : k0_pay21 (GT m c t) (k0_pay15 (iblk m c 7 t)) (ix3 0 r d) = ca (args m c) 1 (bat t) d (512 * (t.val % 8) + r.val) := by
  rw [p21, GT_rb, blk7, v46_b]
  rfl

/-- What the backward steps of the tile add, as stored. -/
theorem BB_apply (r : Fin 512) (d : Fin 256) : k0_pay22 (CX m c t) (GT m c t) (k0_pay15 (iblk m c 7 t)) (ix3 0 r d) = cb (args m c) 1 (bat t) d (512 * (t.val % 8) + r.val) := by
  rw [p22, GT_rb, GT_ib, blk7, v46_b, CX_apply]
  rfl

end Cert.Proof.LruPoint
end
-- ==== Proof.LruOut.lean ====
module

public import proofs.«01_k».proof.Proof.LruRows
public import Idealize.ShloMosaic.Lib.VecWindow
public import Idealize.ShloMosaic.Lib.Pipeline.ReadBack

@[expose] public section

set_option maxRecDepth 16384

noncomputable section

/-! What the idealized forward recurrence call leaves at each grid point. -/

namespace Cert.Proof.LruOut

open Idealize.ShloMosaic Idealize.ShloMosaic.TcCoe Idealize.SL.Sem
open Cert.LruIdeal Cert.LruIdeal.Gen
open Cert.Proof.LruMath Cert.Proof.LruSpec Cert.Proof.LruHost Cert.Proof.LruTile Cert.Proof.LruScan Cert.Proof.LruIdealFrame Cert.Proof.LruPoint
variable (m : (ℓ : Loc nD τ sig) → Buf (Elt Ideal) ℓ) (c : Dev nD) (t : Fin cfg0.N)

/-- The states of a tile entered in the sequence's state are the sequence's states. -/
theorem tile_states (n : ℕ) (hn : n ≤ 512) (d : Fin 256) :
    states (AT m c t) (BT m c t) (fun d => state (args m c) (bat t) d (512 * (t.val % 8))) n d
      = state (args m c) (bat t) d (512 * (t.val % 8) + n) := by
  rw [states, state, state, hseq_add]
  refine hseq_congr _ fun i hi => ?_
  have hi' : i < 512 := by omega
  rw [col, col, dif_pos hi', dif_pos hi', AT_apply, BT_apply]
  exact ⟨rfl, rfl⟩

theorem AT_range (r : Fin 512) (d : Fin 256) : 0 ≤ AT m c t (ix2 r d) ∧ AT m c t (ix2 r d) ≠ ⊤ := by
  rw [AT_apply]
  exact ⟨decay_nonneg _ _, decay_ne_top _ _⟩

theorem coef_decay (A : Args) (b : Fin 4) (n : ℕ) (k : Fin 512) (d : Fin 256) (h : k.val = 0 + d.val) : coef A b n k = ca A 1 b d n := by
  have hd : k.val < 256 := by omega
  refine (dif_pos hd).trans ?_
  exact congrArg (fun d => ca A 1 b d n) (Fin.ext (by show k.val = _; omega))

theorem coef_drive (A : Args) (b : Fin 4) (n : ℕ) (k : Fin 512) (d : Fin 256) (h : k.val = 256 + d.val) : coef A b n k = LruSpec.cb A 1 b d n := by
  have hd : ¬ k.val < 256 := by omega
  refine (dif_neg hd).trans ?_
  exact congrArg (fun d => LruSpec.cb A 1 b d n) (Fin.ext (by show k.val - 256 = _; omega))

/-- The stored backward coefficients. -/
theorem coefs (y0 : Fin 1) (r : Fin 512) (n : Fin 512) :
    View.canon (Val := Elt Ideal) (e := .f32) [⟨Rect.unit (s := S1x512x512) ![0, 0, 256] ![1, 512, 256] inb_S1x512x512_S1x512x256_0_0_256, k0_pay22 (CX m c t) (GT m c t) (k0_pay15 (iblk m c 7 t))⟩,
      ⟨Rect.unit (s := S1x512x512) ![0, 0, 0] ![1, 512, 256] inb_S1x512x512_S1x512x256_0_0_0, k0_pay21 (GT m c t) (k0_pay15 (iblk m c 7 t))⟩] (ix3 y0 r n)
      = coef (args m c) (bat t) (512 * (t.val % 8) + r.val) n := by
  refine View.canon_apply_of_pieces (Val := Elt Ideal) (e := .f32) (fun y : S1x512x512.Idx => coef (args m c) (bat t) (512 * (t.val % 8) + (y 1).val) (y 2)) _ ?_ _ ?_
  · intro p hp x
    simp only [List.mem_cons, List.not_mem_nil, or_false] at hp
    rcases hp with rfl | rfl
    · have e1 : ((Rect.unit (s := S1x512x512) ![0, 0, 256] ![1, 512, 256] inb_S1x512x512_S1x512x256_0_0_256).idx x 1).val = 0 + (x 1).val := Rect.idx_unit_val _ _ _ _ _
      have e2 : ((Rect.unit (s := S1x512x512) ![0, 0, 256] ![1, 512, 256] inb_S1x512x512_S1x512x256_0_0_256).idx x 2).val = 256 + (x 2).val := Rect.idx_unit_val _ _ _ _ _
      show (k0_pay22 (F := Ideal) (CX m c t) (GT m c t) (k0_pay15 (iblk m c 7 t)) x : EReal) = coef _ _ (_ + ((Rect.unit (s := S1x512x512) ![0, 0, 256] ![1, 512, 256] inb_S1x512x512_S1x512x256_0_0_256).idx x 1).val) ((Rect.unit (s := S1x512x512) ![0, 0, 256] ![1, 512, 256] inb_S1x512x512_S1x512x256_0_0_256).idx x 2)
      rw [e1]
      idx_vars x
      obtain rfl : x0 = 0 := Subsingleton.elim _ _
      refine (BB_apply m c t x1 x2).trans ?_
      rw [Nat.zero_add]
      exact (coef_drive _ _ _ _ _ e2).symm
    · have e1 : ((Rect.unit (s := S1x512x512) ![0, 0, 0] ![1, 512, 256] inb_S1x512x512_S1x512x256_0_0_0).idx x 1).val = 0 + (x 1).val := Rect.idx_unit_val _ _ _ _ _
      have e2 : ((Rect.unit (s := S1x512x512) ![0, 0, 0] ![1, 512, 256] inb_S1x512x512_S1x512x256_0_0_0).idx x 2).val = 0 + (x 2).val := Rect.idx_unit_val _ _ _ _ _
      show (k0_pay21 (F := Ideal) (GT m c t) (k0_pay15 (iblk m c 7 t)) x : EReal) = coef _ _ (_ + ((Rect.unit (s := S1x512x512) ![0, 0, 0] ![1, 512, 256] inb_S1x512x512_S1x512x256_0_0_0).idx x 1).val) ((Rect.unit (s := S1x512x512) ![0, 0, 0] ![1, 512, 256] inb_S1x512x512_S1x512x256_0_0_0).idx x 2)
      rw [e1]
      idx_vars x
      obtain rfl : x0 = 0 := Subsingleton.elim _ _
      refine (AB_apply m c t x1 x2).trans ?_
      rw [Nat.zero_add]
      exact (coef_decay _ _ _ _ _ e2).symm
  · have h0 : y0.val < 1 := y0.isLt
    have h1 : r.val < 512 := r.isLt
    have h2 : n.val < 512 := n.isLt
    rcases Nat.lt_or_ge n.val 256 with h | h
    · refine ⟨_, .tail _ (.head _), ?_⟩
      exact (Rect.mem_set_unit (inb := inb_S1x512x512_S1x512x256_0_0_0)).mpr fun a => by fin_cases a <;> constructor <;> simp <;> omega
    · refine ⟨_, .head _, ?_⟩
      exact (Rect.mem_set_unit (inb := inb_S1x512x512_S1x512x256_0_0_256)).mpr fun a => by fin_cases a <;> constructor <;> simp <;> omega

/-- What a grid point leaves: the states after its rows, the backward coefficients, and the state after the tile. -/
structure Good (o : Vec Ideal S1x512x256 .f32 × Vec Ideal S1x512x512 .f32 × Vec Ideal S1x1x256 .f32 × Vec Ideal S1x256 .f32) : Prop where
  hf : ∀ r d, o.1 (ix3 0 r d) = state (args m c) (bat t) d (512 * (t.val % 8) + (r.val + 1))
  ab : ∀ r n, o.2.1 (ix3 0 r n) = coef (args m c) (bat t) (512 * (t.val % 8) + r.val) n
  hl : ∀ d, o.2.2.1 (ix3 0 0 d) = state (args m c) (bat t) d (512 * (t.val % 8) + 512)
  carry : ∀ d, o.2.2.2 (ix2 0 d) = state (args m c) (bat t) d (512 * (t.val % 8) + 512)

/-- The first tile of a sequence. -/
theorem good_A (h : t.val % 8 = 0) : Good m c t (outsAt0 m c t.val t.isLt) := by
  have hi : ∀ (r : Fin 8) (d : Fin 256), k0_pay1 (k0_pay8 (iblk m c 8 t)) (ix2 r d) = state (args m c) (bat t) d (512 * (t.val % 8)) := fun r d => by
    rw [p1, p8, blk8, h]
    rfl
  constructor
  · intro r d
    rw [outsAt0_A m c t h]
    frame_out
    refine ((loop_end _ _ _ _ _ _ _ _ _ _ _ _ _ _ _ _ _ _ _ _ _ _ _ _ _ _ _ _ _ _ _ _ _ _ _ _ _ _ (AT m c t) (BT m c t) (View.read_writes_full _ _ _ _ _) (View.read_writes_full _ _ _ _ _) (AT_range m c t) _ _ hi).2 r d).trans ?_
    exact tile_states m c t _ (by omega) d
  · intro r n
    rw [outsAt0_A m c t h]
    frame_out
    exact coefs m c t 0 r n
  · intro d
    rw [outsAt0_A m c t h]
    frame_out
    rw [p6]
    refine ((loop_end _ _ _ _ _ _ _ _ _ _ _ _ _ _ _ _ _ _ _ _ _ _ _ _ _ _ _ _ _ _ _ _ _ _ _ _ _ _ (AT m c t) (BT m c t) (View.read_writes_full _ _ _ _ _) (View.read_writes_full _ _ _ _ _) (AT_range m c t) _ _ hi).1 _ d).trans ?_
    exact tile_states m c t _ (by omega) d
  · intro d
    rw [outsAt0_A m c t h]
    frame_out
    rw [p5]
    refine ((loop_end _ _ _ _ _ _ _ _ _ _ _ _ _ _ _ _ _ _ _ _ _ _ _ _ _ _ _ _ _ _ _ _ _ _ _ _ _ _ (AT m c t) (BT m c t) (View.read_writes_full _ _ _ _ _) (View.read_writes_full _ _ _ _ _) (AT_range m c t) _ _ hi).1 _ d).trans ?_
    exact tile_states m c t _ (by omega) d

/-- A later tile, entered in the state the tile before left. -/
theorem good_B (h : ¬ t.val % 8 = 0)
    (hp : ∀ d, (outsAt0 m c (t.val - 1) (Nat.lt_of_le_of_lt (Nat.sub_le _ _) t.isLt)).2.2.2 (ix2 0 d) = state (args m c) (bat t) d (512 * (t.val % 8))) :
    Good m c t (outsAt0 m c t.val t.isLt) := by
  constructor
  · intro r d
    rw [outsAt0_B m c t h]
    frame_out
    refine ((loop_end _ _ _ _ _ _ _ _ _ _ _ _ _ _ _ _ _ _ _ _ _ _ _ _ _ _ _ _ _ _ _ _ _ _ _ _ _ _ (AT m c t) (BT m c t) (View.read_writes_full _ _ _ _ _) (View.read_writes_full _ _ _ _ _) (AT_range m c t) _ _ (fun r d => (p1 _ r d).trans ((congrFun (read_unread_whole _ _ _) _).trans (hp d)))).2 r d).trans ?_
    exact tile_states m c t _ (by omega) d
  · intro r n
    rw [outsAt0_B m c t h]
    frame_out
    exact coefs m c t 0 r n
  · intro d
    rw [outsAt0_B m c t h]
    frame_out
    rw [p6]
    refine ((loop_end _ _ _ _ _ _ _ _ _ _ _ _ _ _ _ _ _ _ _ _ _ _ _ _ _ _ _ _ _ _ _ _ _ _ _ _ _ _ (AT m c t) (BT m c t) (View.read_writes_full _ _ _ _ _) (View.read_writes_full _ _ _ _ _) (AT_range m c t) _ _ (fun r d => (p1 _ r d).trans ((congrFun (read_unread_whole _ _ _) _).trans (hp d)))).1 _ d).trans ?_
    exact tile_states m c t _ (by omega) d
  · intro d
    rw [outsAt0_B m c t h]
    frame_out
    rw [p5]
    refine ((loop_end _ _ _ _ _ _ _ _ _ _ _ _ _ _ _ _ _ _ _ _ _ _ _ _ _ _ _ _ _ _ _ _ _ _ _ _ _ _ (AT m c t) (BT m c t) (View.read_writes_full _ _ _ _ _) (View.read_writes_full _ _ _ _ _) (AT_range m c t) _ _ (fun r d => (p1 _ r d).trans ((congrFun (read_unread_whole _ _ _) _).trans (hp d)))).1 _ d).trans ?_
    exact tile_states m c t _ (by omega) d

/-- Every grid point leaves what it should. -/
theorem good : ∀ (n : ℕ) (hn : n < cfg0.N), Good m c ⟨n, hn⟩ (outsAt0 m c n hn)
  | 0, hn => good_A m c ⟨0, hn⟩ rfl
  | n + 1, hn => by
    by_cases h : (n + 1) % 8 = 0
    · exact good_A m c ⟨n + 1, hn⟩ h
    · refine good_B m c ⟨n + 1, hn⟩ h fun d => ?_
      refine ((good n (Nat.lt_of_succ_lt hn)).carry d).trans ?_
      have e : bat ⟨n, Nat.lt_of_succ_lt hn⟩ = bat ⟨n + 1, hn⟩ := Fin.ext (by show n / 8 = (n + 1) / 8; omega)
      rw [e]
      exact congrArg _ (by show 512 * (n % 8) + 512 = 512 * ((n + 1) % 8); omega)

end Cert.Proof.LruOut
end
-- ==== Proof.LruRefRun.lean ====
module

public import proofs.«01_k».proof.Proof.Gen.LruRefIdeal.Run
public import proofs.«01_k».proof.Proof.Gen.LruRefIdeal.Step

@[expose] public section

noncomputable section

/-! The reference of the recurrence call, run: its loop over the 4096 time steps as `step` iterated. -/

namespace Cert.Proof.LruRefRun

open Idealize.ShloMosaic Idealize.ShloMosaic.TcCoe Idealize.SL.Sem Idealize.ShloMosaic.StableHlo
open Cert.LruRefIdeal Cert.LruRefIdeal.Gen Cert.LruRefIdeal.Value
open Cert.LruRefIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v145_5) = s.main_v145_5
  f_6 : V0 (Proc.devRef .tc main_v145_6) = s.main_v145_6
  f_7 : V0 (Proc.devRef .tc main_v145_7) = s.main_v145_7
  f_0 : V0 (Proc.devRef .tc main_v145_0) = s.main_v145_0
  f_1 : V0 (Proc.devRef .tc main_v145_1) = s.main_v145_1
  f_2 : V0 (Proc.devRef .tc main_v145_2) = s.main_v145_2
  f_3 : V0 (Proc.devRef .tc main_v145_3) = s.main_v145_3
  n_4 : V0 (Proc.devRef .tc main_v145_4) = constantI S_ 32 (BitVec.ofNat 32 j)

variable {V0 s j}

set_option maxRecDepth 8192 in
/-- A value of the trip. -/
theorem al_0 (h : Holds V0 s j) : (constantI S_ 32 0#32 : (Proc.devRef .tc main_while0b_call3_c : DevRef τ sig).ty.Contents (Elt F)) = Cert.LruRefIdeal.Step.b0 j s := by
  unfold Cert.LruRefIdeal.Step.b0
  rfl
set_option maxRecDepth 8192 in
/-- A value of the trip. -/
theorem al_1 (h : Holds V0 s j) : (constantI S_ 32 0#32 : (Proc.devRef .tc main_while0b_call3_c_0 : DevRef τ sig).ty.Contents (Elt F)) = Cert.LruRefIdeal.Step.b1 j s := by
  unfold Cert.LruRefIdeal.Step.b1
  rfl
set_option maxRecDepth 8192 in
/-- A value of the trip. -/
theorem al_2 (h : Holds V0 s j) : (Host.dynamicSlice S1x4x256 (V0 (Proc.devRef .tc main_v145_0)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256 : (Proc.devRef .tc main_while0b_call3_v0 : DevRef τ sig).ty.Contents (Elt F)) = Cert.LruRefIdeal.Step.b2 j s := by
  unfold Cert.LruRefIdeal.Step.b2
  rw [← al_0 h, ← al_1 h, h.f_0, h.n_4]
  try rfl
set_option maxRecDepth 8192 in
/-- A value of the trip. -/
theorem al_3 (h : Holds V0 s j) : (shapeCast S4x256 (Host.dynamicSlice S1x4x256 (V0 (Proc.devRef .tc main_v145_0)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256) shapeCasts_S1x4x256_S4x256 : (Proc.devRef .tc main_while0b_v149 : DevRef τ sig).ty.Contents (Elt F)) = Cert.LruRefIdeal.Step.b3 j s := by
  unfold Cert.LruRefIdeal.Step.b3
  rw [← al_2 h]
  try rfl
set_option maxRecDepth 8192 in
/-- A value of the trip. -/
theorem al_4 (h : Holds V0 s j) : (constantI S_ 32 0#32 : (Proc.devRef .tc main_while0b_call4_c : DevRef τ sig).ty.Contents (Elt F)) = Cert.LruRefIdeal.Step.b4 j s := by
  unfold Cert.LruRefIdeal.Step.b4
  rfl
set_option maxRecDepth 8192 in
/-- A value of the trip. -/
theorem al_5 (h : Holds V0 s j) : (constantI S_ 32 0#32 : (Proc.devRef .tc main_while0b_call4_c_0 : DevRef τ sig).ty.Contents (Elt F)) = Cert.LruRefIdeal.Step.b5 j s := by
  unfold Cert.LruRefIdeal.Step.b5
  rfl
set_option maxRecDepth 8192 in
/-- A value of the trip. -/
theorem al_6 (h : Holds V0 s j) : (Host.dynamicSlice S1x4x256 (V0 (Proc.devRef .tc main_v145_1)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256 : (Proc.devRef .tc main_while0b_call4_v0 : DevRef τ sig).ty.Contents (Elt F)) = Cert.LruRefIdeal.Step.b6 j s := by
  unfold Cert.LruRefIdeal.Step.b6
  rw [← al_4 h, ← al_5 h, h.f_1, h.n_4]
  try rfl
set_option maxRecDepth 8192 in
/-- A value of the trip. -/
theorem al_7 (h : Holds V0 s j) : (shapeCast S4x256 (Host.dynamicSlice S1x4x256 (V0 (Proc.devRef .tc main_v145_1)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256) shapeCasts_S1x4x256_S4x256 : (Proc.devRef .tc main_while0b_v150 : DevRef τ sig).ty.Contents (Elt F)) = Cert.LruRefIdeal.Step.b7 j s := by
  unfold Cert.LruRefIdeal.Step.b7
  rw [← al_6 h]
  try rfl
set_option maxRecDepth 8192 in
/-- A value of the trip. -/
theorem al_8 (h : Holds V0 s j) : (constantI S_ 32 0#32 : (Proc.devRef .tc main_while0b_call5_c : DevRef τ sig).ty.Contents (Elt F)) = Cert.LruRefIdeal.Step.b8 j s := by
  unfold Cert.LruRefIdeal.Step.b8
  rfl
set_option maxRecDepth 8192 in
/-- A value of the trip. -/
theorem al_9 (h : Holds V0 s j) : (constantI S_ 32 0#32 : (Proc.devRef .tc main_while0b_call5_c_0 : DevRef τ sig).ty.Contents (Elt F)) = Cert.LruRefIdeal.Step.b9 j s := by
  unfold Cert.LruRefIdeal.Step.b9
  rfl
set_option maxRecDepth 8192 in
/-- A value of the trip. -/
theorem al_10 (h : Holds V0 s j) : (Host.dynamicSlice S1x4x256 (V0 (Proc.devRef .tc main_v145_2)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256 : (Proc.devRef .tc main_while0b_call5_v0 : DevRef τ sig).ty.Contents (Elt F)) = Cert.LruRefIdeal.Step.b10 j s := by
  unfold Cert.LruRefIdeal.Step.b10
  rw [← al_8 h, ← al_9 h, h.f_2, h.n_4]
  try rfl
set_option maxRecDepth 8192 in
/-- A value of the trip. -/
theorem al_11 (h : Holds V0 s j) : (shapeCast S4x256 (Host.dynamicSlice S1x4x256 (V0 (Proc.devRef .tc main_v145_2)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256) shapeCasts_S1x4x256_S4x256 : (Proc.devRef .tc main_while0b_v151 : DevRef τ sig).ty.Contents (Elt F)) = Cert.LruRefIdeal.Step.b11 j s := by
  unfold Cert.LruRefIdeal.Step.b11
  rw [← al_10 h]
  try rfl
set_option maxRecDepth 8192 in
/-- A value of the trip. -/
theorem al_12 (h : Holds V0 s j) : (constantI S_ 32 0#32 : (Proc.devRef .tc main_while0b_call6_c : DevRef τ sig).ty.Contents (Elt F)) = Cert.LruRefIdeal.Step.b12 j s := by
  unfold Cert.LruRefIdeal.Step.b12
  rfl
set_option maxRecDepth 8192 in
/-- A value of the trip. -/
theorem al_13 (h : Holds V0 s j) : (constantI S_ 32 0#32 : (Proc.devRef .tc main_while0b_call6_c_0 : DevRef τ sig).ty.Contents (Elt F)) = Cert.LruRefIdeal.Step.b13 j s := by
  unfold Cert.LruRefIdeal.Step.b13
  rfl
set_option maxRecDepth 8192 in
/-- A value of the trip. -/
theorem al_14 (h : Holds V0 s j) : (Host.dynamicSlice S1x4x256 (V0 (Proc.devRef .tc main_v145_3)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256 : (Proc.devRef .tc main_while0b_call6_v0 : DevRef τ sig).ty.Contents (Elt F)) = Cert.LruRefIdeal.Step.b14 j s := by
  unfold Cert.LruRefIdeal.Step.b14
  rw [← al_12 h, ← al_13 h, h.f_3, h.n_4]
  try rfl
set_option maxRecDepth 8192 in
/-- A value of the trip. -/
theorem al_15 (h : Holds V0 s j) : (shapeCast S4x256 (Host.dynamicSlice S1x4x256 (V0 (Proc.devRef .tc main_v145_3)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256) shapeCasts_S1x4x256_S4x256 : (Proc.devRef .tc main_while0b_v152 : DevRef τ sig).ty.Contents (Elt F)) = Cert.LruRefIdeal.Step.b15 j s := by
  unfold Cert.LruRefIdeal.Step.b15
  rw [← al_14 h]
  try rfl
set_option maxRecDepth 8192 in
/-- A value of the trip. -/
theorem al_16 (h : Holds V0 s j) : (mulf (shapeCast S4x256 (Host.dynamicSlice S1x4x256 (V0 (Proc.devRef .tc main_v145_0)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256) shapeCasts_S1x4x256_S4x256) (V0 (Proc.devRef .tc main_v145_5)) : (Proc.devRef .tc main_while0b_v153 : DevRef τ sig).ty.Contents (Elt F)) = Cert.LruRefIdeal.Step.b16 j s := by
  unfold Cert.LruRefIdeal.Step.b16
  rw [← al_3 h, h.f_5]
  try rfl
set_option maxRecDepth 8192 in
/-- A value of the trip. -/
theorem al_17 (h : Holds V0 s j) : (res_main_while0b_v154 V0 : (Proc.devRef .tc main_while0b_v154 : DevRef τ sig).ty.Contents (Elt F)) = Cert.LruRefIdeal.Step.b17 j s := by
  unfold res_main_while0b_v154 Cert.LruRefIdeal.Step.b17
  rw [← al_16 h, ← al_7 h]
  try rfl
set_option maxRecDepth 8192 in
/-- A value of the trip. -/
theorem al_18 (h : Holds V0 s j) : (concatenate S4x512 1 [⟨S4x256, (shapeCast S4x256 (Host.dynamicSlice S1x4x256 (V0 (Proc.devRef .tc main_v145_2)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256) shapeCasts_S1x4x256_S4x256)⟩, ⟨S4x256, (shapeCast S4x256 (Host.dynamicSlice S1x4x256 (V0 (Proc.devRef .tc main_v145_3)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256) shapeCasts_S1x4x256_S4x256)⟩] concatenates_S4x256_S4x256_S4x512_d1 : (Proc.devRef .tc main_while0b_v155 : DevRef τ sig).ty.Contents (Elt F)) = Cert.LruRefIdeal.Step.b18 j s := by
  unfold Cert.LruRefIdeal.Step.b18
  rw [← al_11 h, ← al_15 h]
  try rfl
set_option maxRecDepth 8192 in
/-- A value of the trip. -/
theorem al_19 (h : Holds V0 s j) : (broadcastInDim S1x4x256 ![1, 2] bcast_S4x256_S1x4x256_1_2 (res_main_while0b_v154 V0) : (Proc.devRef .tc main_while0b_call7_v0 : DevRef τ sig).ty.Contents (Elt F)) = Cert.LruRefIdeal.Step.b19 j s := by
  unfold Cert.LruRefIdeal.Step.b19
  rw [← al_17 h]
  try rfl
set_option maxRecDepth 8192 in
/-- A value of the trip. -/
theorem al_20 (h : Holds V0 s j) : (constantI S_ 32 0#32 : (Proc.devRef .tc main_while0b_call7_c : DevRef τ sig).ty.Contents (Elt F)) = Cert.LruRefIdeal.Step.b20 j s := by
  unfold Cert.LruRefIdeal.Step.b20
  rfl
set_option maxRecDepth 8192 in
/-- A value of the trip. -/
theorem al_21 (h : Holds V0 s j) : (constantI S_ 32 0#32 : (Proc.devRef .tc main_while0b_call7_c_0 : DevRef τ sig).ty.Contents (Elt F)) = Cert.LruRefIdeal.Step.b21 j s := by
  unfold Cert.LruRefIdeal.Step.b21
  rfl
set_option maxRecDepth 8192 in
/-- A value of the trip. -/
theorem al_22 (h : Holds V0 s j) : (Host.dynamicUpdateSlice (V0 (Proc.devRef .tc main_v145_6)) (broadcastInDim S1x4x256 ![1, 2] bcast_S4x256_S1x4x256_1_2 (res_main_while0b_v154 V0)) (fun k => (((![V0 (Proc.devRef .tc main_v145_4), constantI S_ 32 0#32, constantI S_ 32 0#32] : Fin 3 → (⟨S_, .i32⟩ : BufTy).Contents (Elt F))) k (Shape.Idx.first h_S_)).toInt) updateFits_S4096x4x256_S1x4x256 : (Proc.devRef .tc main_while0b_v156 : DevRef τ sig).ty.Contents (Elt F)) = Cert.LruRefIdeal.Step.b22 j s := by
  unfold Cert.LruRefIdeal.Step.b22
  rw [← al_19 h, ← al_20 h, ← al_21 h, h.f_6, h.n_4]
  try rfl
set_option maxRecDepth 8192 in
/-- A value of the trip. -/
theorem al_23 (h : Holds V0 s j) : (broadcastInDim S1x4x512 ![1, 2] bcast_S4x512_S1x4x512_1_2 (concatenate S4x512 1 [⟨S4x256, (shapeCast S4x256 (Host.dynamicSlice S1x4x256 (V0 (Proc.devRef .tc main_v145_2)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256) shapeCasts_S1x4x256_S4x256)⟩, ⟨S4x256, (shapeCast S4x256 (Host.dynamicSlice S1x4x256 (V0 (Proc.devRef .tc main_v145_3)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256) shapeCasts_S1x4x256_S4x256)⟩] concatenates_S4x256_S4x256_S4x512_d1) : (Proc.devRef .tc main_while0b_call8_v0 : DevRef τ sig).ty.Contents (Elt F)) = Cert.LruRefIdeal.Step.b23 j s := by
  unfold Cert.LruRefIdeal.Step.b23
  rw [← al_18 h]
  try rfl
set_option maxRecDepth 8192 in
/-- A value of the trip. -/
theorem al_24 (h : Holds V0 s j) : (constantI S_ 32 0#32 : (Proc.devRef .tc main_while0b_call8_c : DevRef τ sig).ty.Contents (Elt F)) = Cert.LruRefIdeal.Step.b24 j s := by
  unfold Cert.LruRefIdeal.Step.b24
  rfl
set_option maxRecDepth 8192 in
/-- A value of the trip. -/
theorem al_25 (h : Holds V0 s j) : (constantI S_ 32 0#32 : (Proc.devRef .tc main_while0b_call8_c_0 : DevRef τ sig).ty.Contents (Elt F)) = Cert.LruRefIdeal.Step.b25 j s := by
  unfold Cert.LruRefIdeal.Step.b25
  rfl
set_option maxRecDepth 8192 in
/-- A value of the trip. -/
theorem al_26 (h : Holds V0 s j) : (Host.dynamicUpdateSlice (V0 (Proc.devRef .tc main_v145_7)) (broadcastInDim S1x4x512 ![1, 2] bcast_S4x512_S1x4x512_1_2 (concatenate S4x512 1 [⟨S4x256, (shapeCast S4x256 (Host.dynamicSlice S1x4x256 (V0 (Proc.devRef .tc main_v145_2)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256) shapeCasts_S1x4x256_S4x256)⟩, ⟨S4x256, (shapeCast S4x256 (Host.dynamicSlice S1x4x256 (V0 (Proc.devRef .tc main_v145_3)) (fun k => (((![V0 (Proc.devRef .tc main_v145_4), constantI S_ 32 0#32, constantI S_ 32 0#32] : Fin 3 → (⟨S_, .i32⟩ : BufTy).Contents (Elt F))) k (Shape.Idx.first h_S_)).toInt) sliceFits_S4096x4x256_S1x4x256) shapeCasts_S1x4x256_S4x256)⟩] concatenates_S4x256_S4x256_S4x512_d1)) (fun k => (((![V0 (Proc.devRef .tc main_v145_4), constantI S_ 32 0#32, constantI S_ 32 0#32] : Fin 3 → (⟨S_, .i32⟩ : BufTy).Contents (Elt F))) k (Shape.Idx.first h_S_)).toInt) updateFits_S4096x4x512_S1x4x512 : (Proc.devRef .tc main_while0b_v157 : DevRef τ sig).ty.Contents (Elt F)) = Cert.LruRefIdeal.Step.b26 j s := by
  unfold Cert.LruRefIdeal.Step.b26
  rw [← al_23 h, ← al_24 h, ← al_25 h, h.f_7, h.n_4]
  try rfl

/-! One trip's step of the carried values is `step`, field by field; a counter steps to the next number. -/

/-- The field steps as `step` has it. -/
theorem step_5 (h : Holds V0 s j) : step_main_v145_5 V0 = (step j s).main_v145_5 := by
  unfold step_main_v145_5 Cert.LruRefIdeal.Step.step
  show id (res_main_while0b_v154 V0) = _
  rw [al_17 h]
  try rfl
/-- The field steps as `step` has it. -/
theorem step_6 (h : Holds V0 s j) : step_main_v145_6 V0 = (step j s).main_v145_6 := by
  exact al_22 h
/-- The field steps as `step` has it. -/
theorem step_7 (h : Holds V0 s j) : step_main_v145_7 V0 = (step j s).main_v145_7 := by
  exact al_26 h
/-- The field steps as `step` has it. -/
theorem step_4 (h : Holds V0 s j) : step_main_v145_4 V0 = constantI S_ 32 (BitVec.ofNat 32 (j + 1)) := by
  unfold step_main_v145_4
  rw [h.n_4]
  funext i
  show BitVec.ofNat 32 j + 1#32 = BitVec.ofNat 32 (j + 1)
  simp only [BitVec.ofNat_add]

set_option maxRecDepth 8192 in
/-- A result, of the last state. -/
theorem out_main_v146_holds (h : Holds V0 s j) : out_main_v146 V0 = Cert.LruRefIdeal.Step.R_main_v146 s := by
  unfold out_main_v146 Cert.LruRefIdeal.Step.R_main_v146
  rw [h.f_6]
  try rfl

set_option maxRecDepth 8192 in
/-- A result, of the last state. -/
theorem out_main_v147_holds (h : Holds V0 s j) : out_main_v147 V0 = Cert.LruRefIdeal.Step.R_main_v147 s := by
  unfold out_main_v147 Cert.LruRefIdeal.Step.R_main_v147
  rw [h.f_7]
  try rfl

set_option maxRecDepth 8192 in
/-- A result, of the last state. -/
theorem out_main_v148_holds (h : Holds V0 s j) : out_main_v148 V0 = Cert.LruRefIdeal.Step.R_main_v148 s := by
  unfold out_main_v148 Cert.LruRefIdeal.Step.R_main_v148
  rw [h.f_5]
  try rfl

/-- One trip keeps the valuation holding: `step` of the state, the same set-up values, the next number. -/
theorem holds_step (h : Holds V0 s j) : Holds (STEP V0) (step j s) (j + 1) where
  f_5 := (STEP_main_v145_5 V0).trans (step_5 h)
  f_6 := (STEP_main_v145_6 V0).trans (step_6 h)
  f_7 := (STEP_main_v145_7 V0).trans (step_7 h)
  n_4 := (STEP_main_v145_4 V0).trans (step_4 h)
  f_0 := (STEP_main_v145_0 V0).trans h.f_0
  f_1 := (STEP_main_v145_1 V0).trans h.f_1
  f_2 := (STEP_main_v145_2 V0).trans h.f_2
  f_3 := (STEP_main_v145_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

variable (m : (ℓ : Loc nD τ sig) → Buf (Elt F) ℓ) (c : Dev nD)

set_option maxRecDepth 65536 in
set_option maxHeartbeats 1100000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results by iterating `step`: every weakly fair execution of `LruRefIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v146) = Cert.LruRefIdeal.Step.R_main_v146 (it c 4096)
      ∧ r.2.mem ((c.tc : Thread nD τ).loc main_v147) = Cert.LruRefIdeal.Step.R_main_v147 (it c 4096)
      ∧ r.2.mem ((c.tc : Thread nD τ).loc main_v148) = Cert.LruRefIdeal.Step.R_main_v148 (it c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 4096
    ⟨(h c).1.trans (out_main_v146_holds hk), (h c).2.1.trans (out_main_v147_holds hk), (h c).2.2.1.trans (out_main_v148_holds hk), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.Proof.LruRefRun

end
-- ==== Proof.LruRef.lean ====
/- The reference of the recurrence call, element by element: its gates, its scan and its results. -/
module

public import Idealize.ShloMosaic.Lib.DynamicIndex
public import proofs.«01_k».proof.Proof.LruRefRun
public import proofs.«01_k».proof.Proof.LruSpec
public import Idealize.ShloMosaic.Lib.Pipeline.ValueKit
public import Idealize.ShloMosaic.Lib.Pointwise
public import Idealize.ShloMosaic.Lib.Claim

@[expose] public section

set_option maxRecDepth 16384

noncomputable section
namespace Cert.Proof.LruRef
open Idealize.ShloMosaic Idealize.ShloMosaic.TcCoe Idealize.SL.Sem
open Cert.LruRefIdeal Cert.LruRefIdeal.Step
open Cert.Proof.LruMath Cert.Proof.LruSpec
variable (A : Args)

/-- The constant one. -/
theorem one32 : FloatOps.ofBits (F := Ideal) .f32 0x3F800000#32 = 1 := by pointwise []

/-- The padding's value is zero. -/
theorem pad0 : FloatOps.sitofp (F := Ideal) .f32 0#32 = (0 : EReal) := by
  show ((((0#32 : BitVec 32).toInt : ℤ) : ℝ) : EReal) = 0
  simp

/-- A last summand moved to the front. -/
theorem sum5 (a b c d e : EReal) : a + b + c + d + e = e + a + b + c + d := by
  rw [add_comm _ e]
  simp only [add_assoc]

/-- The reference's convolution. -/
theorem conv37 (b : Fin 4) (t : Fin 4096) (d : Fin 256) :
    A_main_v37 (F := Ideal) A.px A.cw A.cb A.wa A.ba A.wx A.bx A.lam A.h0 (ix3 b t d) = conv A b t d := by
  pointwise [A_main_v0, A_main_v1, A_main_v2, A_main_v3, A_main_v4, A_main_v5, A_main_v6, A_main_v7, A_main_v8, A_main_v9, A_main_v10, A_main_v11, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v36, A_main_v37, K_main_v12, K_main_cst, K_main_call0_v0, K_main_c]
  rw [pad0]
  have e0 : tap A b d t.val = if h : 2 ≤ t.val ∧ t.val - 2 < 4096 then A.px (ix3 b ⟨t.val - 2, by omega⟩ ⟨d.val, by omega⟩) else 0 := by
    unfold tap; exact dite_congr (propext ⟨fun h => by omega, fun h => by omega⟩) (fun _ => rfl) (fun _ => rfl)
  have e1 : tap A b d (t.val + 1) = if h : 2 ≤ 1 + t.val ∧ 1 + t.val - 2 < 4096 then A.px (ix3 b ⟨1 + t.val - 2, by omega⟩ ⟨d.val, by omega⟩) else 0 := by
    unfold tap; simp only [Nat.add_comm t.val 1]; exact dite_congr (propext ⟨fun h => by omega, fun h => by omega⟩) (fun _ => rfl) (fun _ => rfl)
  have e2 : tap A b d (t.val + 2) = A.px (ix3 b t ⟨d.val, by omega⟩) := by
    unfold tap; rw [dif_pos (by omega)]; simp only [Nat.add_sub_cancel]
  have e3 : tap A b d (t.val + 3) = if h : 2 ≤ 3 + t.val ∧ 3 + t.val - 2 < 4096 then A.px (ix3 b ⟨3 + t.val - 2, by omega⟩ ⟨d.val, by omega⟩) else 0 := by
    unfold tap; simp only [Nat.add_comm t.val 3]; exact dite_congr (propext ⟨fun h => by omega, fun h => by omega⟩) (fun _ => rfl) (fun _ => rfl)
  simp only [conv, e0, e1, e2, e3]
  exact sum5 _ _ _ _ _

/-- The forward decay gate before the logistic function. -/
theorem pre54 (b : Fin 4) (t : Fin 4096) (d : Fin 256) :
    A_main_v54 (F := Ideal) A.px A.cw A.cb A.wa A.ba A.wx A.bx A.lam A.h0 (ix3 b t d) = pre A.wa A.ba 0 (conv A b t) d := by
  simp only [pre, ← conv37]
  generalize hg : A_main_v37 (F := Ideal) A.px A.cw A.cb A.wa A.ba A.wx A.bx A.lam A.h0 = g
  pointwise [A_main_v38, A_main_v39, A_main_v40, A_main_v41, A_main_v48, A_main_v49, A_main_v50, A_main_v51, A_main_v52, A_main_v53, A_main_v54]
  rw [hg]
  refine congrArg (· + _) (Finset.sum_congr rfl fun k _ => ?_)
  rw [mul_comm]
  simp only [Nat.mul_comm 64]

/-- The forward input gate before the logistic function. -/
theorem pre66 (b : Fin 4) (t : Fin 4096) (d : Fin 256) :
    A_main_v66 (F := Ideal) A.px A.cw A.cb A.wa A.ba A.wx A.bx A.lam A.h0 (ix3 b t d) = pre A.wx A.bx 0 (conv A b t) d := by
  simp only [pre, ← conv37]
  generalize hg : A_main_v37 (F := Ideal) A.px A.cw A.cb A.wa A.ba A.wx A.bx A.lam A.h0 = g
  pointwise [A_main_v42, A_main_v43, A_main_v44, A_main_v45, A_main_v48, A_main_v61, A_main_v62, A_main_v63, A_main_v64, A_main_v65, A_main_v66]
  rw [hg]
  refine congrArg (· + _) (Finset.sum_congr rfl fun k _ => ?_)
  rw [mul_comm]
  simp only [Nat.mul_comm 64]

/-- The forward log decay. -/
theorem log79 (b : Fin 4) (t : Fin 4096) (d : Fin 256) :
    A_main_v79 (F := Ideal) A.px A.cw A.cb A.wa A.ba A.wx A.bx A.lam A.h0 (ix3 b t d) = logA (pre A.wa A.ba 0 (conv A b t) d) (A.lam (ix3 3 0 d)) := by
  rw [← pre54]
  generalize hg : A_main_v54 (F := Ideal) A.px A.cw A.cb A.wa A.ba A.wx A.bx A.lam A.h0 = g
  pointwise [A_main_v79, A_main_v78, A_main_v77, A_main_v76, A_main_call1_v11, A_main_call1_v10, A_main_call1_v9, A_main_call1_v8, A_main_call1_v7, A_main_call1_v6, A_main_call1_v4, A_main_call1_v3, A_main_call1_v1, A_main_v75, A_main_v74, A_main_v60, A_main_v58, A_main_v56, A_main_v55, A_main_v47, A_main_v46, K_main_v57, K_main_v59, K_main_v73, K_main_call1_v0, K_main_call1_v2, K_main_call1_v5, K_main_call1_cst, K_main_cst_0, K_main_cst_1, K_main_cst_4, K_main_cst_6, K_main_cst_7, K_main_cst_10, logA, softp, sigm]
  rw [hg, bits_neg_eight, if_neg (not_not.mpr rfl)]
  rfl

/-- The forward decay. -/
theorem dec80 (b : Fin 4) (t : Fin 4096) (d : Fin 256) :
    A_main_v80 (F := Ideal) A.px A.cw A.cb A.wa A.ba A.wx A.bx A.lam A.h0 (ix3 b t d) = ca A 0 b d t := by
  rw [ca, decay, ← log79]
  generalize hg : A_main_v79 (F := Ideal) A.px A.cw A.cb A.wa A.ba A.wx A.bx A.lam A.h0 = g
  pointwise [A_main_v80]
  rw [hg]

/-- What a forward step adds. -/
theorem add87 (b : Fin 4) (t : Fin 4096) (d : Fin 256) :
    A_main_v87 (F := Ideal) A.px A.cw A.cb A.wa A.ba A.wx A.bx A.lam A.h0 (ix3 b t d) = LruSpec.cb A 0 b d t := by
  rw [LruSpec.cb, drive, ← log79, ← pre66, ← conv37, sigm]
  generalize hg : A_main_v79 (F := Ideal) A.px A.cw A.cb A.wa A.ba A.wx A.bx A.lam A.h0 = g
  generalize hp : A_main_v66 (F := Ideal) A.px A.cw A.cb A.wa A.ba A.wx A.bx A.lam A.h0 = p
  generalize hc : A_main_v37 (F := Ideal) A.px A.cw A.cb A.wa A.ba A.wx A.bx A.lam A.h0 = x
  pointwise [A_main_v87, A_main_v86, A_main_v85, A_main_v84, A_main_v83, A_main_v82, A_main_v72, A_main_v70, A_main_v68, A_main_v67, K_main_v69, K_main_v71, K_main_v81, K_main_cst_2, K_main_cst_3, K_main_cst_5, K_main_cst_8, K_main_cst_9, K_main_cst_11]
  rw [hg, hp, hc, bits_two]

/-- The backward decay gate before the logistic function. -/
theorem pre104 (b : Fin 4) (t : Fin 4096) (d : Fin 256) :
    A_main_v104 (F := Ideal) A.px A.cw A.cb A.wa A.ba A.wx A.bx A.lam A.h0 (ix3 b t d) = pre A.wa A.ba 1 (conv A b t) d := by
  simp only [pre, ← conv37]
  generalize hg : A_main_v37 (F := Ideal) A.px A.cw A.cb A.wa A.ba A.wx A.bx A.lam A.h0 = g
  pointwise [A_main_v88, A_main_v89, A_main_v90, A_main_v91, A_main_v98, A_main_v99, A_main_v100, A_main_v101, A_main_v102, A_main_v103, A_main_v104]
  rw [hg]
  refine congrArg (· + _) (Finset.sum_congr rfl fun k _ => ?_)
  rw [mul_comm]
  simp only [Nat.mul_comm 64]

/-- The backward input gate before the logistic function. -/
theorem pre116 (b : Fin 4) (t : Fin 4096) (d : Fin 256) :
    A_main_v116 (F := Ideal) A.px A.cw A.cb A.wa A.ba A.wx A.bx A.lam A.h0 (ix3 b t d) = pre A.wx A.bx 1 (conv A b t) d := by
  simp only [pre, ← conv37]
  generalize hg : A_main_v37 (F := Ideal) A.px A.cw A.cb A.wa A.ba A.wx A.bx A.lam A.h0 = g
  pointwise [A_main_v92, A_main_v93, A_main_v94, A_main_v95, A_main_v98, A_main_v111, A_main_v112, A_main_v113, A_main_v114, A_main_v115, A_main_v116]
  rw [hg]
  refine congrArg (· + _) (Finset.sum_congr rfl fun k _ => ?_)
  rw [mul_comm]
  simp only [Nat.mul_comm 64]

/-- The backward log decay. -/
theorem log129 (b : Fin 4) (t : Fin 4096) (d : Fin 256) :
    A_main_v129 (F := Ideal) A.px A.cw A.cb A.wa A.ba A.wx A.bx A.lam A.h0 (ix3 b t d) = logA (pre A.wa A.ba 1 (conv A b t) d) (A.lam (ix3 3 1 d)) := by
  rw [← pre104]
  generalize hg : A_main_v104 (F := Ideal) A.px A.cw A.cb A.wa A.ba A.wx A.bx A.lam A.h0 = g
  pointwise [A_main_v129, A_main_v128, A_main_v127, A_main_v126, A_main_call2_v11, A_main_call2_v10, A_main_call2_v9, A_main_call2_v8, A_main_call2_v7, A_main_call2_v6, A_main_call2_v4, A_main_call2_v3, A_main_call2_v1, A_main_v125, A_main_v124, A_main_v110, A_main_v108, A_main_v106, A_main_v105, A_main_v97, A_main_v96, K_main_v107, K_main_v109, K_main_v123, K_main_call2_v0, K_main_call2_v2, K_main_call2_v5, K_main_call2_cst, K_main_cst_0, K_main_cst_1, K_main_cst_4, K_main_cst_6, K_main_cst_7, K_main_cst_10, logA, softp, sigm]
  rw [hg, bits_neg_eight, if_neg (not_not.mpr rfl)]
  rfl

/-- The backward decay. -/
theorem dec130 (b : Fin 4) (t : Fin 4096) (d : Fin 256) :
    A_main_v130 (F := Ideal) A.px A.cw A.cb A.wa A.ba A.wx A.bx A.lam A.h0 (ix3 b t d) = ca A 1 b d t := by
  rw [ca, decay, ← log129]
  generalize hg : A_main_v129 (F := Ideal) A.px A.cw A.cb A.wa A.ba A.wx A.bx A.lam A.h0 = g
  pointwise [A_main_v130]
  rw [hg]

/-- What a backward step adds. -/
theorem add137 (b : Fin 4) (t : Fin 4096) (d : Fin 256) :
    A_main_v137 (F := Ideal) A.px A.cw A.cb A.wa A.ba A.wx A.bx A.lam A.h0 (ix3 b t d) = LruSpec.cb A 1 b d t := by
  rw [LruSpec.cb, drive, ← log129, ← pre116, ← conv37, sigm]
  generalize hg : A_main_v129 (F := Ideal) A.px A.cw A.cb A.wa A.ba A.wx A.bx A.lam A.h0 = g
  generalize hp : A_main_v116 (F := Ideal) A.px A.cw A.cb A.wa A.ba A.wx A.bx A.lam A.h0 = p
  generalize hc : A_main_v37 (F := Ideal) A.px A.cw A.cb A.wa A.ba A.wx A.bx A.lam A.h0 = x
  pointwise [A_main_v137, A_main_v136, A_main_v135, A_main_v134, A_main_v133, A_main_v132, A_main_v122, A_main_v120, A_main_v118, A_main_v117, K_main_v119, K_main_v121, K_main_v131, K_main_cst_2, K_main_cst_3, K_main_cst_5, K_main_cst_8, K_main_cst_9, K_main_cst_11]
  rw [hg, hp, hc, bits_two]

/-- Step `j` slices at row `j`, and at the start of the other axes. -/
theorem at256 (j : ℕ) (hj : j < 4096) (h : S1x4x256.rank = S4096x4x256.rank) :
    Host.clampedStart S4096x4x256 S1x4x256 h
        (fun k => BitVec.toInt (![constantI S_ 32 (BitVec.ofNat 32 j), constantI S_ 32 0#32, constantI S_ 32 0#32] k (Shape.Idx.first Gen.h_S_))) 0 = j
      ∧ Host.clampedStart S4096x4x256 S1x4x256 h
        (fun k => BitVec.toInt (![constantI S_ 32 (BitVec.ofNat 32 j), constantI S_ 32 0#32, constantI S_ 32 0#32] k (Shape.Idx.first Gen.h_S_))) 1 = 0
      ∧ Host.clampedStart S4096x4x256 S1x4x256 h
        (fun k => BitVec.toInt (![constantI S_ 32 (BitVec.ofNat 32 j), constantI S_ 32 0#32, constantI S_ 32 0#32] k (Shape.Idx.first Gen.h_S_))) 2 = 0 :=
  ⟨Host.clampedStart_of_le h _ 0 j (toInt_ofNat_of_lt (by omega)) (by show j + 1 ≤ 4096; omega),
    Host.clampedStart_of_le h _ 1 0 (toInt_ofNat_of_lt (by omega)) (Nat.le_refl _),
    Host.clampedStart_of_le h _ 2 0 (toInt_ofNat_of_lt (by omega)) (Nat.le_refl _)⟩

/-- Step `j` slices at row `j`, and at the start of the other axes. -/
theorem at512 (j : ℕ) (hj : j < 4096) (h : S1x4x512.rank = S4096x4x512.rank) :
    Host.clampedStart S4096x4x512 S1x4x512 h
        (fun k => BitVec.toInt (![constantI S_ 32 (BitVec.ofNat 32 j), constantI S_ 32 0#32, constantI S_ 32 0#32] k (Shape.Idx.first Gen.h_S_))) 0 = j
      ∧ Host.clampedStart S4096x4x512 S1x4x512 h
        (fun k => BitVec.toInt (![constantI S_ 32 (BitVec.ofNat 32 j), constantI S_ 32 0#32, constantI S_ 32 0#32] k (Shape.Idx.first Gen.h_S_))) 1 = 0
      ∧ Host.clampedStart S4096x4x512 S1x4x512 h
        (fun k => BitVec.toInt (![constantI S_ 32 (BitVec.ofNat 32 j), constantI S_ 32 0#32, constantI S_ 32 0#32] k (Shape.Idx.first Gen.h_S_))) 2 = 0 :=
  ⟨Host.clampedStart_of_le h _ 0 j (toInt_ofNat_of_lt (by omega)) (by show j + 1 ≤ 4096; omega),
    Host.clampedStart_of_le h _ 1 0 (toInt_ofNat_of_lt (by omega)) (Nat.le_refl _),
    Host.clampedStart_of_le h _ 2 0 (toInt_ofNat_of_lt (by omega)) (Nat.le_refl _)⟩

/-- The state after step `j`: the decay at `j` times the state, plus the drive at `j`. -/
theorem b17_apply (j : ℕ) (hj : j < 4096) (s : State Ideal) (b : Fin 4) (d : Fin 256) :
    b17 j s (ix2 b d) = s.main_v145_0 (ix3 ⟨j, hj⟩ b d) * s.main_v145_5 (ix2 b d) + s.main_v145_1 (ix3 ⟨j, hj⟩ b d) := by
  pointwise [b17, b16, b3, b7, b2, b6, b0, b1, b4, b5]
  simp only [at256 j hj, Nat.zero_add, Fin.eta]

/-- Step `j` writes the new state at row `j` of the stack of states. -/
theorem b22_apply (j : ℕ) (hj : j < 4096) (s : State Ideal) (t : Fin 4096) (b : Fin 4) (d : Fin 256) :
    b22 j s (ix3 t b d) = if t.val = j then b17 j s (ix2 b d) else s.main_v145_6 (ix3 t b d) := by
  pointwise [b22, b19, b20, b21]
  simp only [at256 j hj, Nat.sub_zero, Fin.eta]
  split_ifs <;> first | rfl | (exfalso; omega)

/-- The backward gates at row `j`, decay beside drive. -/
theorem b18_apply (j : ℕ) (hj : j < 4096) (s : State Ideal) (b : Fin 4) (d : Fin 512) :
    b18 j s (ix2 b d) = if h : d.val < 256 then s.main_v145_2 (ix3 ⟨j, hj⟩ b ⟨d.val, h⟩)
      else s.main_v145_3 (ix3 ⟨j, hj⟩ b ⟨d.val - 256, by omega⟩) := by
  pointwise [b18, b15, b14, b11, b10, b8, b9, b12, b13]
  simp only [at256 j hj, Nat.zero_add, Fin.eta]

/-- Step `j` writes the backward gates at row `j` of their stack. -/
theorem b26_apply (j : ℕ) (hj : j < 4096) (s : State Ideal) (t : Fin 4096) (b : Fin 4) (d : Fin 512) :
    b26 j s (ix3 t b d) = if t.val = j then b18 j s (ix2 b d) else s.main_v145_7 (ix3 t b d) := by
  pointwise [b26, b23, b24, b25]
  simp only [at512 j hj, Nat.sub_zero, Fin.eta]
  split_ifs <;> first | rfl | (exfalso; omega)

/-- What holds after `n` steps. -/
structure Inv (n : ℕ) (s : State Ideal) : Prop where
  fa : ∀ t b d, s.main_v145_0 (ix3 t b d) = ca A 0 b d t.val
  fb : ∀ t b d, s.main_v145_1 (ix3 t b d) = LruSpec.cb A 0 b d t.val
  ba : ∀ t b d, s.main_v145_2 (ix3 t b d) = ca A 1 b d t.val
  bb : ∀ t b d, s.main_v145_3 (ix3 t b d) = LruSpec.cb A 1 b d t.val
  h : ∀ b d, s.main_v145_5 (ix2 b d) = state A b d n
  hs : ∀ t b d, t.val < n → s.main_v145_6 (ix3 t b d) = state A b d (t.val + 1)
  ab : ∀ t b d, t.val < n → s.main_v145_7 (ix3 t b d) = coef A b t.val d

theorem inv_init : Inv A 0 (init A.px A.cw A.cb A.wa A.ba A.wx A.bx A.lam A.h0) where
  fa t b d := by
    refine Eq.trans ?_ (dec80 A b t d)
    unfold init; pointwise [A_main_v139]
  fb t b d := by
    refine Eq.trans ?_ (add87 A b t d)
    unfold init; pointwise [A_main_v140]
  ba t b d := by
    refine Eq.trans ?_ (dec130 A b t d)
    unfold init; pointwise [A_main_v141]
  bb t b d := by
    refine Eq.trans ?_ (add137 A b t d)
    unfold init; pointwise [A_main_v142]
  h b d := by
    unfold init; pointwise [A_main_v138]
    rfl
  hs t b d h := absurd h (Nat.not_lt_zero _)
  ab t b d h := absurd h (Nat.not_lt_zero _)

theorem inv_step (n : ℕ) (hn : n < 4096) (s : State Ideal) (I : Inv A n s) : Inv A (n + 1) (step n s) := by
  have h17 : ∀ b d, b17 n s (ix2 b d) = state A b d (n + 1) := fun b d => by
    rw [b17_apply n hn, I.fa, I.fb, I.h]
    rfl
  refine ⟨I.fa, I.fb, I.ba, I.bb, fun b d => h17 b d, fun t b d h => ?_, fun t b d h => ?_⟩
  · rw [step_main_v145_6, b22_apply n hn]
    split_ifs with e
    · rw [h17, e]
    · exact I.hs t b d (by omega)
  · rw [step_main_v145_7, b26_apply n hn]
    split_ifs with e
    · rw [b18_apply n hn, coef]
      simp only [I.ba, I.bb, e]
    · exact I.ab t b d (by omega)

theorem inv_iter (it : ℕ → State Ideal) (h0 : it 0 = init A.px A.cw A.cb A.wa A.ba A.wx A.bx A.lam A.h0)
    (hs : ∀ n, it (n + 1) = step n (it n)) : ∀ n ≤ 4096, Inv A n (it n) := by
  intro n
  induction n with
  | zero => intro _; rw [h0]; exact inv_init A
  | succ n ih => intro h; rw [hs]; exact inv_step A n (by omega) _ (ih (by omega))

/-- The states of the sequence. -/
theorem v146 (s : State Ideal) (I : Inv A 4096 s) (b : Fin 4) (t : Fin 4096) (d : Fin 256) :
    R_main_v146 s (ix3 b t d) = state A b d (t.val + 1) := by
  refine Eq.trans ?_ (I.hs t b d t.isLt)
  pointwise [R_main_v146]

/-- The backward gates of the sequence. -/
theorem v147 (s : State Ideal) (I : Inv A 4096 s) (b : Fin 4) (t : Fin 4096) (n : Fin 512) :
    R_main_v147 s (ix3 b t n) = coef A b t.val n := by
  refine Eq.trans ?_ (I.ab t b n t.isLt)
  pointwise [R_main_v147]

/-- The state after the whole sequence. -/
theorem v148 (s : State Ideal) (I : Inv A 4096 s) (b : Fin 4) (d : Fin 256) :
    R_main_v148 s (ix3 b 0 d) = state A b d 4096 := by
  refine Eq.trans ?_ (I.h b d)
  pointwise [R_main_v148]

end Cert.Proof.LruRef

end
-- ==== Proof.LruValue.lean ====
module

public import proofs.«01_k».proof.Defs
public import proofs.«01_k».proof.Proof.LruOut
public import proofs.«01_k».proof.Proof.LruRef
public import proofs.«01_k».proof.Proof.LruRefRun

@[expose] public section

set_option maxRecDepth 16384

noncomputable section

namespace Cert.Proof.Lru

open Idealize.ShloMosaic Idealize.ShloMosaic.TcCoe Idealize.SL.Sem
open Cert.LruIdeal Cert.LruIdeal.Gen
open Cert.Proof.LruSpec Cert.Proof.LruHost Cert.Proof.LruIdealFrame Cert.Proof.LruPoint Cert.Proof.LruOut
variable (m : (ℓ : Loc nD τ sig) → Buf (Elt Ideal) ℓ) (ρ : Dev nD → PrngReg)

/-- The call ends with each result as its grid points leave it, and its arguments unchanged. -/
theorem run_blocks : θ_run defs (onTc (τ := τ) (main (F := Ideal))) ⟨m, fun _ => 0, ρ⟩ fun r => ∀ c : Dev nD,
      r.2.mem ((c : Thread nD τ).loc main_v48_0) = (dats m 0 c).arrAt 9 cfg0.N
      ∧ r.2.mem ((c : Thread nD τ).loc main_v48_1) = (dats m 0 c).arrAt 10 cfg0.N
      ∧ r.2.mem ((c : Thread nD τ).loc main_v48_2) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 9, (h c).1 10, (h c).1 11,
    ((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).1 8).trans (((dats m 0 c).arrAt_in 8 rfl _).trans ((A_eq m c 8).trans (V_main_arg8 m c)))⟩) (run_main m ρ)

theorem state_eq (A : Args) {b b' : Fin 4} {d d' : Fin 256} {n n' : ℕ} (hb : b = b') (hd : d = d') (hn : n = n') :
    state A b d n = state A b' d' n' := by
  subst hb hd hn
  rfl

theorem coef_eq (A : Args) {b b' : Fin 4} {n n' : ℕ} {k k' : Fin 512} (hb : b = b') (hn : n = n') (hk : k = k') :
    coef A b n k = coef A b' n' k' := by
  subst hb hn hk
  rfl

/-- The last state is written back at a sequence's last tile only. -/
theorem last : ∀ t : Fin cfg0.N, (cfg0.win 11).flush t = true → t.val % 8 = 7 := by
  decide +kernel

/-- The states after every step. -/
theorem states_out (c : Dev nD) : (dats m 0 c).arrAt 9 cfg0.N = fun i : S4x4096x256.Idx => state (args m c) (i 0) (i 2) ((i 1).val + 1) := by
  refine (dats m 0 c).arrAt_eq_of_covers 9 _ (by decide +kernel) fun t hf y => ?_
  blk_simp
  rw [after0_9]
  idx_vars y
  obtain rfl : y0 = 0 := Subsingleton.elim _ _
  refine ((good m c t.val t.isLt).hf y1 y2).trans ?_
  obtain ⟨-, -, -, -, -, -, -, -, -, e, -⟩ := idx t
  refine state_eq _ (Fin.ext ?_) (Fin.ext ?_) ?_
  · blk_simp [e, bat]
    show t.val / 8 = _
    simp
  · blk_simp [e]
  · blk_simp [e]
    show 512 * (t.val % 8) + _ = _
    simp
    omega

/-- The coefficients of the backward recurrence. -/
theorem coefs_out (c : Dev nD) : (dats m 0 c).arrAt 10 cfg0.N = fun i : S4x4096x512.Idx => coef (args m c) (i 0) (i 1).val (i 2) := by
  refine (dats m 0 c).arrAt_eq_of_covers 10 _ (by decide +kernel) fun t hf y => ?_
  blk_simp
  rw [after0_10]
  idx_vars y
  obtain rfl : y0 = 0 := Subsingleton.elim _ _
  refine ((good m c t.val t.isLt).ab y1 y2).trans ?_
  obtain ⟨-, -, -, -, -, -, -, -, -, -, e, -⟩ := idx t
  refine coef_eq _ (Fin.ext ?_) ?_ (Fin.ext ?_)
  · blk_simp [e, bat]
    show t.val / 8 = _
    simp
  · blk_simp [e]
    show 512 * (t.val % 8) + _ = _
    simp
    omega
  · blk_simp [e]

/-- The state after the whole sequence. -/
theorem last_out (c : Dev nD) : (dats m 0 c).arrAt 11 cfg0.N = fun i : S4x1x256.Idx => state (args m c) (i 0) (i 2) 4096 := by
  refine (dats m 0 c).arrAt_eq_of_covers 11 _ (by decide +kernel) fun t hf y => ?_
  blk_simp
  rw [after0_11]
  idx_vars y
  obtain rfl : y0 = 0 := Subsingleton.elim _ _
  obtain rfl : y1 = 0 := Subsingleton.elim _ _
  refine ((good m c t.val t.isLt).hl y2).trans ?_
  obtain ⟨-, -, -, -, -, -, -, -, -, -, -, e, -⟩ := idx t
  refine state_eq _ (Fin.ext ?_) (Fin.ext ?_) ?_
  · blk_simp [e, bat]
    show t.val / 8 = _
    simp
  · blk_simp [e]
  · have h7 := last t hf
    show 512 * (t.val % 8) + _ = _
    omega

/-- The forward recurrence call of the last layer, idealized, computes the reference's results. -/
theorem algebraic : Cert.algebraic_LruIdeal_LruRefIdeal (hLruIdeal := Cert.LruIdeal.Gen.facts) (hLruRefIdeal := Cert.LruRefIdeal.Gen.facts) := by
  intro m g m' g' _ hagree
  let it : Dev nD → ℕ → LruRefIdeal.Step.State Ideal := fun c n => Nat.rec (LruRefRun.initState m' c) (fun n s => LruRefIdeal.Step.step n s) n
  have hI : ∀ c, LruRef.Inv (args m c) 4096 (it c 4096) := fun c => by
    refine LruRef.inv_iter (args m c) (it c) ?_ (fun n => rfl) 4096 (Nat.le_refl _)
    obtain ⟨h0, h1, h2, h3, h4, h5, h6, h7, h8⟩ := hagree c
    show LruRefRun.initState m' c = _
    unfold LruRefRun.initState args
    rw [h0, h1, h2, h3, h4, h5, h6, h7, h8]
  refine ⟨fun c i => state (args m c) (i 0) (i 2) ((i 1).val + 1), fun c i => coef (args m c) (i 0) (i 1).val (i 2),
    fun c i => state (args m c) (i 0) (i 2) 4096, ?_, ?_⟩
  · refine (θ_run _ _ _).mono (fun r h c => ?_) (run_blocks m g)
    obtain ⟨h0, h1, h2, hk⟩ := h c
    exact ⟨h0.trans (states_out m c), h1.trans (coefs_out m c), h2.trans (last_out m c), hk⟩
  · refine (θ_run _ _ _).mono (fun r h c => ?_) (LruRefRun.run_iter m' g' it (fun c => rfl) (fun c n => rfl))
    obtain ⟨h0, h1, h2, hk⟩ := h c
    refine ⟨h0.trans (funext fun i => ?_), h1.trans (funext fun i => ?_), h2.trans (funext fun i => ?_), hk⟩
    · idx_vars i
      exact LruRef.v146 _ _ (hI c) _ _ _
    · idx_vars i
      exact LruRef.v147 _ _ (hI c) _ _ _
    · idx_vars i
      obtain rfl : i1 = 0 := Subsingleton.elim _ _
      exact LruRef.v148 _ _ (hI c) _ _

end Cert.Proof.Lru

end
-- ==== Proof.lean ====
/- The proof of the claims: for every layer's feed-forward and in-projection call, on the latent and on the context stream, for the forward
   recurrence call of the last layer, for the modulation call and for the addition of the position table, the frames of the kernel, of the idealized kernel and of the idealized reference, that idealization preserves
   the kernel, and that the idealized kernel computes what the reference does (the modules Proof/*Value.lean). -/
module

public import proofs.«01_k».proof.Defs
public import proofs.«01_k».proof.Proof.Gen.Kernel.Frame
public import proofs.«01_k».proof.Proof.Gen.InProj.Frame
public import proofs.«01_k».proof.Proof.MlpValue
public import proofs.«01_k».proof.Proof.InProjValue
public import proofs.«01_k».proof.Proof.Gen.Mlp0.Frame
public import proofs.«01_k».proof.Proof.Gen.Mlp1.Frame
public import proofs.«01_k».proof.Proof.Gen.Mlp2.Frame
public import proofs.«01_k».proof.Proof.Gen.InProj0.Frame
public import proofs.«01_k».proof.Proof.Gen.InProj1.Frame
public import proofs.«01_k».proof.Proof.Gen.InProj2.Frame
public import proofs.«01_k».proof.Proof.Mlp0Value
public import proofs.«01_k».proof.Proof.Mlp1Value
public import proofs.«01_k».proof.Proof.Mlp2Value
public import proofs.«01_k».proof.Proof.InProj0Value
public import proofs.«01_k».proof.Proof.InProj1Value
public import proofs.«01_k».proof.Proof.InProj2Value
public import proofs.«01_k».proof.Proof.Gen.MlpCtx0.Frame
public import proofs.«01_k».proof.Proof.Gen.MlpCtx1.Frame
public import proofs.«01_k».proof.Proof.Gen.MlpCtx2.Frame
public import proofs.«01_k».proof.Proof.Gen.InProjCtx0.Frame
public import proofs.«01_k».proof.Proof.Gen.InProjCtx1.Frame
public import proofs.«01_k».proof.Proof.Gen.InProjCtx2.Frame
public import proofs.«01_k».proof.Proof.Gen.InProjCtx3.Frame
public import proofs.«01_k».proof.Proof.MlpCtx0Value
public import proofs.«01_k».proof.Proof.MlpCtx1Value
public import proofs.«01_k».proof.Proof.MlpCtx2Value
public import proofs.«01_k».proof.Proof.InProjCtx0Value
public import proofs.«01_k».proof.Proof.InProjCtx1Value
public import proofs.«01_k».proof.Proof.InProjCtx2Value
public import proofs.«01_k».proof.Proof.InProjCtx3Value
public import proofs.«01_k».proof.Proof.Gen.Mod.Frame
public import proofs.«01_k».proof.Proof.ModValue
public import proofs.«01_k».proof.Proof.Gen.Pos.Frame
public import proofs.«01_k».proof.Proof.PosValue
public import proofs.«01_k».proof.Proof.LruFrame
public import proofs.«01_k».proof.Proof.LruValue
public import Idealize.ShloMosaic.Adequacy
public import Idealize.ShloMosaic.Init

@[expose] public section

noncomputable section

namespace Cert.Proof

open Idealize.ShloMosaic Idealize.SL.Sem

/-- The reference of the feed-forward call keeps its arguments and leaves every semaphore at zero. -/
theorem frame_mlp_ref : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- The reference of the in-projection call keeps its arguments and leaves every semaphore at zero. -/
theorem frame_inproj_ref : Cert.quiescent_InProjRefIdeal (hInProjRefIdeal := Cert.InProjRefIdeal.Gen.facts) := fun m ρ _ =>
  (θ_run _ _ _).mono (fun r h => ⟨fun c => (h c).2, sem_eq_zero_of_no_sems (by decide) r.2⟩) (Cert.InProjRefIdeal.Value.run (F := Ideal) m ρ)

/-- The reference of the forward recurrence call keeps its arguments and leaves every semaphore at zero. -/
theorem frame_lru_ref : Cert.quiescent_LruRefIdeal (hLruRefIdeal := Cert.LruRefIdeal.Gen.facts) := fun m ρ _ =>
  let it : Dev Cert.LruRefIdeal.nD → ℕ → Cert.LruRefIdeal.Step.State Ideal := fun c n =>
    Nat.rec (LruRefRun.initState m c) (fun n s => Cert.LruRefIdeal.Step.step n s) n
  (θ_run _ _ _).mono (fun r h => ⟨fun c => (h c).2.2.2, sem_eq_zero_of_no_sems (by decide) r.2⟩)
    (LruRefRun.run_iter m ρ it (fun _ => rfl) (fun _ _ => rfl))

/-- The reference of layer 0's feed-forward call keeps its arguments and leaves every semaphore at zero. -/
theorem frame_mlp0_ref : Cert.quiescent_MlpRef0Ideal (hMlpRef0Ideal := Cert.MlpRef0Ideal.Gen.facts) := fun m ρ _ =>
  (θ_run _ _ _).mono (fun r h => ⟨fun c => (h c).2, sem_eq_zero_of_no_sems (by decide) r.2⟩) (Cert.MlpRef0Ideal.Value.run (F := Ideal) m ρ)

/-- The reference of layer 1's feed-forward call keeps its arguments and leaves every semaphore at zero. -/
theorem frame_mlp1_ref : Cert.quiescent_MlpRef1Ideal (hMlpRef1Ideal := Cert.MlpRef1Ideal.Gen.facts) := fun m ρ _ =>
  (θ_run _ _ _).mono (fun r h => ⟨fun c => (h c).2, sem_eq_zero_of_no_sems (by decide) r.2⟩) (Cert.MlpRef1Ideal.Value.run (F := Ideal) m ρ)

/-- The reference of layer 2's feed-forward call keeps its arguments and leaves every semaphore at zero. -/
theorem frame_mlp2_ref : Cert.quiescent_MlpRef2Ideal (hMlpRef2Ideal := Cert.MlpRef2Ideal.Gen.facts) := fun m ρ _ =>
  (θ_run _ _ _).mono (fun r h => ⟨fun c => (h c).2, sem_eq_zero_of_no_sems (by decide) r.2⟩) (Cert.MlpRef2Ideal.Value.run (F := Ideal) m ρ)

/-- The reference of layer 0's in-projection call keeps its arguments and leaves every semaphore at zero. -/
theorem frame_inproj0_ref : Cert.quiescent_InProjRef0Ideal (hInProjRef0Ideal := Cert.InProjRef0Ideal.Gen.facts) := fun m ρ _ =>
  (θ_run _ _ _).mono (fun r h => ⟨fun c => (h c).2, sem_eq_zero_of_no_sems (by decide) r.2⟩) (Cert.InProjRef0Ideal.Value.run (F := Ideal) m ρ)

/-- The reference of layer 1's in-projection call keeps its arguments and leaves every semaphore at zero. -/
theorem frame_inproj1_ref : Cert.quiescent_InProjRef1Ideal (hInProjRef1Ideal := Cert.InProjRef1Ideal.Gen.facts) := fun m ρ _ =>
  (θ_run _ _ _).mono (fun r h => ⟨fun c => (h c).2, sem_eq_zero_of_no_sems (by decide) r.2⟩) (Cert.InProjRef1Ideal.Value.run (F := Ideal) m ρ)

/-- The reference of layer 2's in-projection call keeps its arguments and leaves every semaphore at zero. -/
theorem frame_inproj2_ref : Cert.quiescent_InProjRef2Ideal (hInProjRef2Ideal := Cert.InProjRef2Ideal.Gen.facts) := fun m ρ _ =>
  (θ_run _ _ _).mono (fun r h => ⟨fun c => (h c).2, sem_eq_zero_of_no_sems (by decide) r.2⟩) (Cert.InProjRef2Ideal.Value.run (F := Ideal) m ρ)

/-- The reference of layer 0's feed-forward call on the context stream keeps its arguments and leaves every semaphore at zero. -/
theorem frame_mlp_ctx0_ref : Cert.quiescent_MlpCtxRef0Ideal (hMlpCtxRef0Ideal := Cert.MlpCtxRef0Ideal.Gen.facts) := fun m ρ _ =>
  (θ_run _ _ _).mono (fun r h => ⟨fun c => (h c).2, sem_eq_zero_of_no_sems (by decide) r.2⟩) (Cert.MlpCtxRef0Ideal.Value.run (F := Ideal) m ρ)

/-- The reference of layer 1's feed-forward call on the context stream keeps its arguments and leaves every semaphore at zero. -/
theorem frame_mlp_ctx1_ref : Cert.quiescent_MlpCtxRef1Ideal (hMlpCtxRef1Ideal := Cert.MlpCtxRef1Ideal.Gen.facts) := fun m ρ _ =>
  (θ_run _ _ _).mono (fun r h => ⟨fun c => (h c).2, sem_eq_zero_of_no_sems (by decide) r.2⟩) (Cert.MlpCtxRef1Ideal.Value.run (F := Ideal) m ρ)

/-- The reference of layer 2's feed-forward call on the context stream keeps its arguments and leaves every semaphore at zero. -/
theorem frame_mlp_ctx2_ref : Cert.quiescent_MlpCtxRef2Ideal (hMlpCtxRef2Ideal := Cert.MlpCtxRef2Ideal.Gen.facts) := fun m ρ _ =>
  (θ_run _ _ _).mono (fun r h => ⟨fun c => (h c).2, sem_eq_zero_of_no_sems (by decide) r.2⟩) (Cert.MlpCtxRef2Ideal.Value.run (F := Ideal) m ρ)

/-- The reference of layer 0's in-projection call on the context stream keeps its arguments and leaves every semaphore at zero. -/
theorem frame_inproj_ctx0_ref : Cert.quiescent_InProjCtxRef0Ideal (hInProjCtxRef0Ideal := Cert.InProjCtxRef0Ideal.Gen.facts) := fun m ρ _ =>
  (θ_run _ _ _).mono (fun r h => ⟨fun c => (h c).2, sem_eq_zero_of_no_sems (by decide) r.2⟩) (Cert.InProjCtxRef0Ideal.Value.run (F := Ideal) m ρ)

/-- The reference of layer 1's in-projection call on the context stream keeps its arguments and leaves every semaphore at zero. -/
theorem frame_inproj_ctx1_ref : Cert.quiescent_InProjCtxRef1Ideal (hInProjCtxRef1Ideal := Cert.InProjCtxRef1Ideal.Gen.facts) := fun m ρ _ =>
  (θ_run _ _ _).mono (fun r h => ⟨fun c => (h c).2, sem_eq_zero_of_no_sems (by decide) r.2⟩) (Cert.InProjCtxRef1Ideal.Value.run (F := Ideal) m ρ)

/-- The reference of layer 2's in-projection call on the context stream keeps its arguments and leaves every semaphore at zero. -/
theorem frame_inproj_ctx2_ref : Cert.quiescent_InProjCtxRef2Ideal (hInProjCtxRef2Ideal := Cert.InProjCtxRef2Ideal.Gen.facts) := fun m ρ _ =>
  (θ_run _ _ _).mono (fun r h => ⟨fun c => (h c).2, sem_eq_zero_of_no_sems (by decide) r.2⟩) (Cert.InProjCtxRef2Ideal.Value.run (F := Ideal) m ρ)

/-- The reference of layer 3's in-projection call on the context stream keeps its arguments and leaves every semaphore at zero. -/
theorem frame_inproj_ctx3_ref : Cert.quiescent_InProjCtxRef3Ideal (hInProjCtxRef3Ideal := Cert.InProjCtxRef3Ideal.Gen.facts) := fun m ρ _ =>
  (θ_run _ _ _).mono (fun r h => ⟨fun c => (h c).2, sem_eq_zero_of_no_sems (by decide) r.2⟩) (Cert.InProjCtxRef3Ideal.Value.run (F := Ideal) m ρ)

/-- The reference of the modulation call keeps its arguments and leaves every semaphore at zero. -/
theorem frame_mod_ref : Cert.quiescent_ModRefIdeal (hModRefIdeal := Cert.ModRefIdeal.Gen.facts) := fun m ρ _ =>
  (θ_run _ _ _).mono (fun r h => ⟨fun c => (h c).2, sem_eq_zero_of_no_sems (by decide) r.2⟩) (Cert.ModRefIdeal.Value.run (F := Ideal) m ρ)

/-- The reference of the position table's addition keeps its arguments and leaves every semaphore at zero. -/
theorem frame_pos_ref : Cert.quiescent_PosRefIdeal (hPosRefIdeal := Cert.PosRefIdeal.Gen.facts) := fun m ρ _ =>
  (θ_run _ _ _).mono (fun r h => ⟨fun c => (h c).2, sem_eq_zero_of_no_sems (by decide) r.2⟩) (Cert.PosRefIdeal.Value.run (F := Ideal) m ρ)

/-- All the claims. -/
theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.Lru.Gen.facts, Cert.LruIdeal.Gen.facts, Cert.LruRefIdeal.Gen.facts,
  Cert.Mlp0.Gen.facts, Cert.Mlp0Ideal.Gen.facts, Cert.MlpRef0Ideal.Gen.facts,
  Cert.Mlp1.Gen.facts, Cert.Mlp1Ideal.Gen.facts, Cert.MlpRef1Ideal.Gen.facts,
  Cert.Mlp2.Gen.facts, Cert.Mlp2Ideal.Gen.facts, Cert.MlpRef2Ideal.Gen.facts,
  Cert.InProj0.Gen.facts, Cert.InProj0Ideal.Gen.facts, Cert.InProjRef0Ideal.Gen.facts,
  Cert.InProj1.Gen.facts, Cert.InProj1Ideal.Gen.facts, Cert.InProjRef1Ideal.Gen.facts,
  Cert.InProj2.Gen.facts, Cert.InProj2Ideal.Gen.facts, Cert.InProjRef2Ideal.Gen.facts,
  Cert.MlpCtx0.Gen.facts, Cert.MlpCtx0Ideal.Gen.facts, Cert.MlpCtxRef0Ideal.Gen.facts,
  Cert.MlpCtx1.Gen.facts, Cert.MlpCtx1Ideal.Gen.facts, Cert.MlpCtxRef1Ideal.Gen.facts,
  Cert.MlpCtx2.Gen.facts, Cert.MlpCtx2Ideal.Gen.facts, Cert.MlpCtxRef2Ideal.Gen.facts,
  Cert.InProjCtx0.Gen.facts, Cert.InProjCtx0Ideal.Gen.facts, Cert.InProjCtxRef0Ideal.Gen.facts,
  Cert.InProjCtx1.Gen.facts, Cert.InProjCtx1Ideal.Gen.facts, Cert.InProjCtxRef1Ideal.Gen.facts,
  Cert.InProjCtx2.Gen.facts, Cert.InProjCtx2Ideal.Gen.facts, Cert.InProjCtxRef2Ideal.Gen.facts,
  Cert.InProjCtx3.Gen.facts, Cert.InProjCtx3Ideal.Gen.facts, Cert.InProjCtxRef3Ideal.Gen.facts,
  Cert.Mod.Gen.facts, Cert.ModIdeal.Gen.facts, Cert.ModRefIdeal.Gen.facts,
  Cert.Pos.Gen.facts, Cert.PosIdeal.Gen.facts, Cert.PosRefIdeal.Gen.facts,
  fun m ρ _ => Cert.Kernel.Gen.frame m ρ, fun m ρ _ => Cert.KernelIdeal.Gen.frame m ρ, frame_mlp_ref,
  fun m ρ _ => Cert.InProj.Gen.frame m ρ, fun m ρ _ => Cert.InProjIdeal.Gen.frame m ρ, frame_inproj_ref,
  fun m ρ _ => LruFrame.frame m ρ, fun m ρ _ => LruIdealFrame.frame m ρ, frame_lru_ref,
  fun m ρ _ => Cert.Mlp0.Gen.frame m ρ, fun m ρ _ => Cert.Mlp0Ideal.Gen.frame m ρ, frame_mlp0_ref,
  fun m ρ _ => Cert.Mlp1.Gen.frame m ρ, fun m ρ _ => Cert.Mlp1Ideal.Gen.frame m ρ, frame_mlp1_ref,
  fun m ρ _ => Cert.Mlp2.Gen.frame m ρ, fun m ρ _ => Cert.Mlp2Ideal.Gen.frame m ρ, frame_mlp2_ref,
  fun m ρ _ => Cert.InProj0.Gen.frame m ρ, fun m ρ _ => Cert.InProj0Ideal.Gen.frame m ρ, frame_inproj0_ref,
  fun m ρ _ => Cert.InProj1.Gen.frame m ρ, fun m ρ _ => Cert.InProj1Ideal.Gen.frame m ρ, frame_inproj1_ref,
  fun m ρ _ => Cert.InProj2.Gen.frame m ρ, fun m ρ _ => Cert.InProj2Ideal.Gen.frame m ρ, frame_inproj2_ref,
  fun m ρ _ => Cert.MlpCtx0.Gen.frame m ρ, fun m ρ _ => Cert.MlpCtx0Ideal.Gen.frame m ρ, frame_mlp_ctx0_ref,
  fun m ρ _ => Cert.MlpCtx1.Gen.frame m ρ, fun m ρ _ => Cert.MlpCtx1Ideal.Gen.frame m ρ, frame_mlp_ctx1_ref,
  fun m ρ _ => Cert.MlpCtx2.Gen.frame m ρ, fun m ρ _ => Cert.MlpCtx2Ideal.Gen.frame m ρ, frame_mlp_ctx2_ref,
  fun m ρ _ => Cert.InProjCtx0.Gen.frame m ρ, fun m ρ _ => Cert.InProjCtx0Ideal.Gen.frame m ρ, frame_inproj_ctx0_ref,
  fun m ρ _ => Cert.InProjCtx1.Gen.frame m ρ, fun m ρ _ => Cert.InProjCtx1Ideal.Gen.frame m ρ, frame_inproj_ctx1_ref,
  fun m ρ _ => Cert.InProjCtx2.Gen.frame m ρ, fun m ρ _ => Cert.InProjCtx2Ideal.Gen.frame m ρ, frame_inproj_ctx2_ref,
  fun m ρ _ => Cert.InProjCtx3.Gen.frame m ρ, fun m ρ _ => Cert.InProjCtx3Ideal.Gen.frame m ρ, frame_inproj_ctx3_ref,
  fun m ρ _ => Cert.Mod.Gen.frame m ρ, fun m ρ _ => Cert.ModIdeal.Gen.frame m ρ, frame_mod_ref,
  fun m ρ _ => Cert.Pos.Gen.frame m ρ, fun m ρ _ => Cert.PosIdeal.Gen.frame m ρ, frame_pos_ref,
  trivial, Mlp.algebraic, trivial, InProj.algebraic, trivial, Lru.algebraic, trivial, Mlp0.algebraic,
  trivial, Mlp1.algebraic, trivial, Mlp2.algebraic, trivial, InProj0.algebraic, trivial, InProj1.algebraic,
  trivial, InProj2.algebraic, trivial, MlpCtx0.algebraic, trivial, MlpCtx1.algebraic, trivial, MlpCtx2.algebraic,
  trivial, InProjCtx0.algebraic, trivial, InProjCtx1.algebraic, trivial, InProjCtx2.algebraic, trivial, InProjCtx3.algebraic,
  trivial, Mod.algebraic, trivial, Pos.algebraic⟩

end Cert.Proof

end
